-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1536, 3072]⟩ ⟨2, ![1536, 24576]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![3072, 1536]⟩ ⟨2, ![24576, 1536]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1536 : Shape := ⟨2, ![1536, 1536]⟩
abbrev S1536x3072 : Shape := ⟨2, ![1536, 3072]⟩
abbrev S3072x1536 : Shape := ⟨2, ![3072, 1536]⟩
abbrev S192x3072 : Shape := ⟨2, ![192, 3072]⟩
abbrev S6x192x3072 : Shape := ⟨3, ![6, 192, 3072]⟩
abbrev S2x1536x512 : Shape := ⟨3, ![2, 1536, 512]⟩
abbrev S2x512x1536 : Shape := ⟨3, ![2, 512, 1536]⟩
abbrev S2 : Shape := ⟨1, ![2]⟩
abbrev S2x192x768 : Shape := ⟨3, ![2, 192, 768]⟩
abbrev S_ : Shape := ⟨0, ![]⟩
abbrev S1 : Shape := ⟨1, ![1]⟩
abbrev S1x1536x512 : Shape := ⟨3, ![1, 1536, 512]⟩
abbrev S1536x512 : Shape := ⟨2, ![1536, 512]⟩
abbrev S1x512x1536 : Shape := ⟨3, ![1, 512, 1536]⟩
abbrev S512x1536 : Shape := ⟨2, ![512, 1536]⟩
abbrev S192x1536 : Shape := ⟨2, ![192, 1536]⟩
abbrev S192x768 : Shape := ⟨2, ![192, 768]⟩
abbrev S1x192x768 : Shape := ⟨3, ![1, 192, 768]⟩
abbrev S1x192x3072 : Shape := ⟨3, ![1, 192, 3072]⟩
abbrev S3072x768 : Shape := ⟨2, ![3072, 768]⟩

abbrev nBuf : Space → Nat
  | .hbm => 4
  | .vmem => 18
  | .smem => 0
  | _ => 0

abbrev bufTy : (tb : Table) → Fin (tcTables nBuf tb) → BufTy
  | .hbm, ⟨0, _⟩ => ⟨S1536x1536, .f32⟩
  | .hbm, ⟨1, _⟩ => ⟨S1536x3072, .f32⟩
  | .hbm, ⟨2, _⟩ => ⟨S3072x1536, .f32⟩
  | .hbm, ⟨3, _⟩ => ⟨S1536x1536, .f32⟩
  | .local _ .vmem, ⟨0, _⟩ => ⟨S1536x1536, .f32⟩
  | .local _ .vmem, ⟨1, _⟩ => ⟨S1536x1536, .bf16⟩
  | .local _ .vmem, ⟨2, _⟩ => ⟨S1536x3072, .bf16⟩
  | .local _ .vmem, ⟨3, _⟩ => ⟨S3072x1536, .bf16⟩
  | .local _ .vmem, ⟨4, _⟩ => ⟨S192x3072, .bf16⟩
  | .local _ .vmem, ⟨5, _⟩ => ⟨S6x192x3072, .bf16⟩
  | .local _ .vmem, ⟨6, _⟩ => ⟨S2x1536x512, .f32⟩
  | .local _ .vmem, ⟨7, _⟩ => ⟨S2x512x1536, .f32⟩
  | .local _ .vmem, ⟨8, _⟩ => ⟨S2x192x768, .bf16⟩
  | .local _ .vmem, ⟨9, _⟩ => ⟨S2x192x768, .bf16⟩
  | .local _ .vmem, ⟨10, _⟩ => ⟨S2x192x768, .bf16⟩
  | .local _ .vmem, ⟨11, _⟩ => ⟨S2x192x768, .bf16⟩
  | .local _ .vmem, ⟨12, _⟩ => ⟨S2x192x768, .bf16⟩
  | .local _ .vmem, ⟨13, _⟩ => ⟨S2x192x768, .bf16⟩
  | .local _ .vmem, ⟨14, _⟩ => ⟨S2x192x768, .bf16⟩
  | .local _ .vmem, ⟨15, _⟩ => ⟨S2x192x768, .bf16⟩
  | .local _ .vmem, ⟨16, _⟩ => ⟨S2x192x768, .bf16⟩
  | .local _ .vmem, ⟨17, _⟩ => ⟨S2x192x768, .bf16⟩
  | _, _ => ⟨S1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 6 25 bufScoped semScoped dmaSemScoped tileCredit tileCredit_eq_zero tileCredit_pos).withBarriers [(0, 5)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch17 : Ref sig .tc := ⟨.vmem, 16, rfl⟩
abbrev cc0_scratch18 : Ref sig .tc := ⟨.vmem, 17, rfl⟩
abbrev cc0_sem0_0 : DmaSem sig := 0
abbrev barrier0 : Sem sig := 5

abbrev nD : Nat := 8
abbrev τ : Topo := Topo.v7x

variable {F : FTy → Type} [FloatOps F]

abbrev grid0 : Pipeline.Grid := .none

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_29 : BitVec 32 := 1#32
  let v32 : BitVec 32 := Scalar.muli v5 c1_i32_29
  let v33 : BitVec 32 := Scalar.addi c0_i32_30 v32
  v33.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_32 : BitVec 32 := 1#32
  let v34 : BitVec 32 := Scalar.muli v7 c1_i32_32
  let v35 : BitVec 32 := Scalar.addi c0_i32_33 v34
  v35.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v29 : BitVec 32 := Scalar.addi v2 c4_i32
  let c32_i32 : BitVec 32 := 32#32
  let v30 : BitVec 32 := Scalar.addi v29 c32_i32
  let c8_i32_27 : BitVec 32 := 8#32
  let v31 : BitVec 32 := Scalar.remsi v30 c8_i32_27
  let c1_i32_35 : BitVec 32 := 1#32
  let v36 : BitVec 32 := Scalar.muli v31 c1_i32_35
  let v37 : BitVec 32 := Scalar.addi c0_i32_36 v36
  v37.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32 : BitVec 32 := 192#32
  let v172 : BitVec 32 := Scalar.muli v2 c192_i32
  let v173 : Index := Scalar.indexCast v172
  let c0_167 : Index := 0#32
  ![v173.toNat, 0]
def k0_off2 (d0 : Dev nD) (c0_i32_273 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v278 : BitVec 32 := Scalar.addi v2 c0_i32_273
  let c32_i32_274 : BitVec 32 := 32#32
  let v279 : BitVec 32 := Scalar.addi v278 c32_i32_274
  let c8_i32_275 : BitVec 32 := 8#32
  let v280 : BitVec 32 := Scalar.remsi v279 c8_i32_275
  let c192_i32_276 : BitVec 32 := 192#32
  let v281 : BitVec 32 := Scalar.muli v280 c192_i32_276
  let v282 : Index := Scalar.indexCast v281
  let c0_277 : Index := 0#32
  ![v282.toNat, 0]
def k0_off2_at (r : Fin 13) : BitVec 32 :=
  if r.val < 6 then
    if r.val < 3 then
      if r.val < 1 then
        0#32
      else
        if r.val < 2 then
          4294967295#32
        else
          4294967294#32
    else
      if r.val < 4 then
        4294967293#32
      else
        if r.val < 5 then
          4294967292#32
        else
          3#32
  else
    if r.val < 9 then
      if r.val < 7 then
        4294967291#32
      else
        if r.val < 8 then
          2#32
        else
          4294967290#32
    else
      if r.val < 11 then
        if r.val < 10 then
          1#32
        else
          4294967289#32
      else
        if r.val < 12 then
          4#32
        else
          5#32
def k0_dev4 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_285 : BitVec 32 := 1#32
  let v289 : BitVec 32 := Scalar.muli v7 c1_i32_285
  let v290 : BitVec 32 := Scalar.addi c0_i32_286 v289
  v290.toNat
def k0_off3 (d0 : Dev nD) (c0_i32_291 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v299 : BitVec 32 := Scalar.addi v2 c0_i32_291
  let c32_i32_292 : BitVec 32 := 32#32
  let v300 : BitVec 32 := Scalar.addi v299 c32_i32_292
  let c8_i32_293 : BitVec 32 := 8#32
  let v301 : BitVec 32 := Scalar.remsi v300 c8_i32_293
  let c192_i32_294 : BitVec 32 := 192#32
  let v302 : BitVec 32 := Scalar.muli v301 c192_i32_294
  let v303 : Index := Scalar.indexCast v302
  let c768 : Index := 768#32
  ![v303.toNat, 768]
def k0_off3_at (r : Fin 12) : BitVec 32 :=
  if r.val < 6 then
    if r.val < 3 then
      if r.val < 1 then
        0#32
      else
        if r.val < 2 then
          1#32
        else
          2#32
    else
      if r.val < 4 then
        3#32
      else
        if r.val < 5 then
          4#32
        else
          4294967293#32
  else
    if r.val < 9 then
      if r.val < 7 then
        5#32
      else
        if r.val < 8 then
          4294967294#32
        else
          6#32
    else
      if r.val < 10 then
        4294967295#32
      else
        if r.val < 11 then
          7#32
        else
          4294967292#32
def k0_dev5 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_302 : BitVec 32 := 1#32
  let v310 : BitVec 32 := Scalar.muli v5 c1_i32_302
  let v311 : BitVec 32 := Scalar.addi c0_i32_303 v310
  v311.toNat
def k0_off4 (d0 : Dev nD) (c1_i32_308 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v320 : BitVec 32 := Scalar.addi v2 c1_i32_308
  let c32_i32_309 : BitVec 32 := 32#32
  let v321 : BitVec 32 := Scalar.addi v320 c32_i32_309
  let c8_i32_310 : BitVec 32 := 8#32
  let v322 : BitVec 32 := Scalar.remsi v321 c8_i32_310
  let c192_i32_311 : BitVec 32 := 192#32
  let v323 : BitVec 32 := Scalar.muli v322 c192_i32_311
  let v324 : Index := Scalar.indexCast v323
  let c0_312 : Index := 0#32
  ![v324.toNat, 0]
def k0_off4_at (r : Fin 7) : BitVec 32 :=
  if r.val < 3 then
    if r.val < 1 then
      1#32
    else
      if r.val < 2 then
        4294967295#32
      else
        2#32
  else
    if r.val < 5 then
      if r.val < 4 then
        4294967294#32
      else
        3#32
    else
      if r.val < 6 then
        4294967293#32
      else
        4#32
def k0_dev6 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_366 : BitVec 32 := 1#32
  let v385 : BitVec 32 := Scalar.muli v5 c1_i32_366
  let v386 : BitVec 32 := Scalar.addi c0_i32_367 v385
  v386.toNat
def k0_dev7 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_388 : BitVec 32 := 1#32
  let v408 : BitVec 32 := Scalar.muli v7 c1_i32_388
  let v409 : BitVec 32 := Scalar.addi c0_i32_389 v408
  v409.toNat
def k0_dev8 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_402 : BitVec 32 := 1#32
  let v421 : BitVec 32 := Scalar.muli v7 c1_i32_402
  let v422 : BitVec 32 := Scalar.addi c0_i32_403 v421
  v422.toNat
def k0_dev9 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_420 : BitVec 32 := 1#32
  let v442 : BitVec 32 := Scalar.muli v5 c1_i32_420
  let v443 : BitVec 32 := Scalar.addi c0_i32_421 v442
  v443.toNat
def k0_dev10 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_483 : BitVec 32 := 1#32
  let v517 : BitVec 32 := Scalar.muli v5 c1_i32_483
  let v518 : BitVec 32 := Scalar.addi c0_i32_484 v517
  v518.toNat
def k0_dev11 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_505 : BitVec 32 := 1#32
  let v540 : BitVec 32 := Scalar.muli v7 c1_i32_505
  let v541 : BitVec 32 := Scalar.addi c0_i32_506 v540
  v541.toNat
def k0_dev12 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_530 : BitVec 32 := 1#32
  let v559 : BitVec 32 := Scalar.muli v7 c1_i32_530
  let v560 : BitVec 32 := Scalar.addi c0_i32_531 v559
  v560.toNat
def k0_dev13 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_559 : BitVec 32 := 1#32
  let v586 : BitVec 32 := Scalar.muli v5 c1_i32_559
  let v587 : BitVec 32 := Scalar.addi c0_i32_560 v586
  v587.toNat
def k0_dev14 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_622 : BitVec 32 := 1#32
  let v661 : BitVec 32 := Scalar.muli v5 c1_i32_622
  let v662 : BitVec 32 := Scalar.addi c0_i32_623 v661
  v662.toNat
def k0_dev15 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_644 : BitVec 32 := 1#32
  let v684 : BitVec 32 := Scalar.muli v7 c1_i32_644
  let v685 : BitVec 32 := Scalar.addi c0_i32_645 v684
  v685.toNat
def k0_dev16 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_669 : BitVec 32 := 1#32
  let v703 : BitVec 32 := Scalar.muli v7 c1_i32_669
  let v704 : BitVec 32 := Scalar.addi c0_i32_670 v703
  v704.toNat
def k0_dev17 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_698 : BitVec 32 := 1#32
  let v730 : BitVec 32 := Scalar.muli v5 c1_i32_698
  let v731 : BitVec 32 := Scalar.addi c0_i32_699 v730
  v731.toNat
def k0_dev18 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_736 : BitVec 32 := 1#32
  let v776 : BitVec 32 := Scalar.muli v5 c1_i32_736
  let v777 : BitVec 32 := Scalar.addi c0_i32_737 v776
  v777.toNat
def k0_dev19 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_758 : BitVec 32 := 1#32
  let v799 : BitVec 32 := Scalar.muli v7 c1_i32_758
  let v800 : BitVec 32 := Scalar.addi c0_i32_759 v799
  v800.toNat
def k0_dev20 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_783 : BitVec 32 := 1#32
  let v818 : BitVec 32 := Scalar.muli v7 c1_i32_783
  let v819 : BitVec 32 := Scalar.addi c0_i32_784 v818
  v819.toNat
def k0_dev21 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_812 : BitVec 32 := 1#32
  let v845 : BitVec 32 := Scalar.muli v5 c1_i32_812
  let v846 : BitVec 32 := Scalar.addi c0_i32_813 v845
  v846.toNat
def k0_dev22 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_859 : BitVec 32 := 1#32
  let v896 : BitVec 32 := Scalar.muli v5 c1_i32_859
  let v897 : BitVec 32 := Scalar.addi c0_i32_860 v896
  v897.toNat
def k0_dev23 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_880 : BitVec 32 := 1#32
  let v919 : BitVec 32 := Scalar.muli v7 c1_i32_880
  let v920 : BitVec 32 := Scalar.addi c0_i32_881 v919
  v920.toNat
def k0_dev24 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_905 : BitVec 32 := 1#32
  let v938 : BitVec 32 := Scalar.muli v7 c1_i32_905
  let v939 : BitVec 32 := Scalar.addi c0_i32_906 v938
  v939.toNat
def k0_dev25 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_934 : BitVec 32 := 1#32
  let v965 : BitVec 32 := Scalar.muli v5 c1_i32_934
  let v966 : BitVec 32 := Scalar.addi c0_i32_935 v965
  v966.toNat
def k0_dev26 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_981 : BitVec 32 := 1#32
  let v1016 : BitVec 32 := Scalar.muli v5 c1_i32_981
  let v1017 : BitVec 32 := Scalar.addi c0_i32_982 v1016
  v1017.toNat
def k0_dev27 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1002 : BitVec 32 := 1#32
  let v1039 : BitVec 32 := Scalar.muli v7 c1_i32_1002
  let v1040 : BitVec 32 := Scalar.addi c0_i32_1003 v1039
  v1040.toNat
def k0_dev28 (d0 : Dev nD) : Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1027 : BitVec 32 := 1#32
  let v1058 : BitVec 32 := Scalar.muli v7 c1_i32_1027
  let v1059 : BitVec 32 := Scalar.addi c0_i32_1028 v1058
  v1059.toNat
def k0_dev29 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1056 : BitVec 32 := 1#32
  let v1085 : BitVec 32 := Scalar.muli v5 c1_i32_1056
  let v1086 : BitVec 32 := Scalar.addi c0_i32_1057 v1085
  v1086.toNat
def k0_dev30 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1103 : BitVec 32 := 1#32
  let v1136 : BitVec 32 := Scalar.muli v5 c1_i32_1103
  let v1137 : BitVec 32 := Scalar.addi c0_i32_1104 v1136
  v1137.toNat
def k0_dev31 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1124 : BitVec 32 := 1#32
  let v1159 : BitVec 32 := Scalar.muli v7 c1_i32_1124
  let v1160 : BitVec 32 := Scalar.addi c0_i32_1125 v1159
  v1160.toNat
def k0_dev32 (d0 : Dev nD) : Nat :=
  let c0_i32_1139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_270 : BitVec 32 := 4#32
  let v275 : BitVec 32 := Scalar.addi v2 c4_i32_270
  let c32_i32_271 : BitVec 32 := 32#32
  let v276 : BitVec 32 := Scalar.addi v275 c32_i32_271
  let c8_i32_272 : BitVec 32 := 8#32
  let v277 : BitVec 32 := Scalar.remsi v276 c8_i32_272
  let c1_i32_1138 : BitVec 32 := 1#32
  let v1172 : BitVec 32 := Scalar.muli v277 c1_i32_1138
  let v1173 : BitVec 32 := Scalar.addi c0_i32_1139 v1172
  v1173.toNat
def k0_dev33 (d0 : Dev nD) : Nat :=
  let c0_i32_1157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_270 : BitVec 32 := 4#32
  let v275 : BitVec 32 := Scalar.addi v2 c4_i32_270
  let c32_i32_271 : BitVec 32 := 32#32
  let v276 : BitVec 32 := Scalar.addi v275 c32_i32_271
  let c8_i32_272 : BitVec 32 := 8#32
  let v277 : BitVec 32 := Scalar.remsi v276 c8_i32_272
  let c1_i32_1156 : BitVec 32 := 1#32
  let v1193 : BitVec 32 := Scalar.muli v277 c1_i32_1156
  let v1194 : BitVec 32 := Scalar.addi c0_i32_1157 v1193
  v1194.toNat
def k0_dev34 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1185 : BitVec 32 := 1#32
  let v1220 : BitVec 32 := Scalar.muli v7 c1_i32_1185
  let v1221 : BitVec 32 := Scalar.addi c0_i32_1186 v1220
  v1221.toNat
def k0_dev35 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1214 : BitVec 32 := 1#32
  let v1247 : BitVec 32 := Scalar.muli v5 c1_i32_1214
  let v1248 : BitVec 32 := Scalar.addi c0_i32_1215 v1247
  v1248.toNat
def k0_dev36 (d0 : Dev nD) : Nat :=
  let c0_i32_1233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1232 : BitVec 32 := 1#32
  let v1268 : BitVec 32 := Scalar.muli v5 c1_i32_1232
  let v1269 : BitVec 32 := Scalar.addi c0_i32_1233 v1268
  v1269.toNat
def k0_dev37 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1250 : BitVec 32 := 1#32
  let v1289 : BitVec 32 := Scalar.muli v7 c1_i32_1250
  let v1290 : BitVec 32 := Scalar.addi c0_i32_1251 v1289
  v1290.toNat
def k0_dev38 (d0 : Dev nD) : Nat :=
  let c0_i32_1276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1275 : BitVec 32 := 1#32
  let v1316 : BitVec 32 := Scalar.muli v5 c1_i32_1275
  let v1317 : BitVec 32 := Scalar.addi c0_i32_1276 v1316
  v1317.toNat
def k0_dev39 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1296 : BitVec 32 := 1#32
  let v1335 : BitVec 32 := Scalar.muli v7 c1_i32_1296
  let v1336 : BitVec 32 := Scalar.addi c0_i32_1297 v1335
  v1336.toNat
def k0_dev40 (d0 : Dev nD) : Nat :=
  let c0_i32_1318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1317 : BitVec 32 := 1#32
  let v1354 : BitVec 32 := Scalar.muli v7 c1_i32_1317
  let v1355 : BitVec 32 := Scalar.addi c0_i32_1318 v1354
  v1355.toNat
def k0_dev41 (d0 : Dev nD) : Nat :=
  let c0_i32_1339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1338 : BitVec 32 := 1#32
  let v1373 : BitVec 32 := Scalar.muli v5 c1_i32_1338
  let v1374 : BitVec 32 := Scalar.addi c0_i32_1339 v1373
  v1374.toNat
def k0_dev42 (d0 : Dev nD) : Nat :=
  let c0_i32_1364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1363 : BitVec 32 := 1#32
  let v1392 : BitVec 32 := Scalar.muli v7 c1_i32_1363
  let v1393 : BitVec 32 := Scalar.addi c0_i32_1364 v1392
  v1393.toNat
def k0_dev43 (d0 : Dev nD) : Nat :=
  let c0_i32_1393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1392 : BitVec 32 := 1#32
  let v1419 : BitVec 32 := Scalar.muli v5 c1_i32_1392
  let v1420 : BitVec 32 := Scalar.addi c0_i32_1393 v1419
  v1420.toNat
def k0_dev44 (d0 : Dev nD) : Nat :=
  let c0_i32_1411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1410 : BitVec 32 := 1#32
  let v1440 : BitVec 32 := Scalar.muli v5 c1_i32_1410
  let v1441 : BitVec 32 := Scalar.addi c0_i32_1411 v1440
  v1441.toNat
def k0_dev45 (d0 : Dev nD) : Nat :=
  let c0_i32_1429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1428 : BitVec 32 := 1#32
  let v1461 : BitVec 32 := Scalar.muli v7 c1_i32_1428
  let v1462 : BitVec 32 := Scalar.addi c0_i32_1429 v1461
  v1462.toNat
def k0_dev46 (d0 : Dev nD) : Nat :=
  let c0_i32_1530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1529 : BitVec 32 := 1#32
  let v1556 : BitVec 32 := Scalar.muli v7 c1_i32_1529
  let v1557 : BitVec 32 := Scalar.addi c0_i32_1530 v1556
  v1557.toNat
def k0_dev47 (d0 : Dev nD) : Nat :=
  let c0_i32_1559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1558 : BitVec 32 := 1#32
  let v1583 : BitVec 32 := Scalar.muli v5 c1_i32_1558
  let v1584 : BitVec 32 := Scalar.addi c0_i32_1559 v1583
  v1584.toNat
def k0_dev48 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1587 : BitVec 32 := 1#32
  let v1610 : BitVec 32 := Scalar.muli v5 c1_i32_1587
  let v1611 : BitVec 32 := Scalar.addi c0_i32_1588 v1610
  v1611.toNat
def k0_dev49 (d0 : Dev nD) : Nat :=
  let c0_i32_1617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1616 : BitVec 32 := 1#32
  let v1637 : BitVec 32 := Scalar.muli v7 c1_i32_1616
  let v1638 : BitVec 32 := Scalar.addi c0_i32_1617 v1637
  v1638.toNat
abbrev stage0_0 : Fin 1 → Memref sig .tc .vmem S1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1536x1536 : Shape := ⟨2, ![1536, 1536]⟩
abbrev S1536x24576 : Shape := ⟨2, ![1536, 24576]⟩
abbrev S24576x1536 : Shape := ⟨2, ![24576, 1536]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1536x1536, .f32⟩
  | .hbm, ⟨1, _⟩ => ⟨S1536x24576, .f32⟩
  | .hbm, ⟨2, _⟩ => ⟨S24576x1536, .f32⟩
  | .hbm, ⟨3, _⟩ => ⟨S1536x24576, .f32⟩
  | .hbm, ⟨4, _⟩ => ⟨S_, .f32⟩
  | .hbm, ⟨5, _⟩ => ⟨S1536x24576, .f32⟩
  | .hbm, ⟨6, _⟩ => ⟨S1536x24576, .f32⟩
  | .hbm, ⟨7, _⟩ => ⟨S1536x1536, .f32⟩
  | _, _ => ⟨S1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Base.lean ====
/-
  The kernel's communication pattern as data: the five message streams around the ring, the list of the body's effects
  in program order, counters read off that list, the buffers, slots and semaphores by stream, and the list of payments
  a device makes to other devices' semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Streams and neighbours -/

/-- The five message streams: `A`, `B` the two directions of the reduce-scatter and the first all-gather, `C`, `D` the
    second all-gather, `Z` the exchange with the opposite device. -/
inductive Strm | A | B | C | D | Z
  deriving DecidableEq

instance : Fintype Strm := ⟨{.A, .B, .C, .D, .Z}, fun x => by cases x <;> decide⟩

/-- The stream's number, as its semaphores are laid out. -/
def Strm.ix : Strm → ℕ | .A => 0 | .B => 1 | .C => 2 | .D => 3 | .Z => 4
/-- How many messages a device sends along the stream. -/
def Strm.T : Strm → ℕ | .A => 10 | .B => 10 | .C => 3 | .D => 3 | .Z => 2

theorem Strm.ix_lt (σ : Strm) : σ.ix < 5 := by cases σ <;> decide
theorem Strm.ix_inj {σ σ' : Strm} (h : σ.ix = σ'.ix) : σ = σ' := by cases σ <;> cases σ' <;> first | rfl | exact absurd h (by decide)

/-- How many of them use slot `b`. -/
def Strm.R (σ : Strm) (b : Fin 2) : ℕ := (σ.T + 1 - b.val) / 2

set_option backward.proofsInPublic true in
def rgt (c : Dev nD) : Dev nD := ⟨(c.val + 1) % 8, Nat.mod_lt _ (by decide)⟩
set_option backward.proofsInPublic true in
def lft (c : Dev nD) : Dev nD := ⟨(c.val + 7) % 8, Nat.mod_lt _ (by decide)⟩
set_option backward.proofsInPublic true in
def opp (c : Dev nD) : Dev nD := ⟨(c.val + 4) % 8, Nat.mod_lt _ (by decide)⟩

/-- Whom the stream's messages go to, and whom they come from. -/
def tgt : Strm → Dev nD → Dev nD | .A => rgt | .B => lft | .C => lft | .D => rgt | .Z => opp
def up : Strm → Dev nD → Dev nD | .A => lft | .B => rgt | .C => rgt | .D => lft | .Z => opp

theorem up_tgt (σ : Strm) (c : Dev nD) : up σ (tgt σ c) = c := by revert c; cases σ <;> decide
theorem tgt_up (σ : Strm) (c : Dev nD) : tgt σ (up σ c) = c := by revert c; cases σ <;> decide

def tgtEquiv (σ : Strm) : Dev nD ≃ Dev nD := ⟨tgt σ, up σ, up_tgt σ, tgt_up σ⟩

/-- The device the `i`-th entry signal goes to. -/
def bt : Fin 3 → Dev nD → Dev nD | 0 => lft | 1 => rgt | 2 => opp
/-- The device the `i`-th unit of the entry wait comes from. -/
def bf : Fin 3 → Dev nD → Dev nD | 0 => rgt | 1 => lft | 2 => opp
theorem bf_bt (i : Fin 3) (c : Dev nD) : bf i (bt i c) = c := by revert c; fin_cases i <;> decide
theorem bt_bf (i : Fin 3) (c : Dev nD) : bt i (bf i c) = c := by revert c; fin_cases i <;> decide
def btEquiv (i : Fin 3) : Dev nD ≃ Dev nD := ⟨bt i, bf i, bf_bt i, bt_bf i⟩

/-- Which entry signal tells the stream's sender that the slots are free. -/
def Strm.dir : Strm → Fin 3 | .A => 0 | .D => 0 | .B => 1 | .C => 1 | .Z => 2
theorem bf_dir (σ : Strm) (c : Dev nD) : bf σ.dir c = tgt σ c := by revert c; cases σ <;> decide

/-- Message `j` uses slot `j` modulo two. -/
def par (j : ℕ) : Fin 2 := ⟨j % 2, Nat.mod_lt _ (by decide)⟩

/-! ## The body's effects, in program order -/

/-- The buffers a load may read without its value being used. -/
inductive Whole | out | xb | w1 | w2 | hb | hc
  deriving DecidableEq

/-- One effect of the body: `csA`/`csB` start the copy of a strip, `cwA`/`cwB` wait for it, `ldA`/`ldB` load it, `stX`,
    `stW1`, `stW2` store it cast; `bsig`/`bwait` the entry handshake; `ldX`, `ldW1`, `ldW2`, `ldW2h`, `ldHb`, `ldHc`
    load operands of a product; `stHb`, `stHc` store a hidden block; `ldT`, `stT` load and store a tile of the
    output, `stOut` a whole row of it; `stTx`, `snd`, `wtx` fill a message slot, send it, wait for it back; `wcrd`,
    `crd` wait for and give the receiver's credit; `wrx`, `ldRx` wait for and load a message; `nop`, `nopT` loads
    whose value is not used. -/
inductive Op
  | nop (w : Whole) | nopT (σ : Strm) (b : Fin 2)
  | csA (i : Fin 9) | cwA (i : Fin 9) | ldA (i : Fin 9) | csB (i : Fin 6) | cwB (i : Fin 6) | ldB (i : Fin 6)
  | stX (i : Fin 3) | stW1 (i : Fin 6) | stW2 (i : Fin 6)
  | bsig (i : Fin 3) | bwait
  | ldX (k : Fin 8) | ldW1 | ldW2 | ldW2h (h : Bool) | ldHb | stHb | ldHc (q : Fin 6) | stHc (q : Fin 6)
  | ldT (k : Fin 8) (h : Bool) (st : ℕ) | stT (k : Fin 8) (h : Bool) (st : ℕ) | stOut (k : Fin 8)
  | stTx (σ : Strm) (b : Fin 2) (r : ℕ) | snd (σ : Strm) (b : Fin 2) (r : ℕ) | wtx (σ : Strm) (b : Fin 2) (r : ℕ)
  | wcrd (σ : Strm) (w : ℕ) | wrx (σ : Strm) (b : Fin 2) (r : ℕ) | ldRx (σ : Strm) (b : Fin 2) (r : ℕ)
  | crd (σ : Strm) (j : ℕ)

/-- The 460 effects after the device id is read, sixteen to a row. -/
def opTab : List (List Op) :=
  [
    [.csA 0, .csA 1, .csB 0, .csB 1, .bsig 0, .bsig 1, .bsig 2, .bwait, .cwA 0, .ldA 0, .nop .w1, .stW1 0, .csA 2, .cwA 1, .ldA 1, .nop .w1],
    [.stW1 1, .csA 3, .cwA 2, .ldA 2, .nop .w1, .stW1 2, .csA 4, .cwA 3, .ldA 3, .nop .w1, .stW1 3, .csA 5, .cwA 4, .ldA 4, .nop .w1, .stW1 4],
    [.csA 6, .cwA 5, .ldA 5, .nop .w1, .stW1 5, .csA 7, .cwA 6, .ldA 6, .nop .xb, .stX 0, .csA 8, .cwA 7, .ldA 7, .nop .xb, .stX 1, .cwA 8],
    [.ldA 8, .nop .xb, .stX 2, .ldX 0, .ldW1, .nop .hb, .stHb, .cwB 0, .ldB 0, .nop .w2, .stW2 0, .csB 2, .cwB 1, .ldB 1, .nop .w2, .stW2 1],
    [.csB 3, .cwB 2, .ldB 2, .nop .w2, .stW2 2, .csB 4, .cwB 3, .ldB 3, .nop .w2, .stW2 3, .csB 5, .cwB 4, .ldB 4, .nop .w2, .stW2 4, .cwB 5],
    [.ldB 5, .nop .w2, .stW2 5, .ldHb, .ldW2, .nop .out, .stOut 0, .ldT 0 false 0, .nopT .A 0, .stTx .A 0 0, .snd .A 0 0, .ldT 0 true 0, .nopT .B 0, .stTx .B 0 0, .snd .B 0 0, .ldX 1],
    [.ldW1, .nop .hc, .stHc 0, .ldW2h true, .nop .out, .stT 1 true 0, .ldX 7, .ldW1, .nop .hc, .stHc 3, .ldW2h false, .nop .out, .stT 7 false 0, .wrx .A 0 0, .ldRx .A 0 0, .ldT 7 false 0],
    [.ldT 7 false 0, .stT 7 false 1, .crd .A 0, .wrx .B 0 0, .ldRx .B 0 0, .ldT 1 true 0, .ldT 1 true 0, .stT 1 true 1, .crd .B 0, .ldT 7 false 1, .nopT .A 1, .stTx .A 1 0, .snd .A 1 0, .ldT 1 true 1, .nopT .B 1, .stTx .B 1 0],
    [.snd .B 1 0, .ldX 2, .ldW1, .nop .hc, .stHc 1, .ldW2h true, .nop .out, .stT 2 true 0, .ldX 6, .ldW1, .nop .hc, .stHc 4, .ldW2h false, .nop .out, .stT 6 false 0, .wrx .A 1 0],
    [.ldRx .A 1 0, .ldT 6 false 0, .ldT 6 false 0, .stT 6 false 1, .crd .A 1, .wrx .B 1 0, .ldRx .B 1 0, .ldT 2 true 0, .ldT 2 true 0, .stT 2 true 1, .crd .B 1, .wtx .A 0 0, .wcrd .A 0, .ldT 6 false 1, .nopT .A 0, .stTx .A 0 1],
    [.snd .A 0 1, .wtx .B 0 0, .wcrd .B 0, .ldT 2 true 1, .nopT .B 0, .stTx .B 0 1, .snd .B 0 1, .ldX 3, .ldW1, .nop .hc, .stHc 2, .ldW2h true, .nop .out, .stT 3 true 0, .ldX 5, .ldW1],
    [.nop .hc, .stHc 5, .ldW2h false, .nop .out, .stT 5 false 0, .wrx .A 0 1, .ldRx .A 0 1, .ldT 5 false 0, .ldT 5 false 0, .stT 5 false 1, .crd .A 2, .wrx .B 0 1, .ldRx .B 0 1, .ldT 3 true 0, .ldT 3 true 0, .stT 3 true 1],
    [.crd .B 2, .wtx .A 1 0, .wcrd .A 1, .ldT 5 false 1, .nopT .A 1, .stTx .A 1 1, .snd .A 1 1, .wtx .B 1 0, .wcrd .B 1, .ldT 3 true 1, .nopT .B 1, .stTx .B 1 1, .snd .B 1 1, .ldX 4, .ldW1, .ldW2],
    [.nop .out, .stOut 4, .wrx .A 1 1, .ldRx .A 1 1, .ldT 4 false 0, .ldT 4 false 0, .stT 4 false 1, .crd .A 3, .wrx .B 1 1, .ldRx .B 1 1, .ldT 4 true 0, .ldT 4 true 0, .stT 4 true 1, .crd .B 3, .wtx .A 0 1, .wcrd .A 2],
    [.ldT 4 false 1, .nopT .A 0, .stTx .A 0 2, .snd .A 0 2, .wtx .B 0 1, .wcrd .B 2, .ldT 4 true 1, .nopT .B 0, .stTx .B 0 2, .snd .B 0 2, .ldHc 2, .ldW2h false, .nop .out, .stT 3 false 0, .ldHc 5, .ldW2h true],
    [.nop .out, .stT 5 true 0, .wrx .A 0 2, .ldRx .A 0 2, .ldT 3 false 0, .ldT 3 false 0, .stT 3 false 1, .crd .A 4, .wrx .B 0 2, .ldRx .B 0 2, .ldT 5 true 0, .ldT 5 true 0, .stT 5 true 1, .crd .B 4, .wtx .A 1 1, .wcrd .A 3],
    [.ldT 3 false 1, .nopT .A 1, .stTx .A 1 2, .snd .A 1 2, .wtx .B 1 1, .wcrd .B 3, .ldT 5 true 1, .nopT .B 1, .stTx .B 1 2, .snd .B 1 2, .ldHc 1, .ldW2h false, .nop .out, .stT 2 false 0, .ldHc 4, .ldW2h true],
    [.nop .out, .stT 6 true 0, .wrx .A 1 2, .ldRx .A 1 2, .ldT 2 false 0, .ldT 2 false 0, .stT 2 false 1, .crd .A 5, .wrx .B 1 2, .ldRx .B 1 2, .ldT 6 true 0, .ldT 6 true 0, .stT 6 true 1, .crd .B 5, .wtx .A 0 2, .wcrd .A 4],
    [.ldT 2 false 1, .nopT .A 0, .stTx .A 0 3, .snd .A 0 3, .wtx .B 0 2, .wcrd .B 4, .ldT 6 true 1, .nopT .B 0, .stTx .B 0 3, .snd .B 0 3, .ldHc 0, .ldW2h false, .nop .out, .stT 1 false 0, .ldHc 3, .ldW2h true],
    [.nop .out, .stT 7 true 0, .wrx .A 0 3, .ldRx .A 0 3, .ldT 1 false 0, .ldT 1 false 0, .stT 1 false 1, .crd .A 6, .wrx .B 0 3, .ldRx .B 0 3, .ldT 7 true 0, .ldT 7 true 0, .stT 7 true 1, .crd .B 6, .ldT 1 false 1, .nopT .Z 0],
    [.stTx .Z 0 0, .snd .Z 0 0, .ldT 7 true 1, .nopT .Z 1, .stTx .Z 1 0, .snd .Z 1 0, .wtx .A 1 2, .wcrd .A 5, .ldT 1 false 1, .nopT .A 1, .stTx .A 1 3, .snd .A 1 3, .wtx .B 1 2, .wcrd .B 5, .ldT 7 true 1, .nopT .B 1],
    [.stTx .B 1 3, .snd .B 1 3, .ldT 1 false 1, .nopT .C 0, .stTx .C 0 0, .snd .C 0 0, .ldT 7 true 1, .nopT .D 0, .stTx .D 0 0, .snd .D 0 0, .wrx .A 1 3, .ldRx .A 1 3, .ldT 0 false 0, .stT 0 false 1, .crd .A 7, .wrx .B 1 3],
    [.ldRx .B 1 3, .ldT 0 true 0, .stT 0 true 1, .crd .B 7, .wrx .C 0 0, .ldRx .C 0 0, .ldT 2 false 1, .stT 2 false 2, .crd .C 0, .wrx .D 0 0, .ldRx .D 0 0, .ldT 6 true 1, .stT 6 true 2, .crd .D 0, .wtx .A 0 3, .wcrd .A 6],
    [.ldT 0 false 1, .nopT .A 0, .stTx .A 0 4, .snd .A 0 4, .wtx .B 0 3, .wcrd .B 6, .ldT 0 true 1, .nopT .B 0, .stTx .B 0 4, .snd .B 0 4, .ldT 2 false 2, .nopT .C 1, .stTx .C 1 0, .snd .C 1 0, .ldT 6 true 2, .nopT .D 1],
    [.stTx .D 1 0, .snd .D 1 0, .wrx .A 0 4, .ldRx .A 0 4, .ldT 7 false 1, .stT 7 false 2, .wrx .B 0 4, .ldRx .B 0 4, .ldT 1 true 1, .stT 1 true 2, .wrx .C 1 0, .ldRx .C 1 0, .ldT 3 false 1, .stT 3 false 2, .wrx .D 1 0, .ldRx .D 1 0],
    [.ldT 5 true 1, .stT 5 true 2, .wtx .A 1 3, .wcrd .A 7, .ldT 7 false 2, .nopT .A 1, .stTx .A 1 4, .snd .A 1 4, .wtx .B 1 3, .wcrd .B 7, .ldT 1 true 2, .nopT .B 1, .stTx .B 1 4, .snd .B 1 4, .wtx .C 0 0, .wcrd .C 0],
    [.ldT 3 false 2, .nopT .C 0, .stTx .C 0 1, .snd .C 0 1, .wtx .D 0 0, .wcrd .D 0, .ldT 5 true 2, .nopT .D 0, .stTx .D 0 1, .snd .D 0 1, .wrx .A 1 4, .ldRx .A 1 4, .ldT 6 false 1, .stT 6 false 2, .wrx .B 1 4, .ldRx .B 1 4],
    [.ldT 2 true 1, .stT 2 true 2, .wrx .C 0 1, .ldRx .C 0 1, .ldT 4 false 1, .stT 4 false 2, .wrx .D 0 1, .ldRx .D 0 1, .ldT 4 true 1, .stT 4 true 2, .wrx .Z 0 0, .ldRx .Z 0 0, .ldT 5 false 1, .stT 5 false 2, .wrx .Z 1 0, .ldRx .Z 1 0],
    [.ldT 3 true 1, .stT 3 true 2, .wtx .A 0 4, .wtx .A 1 4, .wtx .B 0 4, .wtx .B 1 4, .wtx .C 1 0, .wtx .C 0 1, .wtx .D 1 0, .wtx .D 0 1, .wtx .Z 0 0, .wtx .Z 1 0]]

/-- The `n`-th effect. -/
def opAt (n : ℕ) : Op := (opTab.getD (n / 16) []).getD (n % 16) (.nop .out)

/-! ## Counters -/

/-- What is counted: payments made, entry signals given and the entry wait, copies started and finished, strips stored,
    hidden blocks stored, stores to each tile, messages stored, sent and taken back by slot, messages received and slots
    given back, credits taken. -/
inductive Key
  | pay | bsig | bar | csA (b : Fin 2) | cwA (b : Fin 2) | csB (b : Fin 2) | cwB (b : Fin 2)
  | stX | stW1 | stW2 | hb | hc (q : Fin 6) | tl (k : Fin 8) (h : Bool)
  | sto (σ : Strm) (b : Fin 2) | snt (σ : Strm) (b : Fin 2) | bck (σ : Strm) (b : Fin 2)
  | got (σ : Strm) (b : Fin 2) | fre (σ : Strm) (b : Fin 2) | crd (σ : Strm)
  deriving DecidableEq

/-- The counters an effect increments. -/
def Op.keys : Op → List Key
  | .csA i => [.csA (par i.val)] | .cwA i => [.cwA (par i.val)] | .csB i => [.csB (par i.val)] | .cwB i => [.cwB (par i.val)]
  | .stX _ => [.stX] | .stW1 _ => [.stW1] | .stW2 _ => [.stW2]
  | .bsig _ => [.bsig, .pay] | .bwait => [.bar]
  | .stHb => [.hb] | .stHc q => [.hc q]
  | .stT k h _ => [.tl k h] | .stOut k => [.tl k false, .tl k true]
  | .stTx σ b _ => [.sto σ b] | .snd σ b _ => [.snt σ b, .pay] | .wtx σ b _ => [.bck σ b]
  | .wcrd σ _ => [.crd σ] | .wrx σ b _ => [.got σ b] | .crd σ j => [.fre σ (par j), .pay]
  | _ => []

/-- A counter before the `n`-th effect. -/
def cnt (n : ℕ) (k : Key) : ℕ := Nat.rec 0 (fun i a => a + (opAt i).keys.count k) n

theorem cnt_zero (k : Key) : cnt 0 k = 0 := rfl
theorem cnt_succ (n : ℕ) (k : Key) : cnt (n + 1) k = cnt n k + (opAt n).keys.count k := rfl

/-! ## Payments -/

/-- A payment a device makes to a semaphore of another device. -/
inductive Pay
  | bsig (i : Fin 3) | snd (σ : Strm) (b : Fin 2) (r : ℕ) | crd (σ : Strm) (j : ℕ)
  deriving DecidableEq

/-- The 49 payments in program order. -/
def payTab : List Pay :=
  [.bsig 0, .bsig 1, .bsig 2, .snd .A 0 0, .snd .B 0 0, .crd .A 0, .crd .B 0, .snd .A 1 0,
   .snd .B 1 0, .crd .A 1, .crd .B 1, .snd .A 0 1, .snd .B 0 1, .crd .A 2, .crd .B 2, .snd .A 1 1,
   .snd .B 1 1, .crd .A 3, .crd .B 3, .snd .A 0 2, .snd .B 0 2, .crd .A 4, .crd .B 4, .snd .A 1 2,
   .snd .B 1 2, .crd .A 5, .crd .B 5, .snd .A 0 3, .snd .B 0 3, .crd .A 6, .crd .B 6, .snd .Z 0 0,
   .snd .Z 1 0, .snd .A 1 3, .snd .B 1 3, .snd .C 0 0, .snd .D 0 0, .crd .A 7, .crd .B 7, .crd .C 0,
   .crd .D 0, .snd .A 0 4, .snd .B 0 4, .snd .C 1 0, .snd .D 1 0, .snd .A 1 4, .snd .B 1 4, .snd .C 0 1,
   .snd .D 0 1]

def payAt (i : ℕ) : Pay := payTab.getD i (.bsig 0)
/-- Where in that order a payment is. -/
def payIx (p : Pay) : ℕ := payTab.idxOf p

/-! ## Buffers and semaphores by stream -/

def txM : Strm → Memref sig .tc .vmem S2x192x768 .bf16
  | .A => Memref.whole cc0_scratch9 | .B => Memref.whole cc0_scratch11 | .C => Memref.whole cc0_scratch13
  | .D => Memref.whole cc0_scratch15 | .Z => Memref.whole cc0_scratch17
def rxM : Strm → Memref sig .tc .vmem S2x192x768 .bf16
  | .A => Memref.whole cc0_scratch10 | .B => Memref.whole cc0_scratch12 | .C => Memref.whole cc0_scratch14
  | .D => Memref.whole cc0_scratch16 | .Z => Memref.whole cc0_scratch18

theorem slotInb (b : Fin 2) : ∀ a, (![b.val, 0, 0] : Fin 3 → ℕ) a + S1x192x768.size a ≤ S2x192x768.size a := by
  fin_cases b <;> decide
/-- Slot `b` of a message buffer. -/
abbrev slotR (b : Fin 2) : Rect S2x192x768 := Rect.unit (s := S2x192x768) ![b.val, 0, 0] S1x192x768.size (slotInb b)

abbrev txS (σ : Strm) (b : Fin 2) : Memref sig .tc .vmem S192x768 .bf16 :=
  ((txM σ).slice (slotR b) (fun _ => rfl)).squeeze S192x768 squeezes_S1x192x768_S192x768
abbrev rxS (σ : Strm) (b : Fin 2) : Memref sig .tc .vmem S192x768 .bf16 :=
  ((rxM σ).slice (slotR b) (fun _ => rfl)).squeeze S192x768 squeezes_S1x192x768_S192x768

set_option backward.proofsInPublic true in
def sndSem (σ : Strm) (b : Fin 2) : DmaSem sig := ⟨5 + 4 * σ.ix + b.val, by cases σ <;> fin_cases b <;> decide⟩
set_option backward.proofsInPublic true in
def rcvSem (σ : Strm) (b : Fin 2) : DmaSem sig := ⟨7 + 4 * σ.ix + b.val, by cases σ <;> fin_cases b <;> decide⟩
set_option backward.proofsInPublic true in
def crdSem (σ : Strm) : Sem sig := ⟨σ.ix, by cases σ <;> decide⟩
set_option backward.proofsInPublic true in
def barSem : Sem sig := ⟨5, by decide⟩
set_option backward.proofsInPublic true in
def cpySemA (b : Fin 2) : DmaSem sig := ⟨1 + b.val, by fin_cases b <;> decide⟩
set_option backward.proofsInPublic true in
def cpySemB (b : Fin 2) : DmaSem sig := ⟨3 + b.val, by fin_cases b <;> decide⟩

example : rcvSem .C 1 = ((cc0_scratch24.slice (Rect.unit (s := S2) ![1] S1.size inb_S2_S1_1)).squeeze S_ squeezes_S1_S_).sem := rfl
example : crdSem .D = (cc0_scratch32 : Sems sig S_).sem := rfl
example : barSem = (SemArray.scalar (sig.barrier 0 rfl) : Sems sig S_).sem := rfl
example (n : ℕ) : rxS .C 1 = (((Memref.whole cc0_scratch14 : Memref sig .tc .vmem S2x192x768 .bf16)).slice (Rect.unit (s := S2x192x768) ![1, 0, 0] S1x192x768.size inb_S2x192x768_S1x192x768_1_0_0) (fun _ => rfl)).squeeze S192x768 squeezes_S1x192x768_S192x768 := rfl
example : ∃ s k, opAt (440+1+1+1) = .ldT s k 2 ∨ True := ⟨0, true, .inr trivial⟩
example : cnt 460 (.tl 3 true) = 3 := by decide +kernel

end Cert.KernelIdeal.RingProof
-- ==== Proof.Vals.lean ====
/-
  The values the kernel computes on each device, as functions of the launch memory: the argument strips, the cast
  operands, the partial products, the running sums each stream carries, and each output tile after each of its stores.
-/
module

public import proofs.«01_k».proof.Proof.Base

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A tile of the output, a message. -/
abbrev Tile (F : FTy → Type) : Type := Vec F S192x768 .f32
abbrev Msg (F : FTy → Type) : Type := Vec F S1x192x768 .bf16

variable (m : (ℓ : Loc nD τ sig) → Buf (Elt F) ℓ)

/-! ## The arguments' strips -/

abbrev a0M : Memref sig .tc .hbm S1536x1536 .f32 := Memref.whole main_arg0
abbrev a1M : Memref sig .tc .hbm S1536x3072 .f32 := Memref.whole main_arg1
abbrev a2M : Memref sig .tc .hbm S3072x1536 .f32 := Memref.whole main_arg2

theorem colInb (i : Fin 6) : ∀ a, (![0, 512 * i.val] : Fin 2 → ℕ) a + S1536x512.size a ≤ S1536x3072.size a := by
  fin_cases i <;> decide
theorem xcolInb (i : Fin 3) : ∀ a, (![0, 512 * i.val] : Fin 2 → ℕ) a + S1536x512.size a ≤ S1536x1536.size a := by
  fin_cases i <;> decide
theorem rowInb (i : Fin 6) : ∀ a, (![512 * i.val, 0] : Fin 2 → ℕ) a + S512x1536.size a ≤ S3072x1536.size a := by
  fin_cases i <;> decide

abbrev colR (i : Fin 6) : Rect S1536x3072 := Rect.unit (s := S1536x3072) ![0, 512 * i.val] S1536x512.size (colInb i)
abbrev xcolR (i : Fin 3) : Rect S1536x1536 := Rect.unit (s := S1536x1536) ![0, 512 * i.val] S1536x512.size (xcolInb i)
abbrev rowR (i : Fin 6) : Rect S3072x1536 := Rect.unit (s := S3072x1536) ![512 * i.val, 0] S512x1536.size (rowInb i)

abbrev w1Src (i : Fin 6) : Memref sig .tc .hbm S1536x512 .f32 := a1M.slice (colR i) (fun _ => rfl)
abbrev xSrc (i : Fin 3) : Memref sig .tc .hbm S1536x512 .f32 := a0M.slice (xcolR i) (fun _ => rfl)
/-- What the `i`-th strip copy of the first kind reads: the six column strips of the first weight, then the three of `x`. -/
def srcA : Fin 9 → Memref sig .tc .hbm S1536x512 .f32
  | 0 => w1Src 0 | 1 => w1Src 1 | 2 => w1Src 2 | 3 => w1Src 3 | 4 => w1Src 4 | 5 => w1Src 5
  | 6 => xSrc 0 | 7 => xSrc 1 | 8 => xSrc 2
/-- What the `i`-th strip copy of the second kind reads: a row strip of the second weight. -/
def srcB (i : Fin 6) : Memref sig .tc .hbm S512x1536 .f32 := a2M.slice (rowR i) (fun _ => rfl)

/-- The strips as the loads of the copy buffers see them. -/
def stripA (c : Dev nD) (i : Fin 9) : Vec F S1x1536x512 .f32 := fun x =>
  (srcA i).view.read (Elt F) (m ((srcA i).view.loc (c : Thread nD τ))) ((Shape.reshapeEquiv squeezes_S1x1536x512_S1536x512.numel_eq).symm x)
def stripB (c : Dev nD) (i : Fin 6) : Vec F S1x512x1536 .f32 := fun x =>
  (srcB i).view.read (Elt F) (m ((srcB i).view.loc (c : Thread nD τ))) ((Shape.reshapeEquiv squeezes_S1x512x1536_S512x1536.numel_eq).symm x)

/-! ## The cast operands -/

/-- The cast strips. -/
def xStrip (c : Dev nD) (i : Fin 3) : Vec F S1536x512 .bf16 := k0_pay1 (stripA m c ⟨6 + i.val, by omega⟩)
def w1Strip (c : Dev nD) (i : Fin 6) : Vec F S1536x512 .bf16 := k0_pay1 (stripA m c ⟨i.val, by omega⟩)
def w2Strip (c : Dev nD) (i : Fin 6) : Vec F S512x1536 .bf16 := k0_pay11 (stripB m c i)

def xbV (c : Dev nD) : Vec F S1536x1536 .bf16 := fun x =>
  xStrip m c ⟨(x 1).val / 512, by have : (x 1).val < 1536 := (x 1).isLt; omega⟩
    (fun a => match a with | ⟨0, _⟩ => x 0 | ⟨1, _⟩ => ⟨(x 1).val % 512, Nat.mod_lt _ (by decide)⟩)
def w1V (c : Dev nD) : Vec F S1536x3072 .bf16 := fun x =>
  w1Strip m c ⟨(x 1).val / 512, by have : (x 1).val < 3072 := (x 1).isLt; omega⟩
    (fun a => match a with | ⟨0, _⟩ => x 0 | ⟨1, _⟩ => ⟨(x 1).val % 512, Nat.mod_lt _ (by decide)⟩)
def w2V (c : Dev nD) : Vec F S3072x1536 .bf16 := fun x =>
  w2Strip m c ⟨(x 0).val / 512, by have : (x 0).val < 3072 := (x 0).isLt; omega⟩
    (fun a => match a with | ⟨0, _⟩ => ⟨(x 0).val % 512, Nat.mod_lt _ (by decide)⟩ | ⟨1, _⟩ => x 1)

/-! ## Row blocks and tiles -/

/-- The rows of the block `k` places after the device's own, the columns of a half. -/
def rowOff (c : Dev nD) (k : Fin 8) : Fin 2 → ℕ := ![192 * ((c.val + k.val) % 8), 0]
def tileOff (c : Dev nD) (k : Fin 8) (h : Bool) : Fin 2 → ℕ := ![192 * ((c.val + k.val) % 8), cond h 768 0]

theorem rowOffInb (c : Dev nD) (k : Fin 8) : ∀ a, rowOff c k a + S192x1536.size a ≤ S1536x1536.size a := fun a => by
  have := Nat.mod_lt (c.val + k.val) (show 0 < 8 by decide)
  match a with
  | ⟨0, _⟩ => show 192 * ((c.val + k.val) % 8) + 192 ≤ 1536; omega
  | ⟨1, _⟩ => show 0 + 1536 ≤ 1536; omega
theorem tileOffInb (c : Dev nD) (k : Fin 8) (h : Bool) : ∀ a, tileOff c k h a + S192x768.size a ≤ S1536x1536.size a := fun a => by
  have := Nat.mod_lt (c.val + k.val) (show 0 < 8 by decide)
  match a with
  | ⟨0, _⟩ => show 192 * ((c.val + k.val) % 8) + 192 ≤ 1536; omega
  | ⟨1, _⟩ => show cond h 768 0 + 768 ≤ 1536; cases h <;> decide
abbrev rowBlk (c : Dev nD) (k : Fin 8) : Rect S1536x1536 := Rect.unit (s := S1536x1536) (rowOff c k) S192x1536.size (rowOffInb c k)
abbrev tileR (c : Dev nD) (k : Fin 8) (h : Bool) : Rect S1536x1536 := Rect.unit (s := S1536x1536) (tileOff c k h) S192x768.size (tileOffInb c k h)

theorem halfInb (h : Bool) : ∀ a, (![0, cond h 768 0] : Fin 2 → ℕ) a + S192x768.size a ≤ S192x1536.size a := by cases h <;> decide
theorem whalfInb (h : Bool) : ∀ a, (![0, cond h 768 0] : Fin 2 → ℕ) a + S3072x768.size a ≤ S3072x1536.size a := by cases h <;> decide
abbrev halfR (h : Bool) : Rect S192x1536 := Rect.unit (s := S192x1536) ![0, cond h 768 0] S192x768.size (halfInb h)
abbrev whalfR (h : Bool) : Rect S3072x1536 := Rect.unit (s := S3072x1536) ![0, cond h 768 0] S3072x768.size (whalfInb h)

/-- A row block of `x`, half of the second weight. -/
def xr (c : Dev nD) (k : Fin 8) : Vec F S192x1536 .bf16 := fun x => xbV m c ((rowBlk c k).emb x)
def w2h (c : Dev nD) (h : Bool) : Vec F S3072x768 .bf16 := fun x => w2V m c ((whalfR h).emb x)

/-! ## The products -/

/-- The hidden block of a row block, as the cache keeps it. -/
def hcV (c : Dev nD) (k : Fin 8) : Vec F S1x192x3072 .bf16 := k0_pay23 (xr m c k) (w1V m c)
/-- A whole row of the device's partial product, and a half of it. -/
def rowV (c : Dev nD) (k : Fin 8) : Vec F S192x1536 .f32 :=
  match k with
  | 4 => k0_pay53 (xr m c 4) (w1V m c) (w2V m c)
  | k => k0_pay19 (k0_pay10 (xr m c k) (w1V m c)) (w2V m c)
def rowHalf (c : Dev nD) (k : Fin 8) (h : Bool) : Tile F := fun x => rowV m c k ((halfR h).emb x)
/-- A tile of the partial product from the hidden block just computed, or from the cache. -/
def dirV (c : Dev nD) (k : Fin 8) (h : Bool) : Tile F := k0_pay24 (xr m c k) (w1V m c) (w2h m c h)
def cacV (c : Dev nD) (k : Fin 8) (h : Bool) : Tile F := k0_pay60 (hcV m c k) (w2h m c h)

/-- The device's partial product of a tile. -/
def part (c : Dev nD) (k : Fin 8) : Bool → Tile F
  | false => match k with
    | 0 => rowHalf m c 0 false | 4 => rowHalf m c 4 false
    | 7 => dirV m c 7 false | 6 => dirV m c 6 false | 5 => dirV m c 5 false
    | 1 => cacV m c 1 false | 2 => cacV m c 2 false | 3 => cacV m c 3 false
  | true => match k with
    | 0 => rowHalf m c 0 true | 4 => rowHalf m c 4 true
    | 1 => dirV m c 1 true | 2 => dirV m c 2 true | 3 => dirV m c 3 true
    | 5 => cacV m c 5 true | 6 => cacV m c 6 true | 7 => cacV m c 7 true

/-! ## The streams -/

/-- A message from a tile; a tile from a message; a message added to a tile. -/
abbrev toMsg (t : Tile F) : Msg F := k0_pay20 t
abbrev ofMsg (v : Msg F) : Tile F := k0_pay86 v
abbrev addMsg (v : Msg F) (t : Tile F) : Tile F := k0_pay28 v t

/-- The running sums of the two directions of the reduce-scatter. -/
def ca : ℕ → Dev nD → Tile F
  | 0, c => part m c 0 false
  | j + 1, c => addMsg (toMsg (ca j (lft c))) (part m c (Fin.ofNat 8 (7 - j)) false)
def cb : ℕ → Dev nD → Tile F
  | 0, c => part m c 0 true
  | j + 1, c => addMsg (toMsg (cb j (rgt c))) (part m c (Fin.ofNat 8 (j + 1)) true)

/-- A tile handed on `j` times from where it was complete, each time from the device `d` names. -/
def relay (b : Dev nD → Tile F) (d : Dev nD → Dev nD) : ℕ → Dev nD → Tile F
  | 0, c => b c
  | j + 1, c => ofMsg (toMsg (relay b d j (d c)))

/-- The tile message `j` of a stream is made of. -/
def srcTile : Strm → ℕ → Dev nD → Tile F
  | .A, 8 => relay (ca m 7) lft 1 | .A, 9 => relay (ca m 7) lft 2 | .A, j => ca m j
  | .B, 8 => relay (cb m 7) rgt 1 | .B, 9 => relay (cb m 7) rgt 2 | .B, j => cb m j
  | .C, j => relay (ca m 7) rgt j
  | .D, j => relay (cb m 7) lft j
  | .Z, 0 => ca m 7 | .Z, _ => cb m 7

/-- The message slot `b` carries in round `r`. -/
def sv (σ : Strm) (b : Fin 2) (r : ℕ) (c : Dev nD) : Msg F := toMsg (srcTile m σ (2 * r + b.val) c)

/-- The second and third value of each tile. -/
def tv1 (c : Dev nD) (k : Fin 8) : Bool → Tile F
  | false => match k with
    | 0 => relay (ca m 7) lft 1 c
    | 7 => ca m 1 c | 6 => ca m 2 c | 5 => ca m 3 c | 4 => ca m 4 c | 3 => ca m 5 c | 2 => ca m 6 c | 1 => ca m 7 c
  | true => match k with
    | 0 => relay (cb m 7) rgt 1 c
    | 1 => cb m 1 c | 2 => cb m 2 c | 3 => cb m 3 c | 4 => cb m 4 c | 5 => cb m 5 c | 6 => cb m 6 c | 7 => cb m 7 c
def tv2 (c : Dev nD) (k : Fin 8) : Bool → Tile F
  | false => match k with
    | 0 => relay (ca m 7) lft 1 c | 1 => ca m 7 c
    | 7 => relay (ca m 7) lft 2 c | 6 => relay (ca m 7) lft 3 c | 5 => relay (ca m 7) opp 1 c
    | 4 => relay (ca m 7) rgt 3 c | 3 => relay (ca m 7) rgt 2 c | 2 => relay (ca m 7) rgt 1 c
  | true => match k with
    | 0 => relay (cb m 7) rgt 1 c | 7 => cb m 7 c
    | 1 => relay (cb m 7) rgt 2 c | 2 => relay (cb m 7) rgt 3 c | 3 => relay (cb m 7) opp 1 c
    | 4 => relay (cb m 7) lft 3 c | 5 => relay (cb m 7) lft 2 c | 6 => relay (cb m 7) lft 1 c
/-- A tile after its `st`-th store, counted from zero. -/
def tv (c : Dev nD) (k : Fin 8) (h : Bool) : ℕ → Tile F
  | 0 => part m c k h | 1 => tv1 m c k h | _ => tv2 m c k h

example (c : Dev nD) : k0_pay29 (sv m .B 0 0 (rgt c)) (tv m c 1 true 0) = tv m c 1 true 1 := rfl
example (c : Dev nD) : k0_pay71 (k0_pay70 (sv m .A 1 2 (up .A c))) (tv m c 2 false 0) = tv m c 2 false 1 := rfl
example (c : Dev nD) : k0_pay53 (xr m c 4) (w1V m c) (w2V m c) = rowV m c 4 := rfl
example (c : Dev nD) : k0_pay68 (k0_pay67 (hcV m c 2)) (w2h m c false) (constant S192x768 .f32 0x00000000#32) = tv m c 2 false 0 := rfl
example (c : Dev nD) : k0_pay57 (k0_pay56 (tv m c 4 false 1)) = sv m .A 0 2 c := rfl

end Cert.KernelIdeal.RingProof
-- ==== Proof.Sched.lean ====
/-
  The protocol: every semaphore the devices pay each other, its rounds, what each payment hands over, and the order in
  which payments are owed.
-/
module

public import proofs.«01_k».proof.Proof.Vals

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- A receive slot: whose, of which stream, which of the two. -/
abbrev SK : Type := Dev nD × Strm × Fin 2
abbrev UB : Type := URounds (GSem nD τ sig) ℕ
abbrev UU : Type := UR sig nD τ × (UB × (Release.USlots SK × Counters))

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  (Emb.inl : Emb UB (UB × (Release.USlots SK × Counters))).trans embR
def ES : Emb (Release.USlots SK) (MT nD τ sig ℕ (Elt F) ℕ UU ℕ) :=
  (Emb.inl : Emb (Release.USlots SK) (Release.USlots SK × Counters)).trans
    ((Emb.inr : Emb (Release.USlots SK × Counters) (UB × (Release.USlots SK × Counters))).trans embR)

omit [FloatOps F] in
instance ER_landsIn : (ER : Emb UB 𝕄).LandsIn (upEmb : UEmb _ 𝕄) := by unfold ER embR; infer_instance
omit [FloatOps F] in
instance ES_landsIn : (ES : Emb (Release.USlots SK) 𝕄).LandsIn (upEmb : UEmb _ 𝕄) := by unfold ES embR; infer_instance

abbrev EC : UEmb Counters (MT nD τ sig ℕ (Elt F) ℕ UU ℕ) := countersEmb

/-! ## The cells -/

/-- A device's semaphores of the protocol. -/
inductive Cl | snd (σ : Strm) (b : Fin 2) | rcv (σ : Strm) (b : Fin 2) | crd (σ : Strm) | bar
  deriving DecidableEq

/-- All of them. -/
def Cl.all : List Cl :=
  [.bar] ++ ([Strm.A, .B, .C, .D, .Z].flatMap fun σ => [.crd σ, .snd σ 0, .snd σ 1, .rcv σ 0, .rcv σ 1])
instance : Fintype Cl := ⟨Cl.all.toFinset, fun x => by
  cases x with
  | snd σ b => cases σ <;> fin_cases b <;> decide
  | rcv σ b => cases σ <;> fin_cases b <;> decide
  | crd σ => cases σ <;> decide
  | bar => decide⟩

set_option backward.proofsInPublic true in
def Cl.loc : Cl → SemLoc sig
  | .snd σ b => .dma (sndSem σ b) | .rcv σ b => .dma (rcvSem σ b) | .crd σ => .reg (crdSem σ) | .bar => .reg barSem

/-- Which of them a semaphore is. -/
def Cl.of (s : SemLoc sig) : Option Cl := Cl.all.find? fun x => decide (x.loc = s)

theorem Cl.of_loc (x : Cl) : Cl.of x.loc = some x := by
  revert x; decide +kernel
theorem Cl.loc_inj : Function.Injective Cl.loc := fun x y h => by
  have := Cl.of_loc x; rw [h, Cl.of_loc] at this; exact (Option.some.inj this).symm

/-- The cell of device `c`. -/
abbrev cell (c : Dev nD) (x : Cl) : GSem nD τ sig := ((c : Thread nD τ), x.loc)
theorem cell_inj {c c' : Dev nD} {x x' : Cl} (h : cell c x = cell c' x') : c = c' ∧ x = x' := by
  have h1 : c = c' := congrArg (fun g : GSem nD τ sig => g.1.1) h
  exact ⟨h1, Cl.loc_inj (congrArg Prod.snd h)⟩

/-! ## Slots -/

/-- The bytes a message's transfer credits. -/
abbrev NM : ℕ := (rxS .A 0).view.dmaCredit
theorem NM_pos : 0 < NM := View.dmaCredit_pos _ (by decide)

/-- A receive slot, a send slot, with some contents. -/
abbrev rxPt (c : Dev nD) (σ : Strm) (b : Fin 2) (f : Buf (Elt F) ((rxS σ b).view.loc (c : Thread nD τ))) : sProp 𝕄 :=
  (rxS σ b).view.loc (c : Thread nD τ) ↦[(rxS σ b).view.set]{fullShare} f
abbrev txPt (c : Dev nD) (σ : Strm) (b : Fin 2) (f : Buf (Elt F) ((txS σ b).view.loc (c : Thread nD τ))) : sProp 𝕄 :=
  (txS σ b).view.loc (c : Thread nD τ) ↦[(txS σ b).view.set]{fullShare} f

/-- What a load of the slot sees. -/
abbrev rxRead (σ : Strm) (b : Fin 2) (c : Dev nD) (f : Buf (Elt F) ((rxS σ b).view.loc (c : Thread nD τ))) : Msg F :=
  (rxM σ).view.readAt (Elt F) (slotR b).toLoadRect f
abbrev txRead (σ : Strm) (b : Fin 2) (c : Dev nD) (f : Buf (Elt F) ((txS σ b).view.loc (c : Thread nD τ))) : Msg F :=
  (txM σ).view.readAt (Elt F) (slotR b).toLoadRect f

/-- The sender of message `j` may write the receiver's slot: its reader has released it often enough, and its receive
    semaphore has reached the round. -/
def canSend (c : Dev nD) (σ : Strm) (j : ℕ) : sProp 𝕄 :=
  iprop(Release.released ES (tgt σ c, σ, par j) (j / 2 + 1) ∗ reached ER (cell (tgt σ c) (.rcv σ (par j))) (j / 2))

omit [FloatOps F] in
instance canSend_storable (c : Dev nD) (σ : Strm) (j : ℕ) : BI.Storable (upEmb : UEmb _ 𝕄) (canSend (F := F) c σ j) := by
  unfold canSend; infer_instance
omit [FloatOps F] in
instance canSend_persistent (c : Dev nD) (σ : Strm) (j : ℕ) : BI.Persistent (canSend (F := F) c σ j) := by
  unfold canSend; infer_instance

variable (m : (ℓ : Loc nD τ sig) → Buf (Elt F) ℓ)

/-! ## The schedule -/

/-- The duties of a round: one transfer a round on a message semaphore, the credits of a stream in one round, the three
    entry signals in one round. -/
def Cl.duties : Cl → ℕ → Finset ℕ
  | .snd σ b, r => if r < σ.R b then {0} else ∅
  | .rcv σ b, r => if r < σ.R b then {0} else ∅
  | .crd σ, r => if r = 0 then Finset.range (σ.T - 2) else ∅
  | .bar, r => if r = 0 then Finset.range 3 else ∅
def Cl.amount : Cl → ℕ
  | .snd _ _ => NM | .rcv _ _ => NM | .crd _ => 1 | .bar => 1

/-- What the entry signal from direction `d` tells device `c`: the slots of the streams it sends that way are free. -/
def barPay (c : Dev nD) (d : ℕ) : sProp 𝕄 :=
  bigSep (Finset.univ.filter fun σ : Strm => σ.dir.val = d) (fun σ => iprop(canSend c σ 0 ∗ canSend c σ 1))
/-- What credit `j` tells: messages up to `j + 2` may be sent. -/
def crdPay (c : Dev nD) (σ : Strm) (j : ℕ) : sProp 𝕄 := bigSep (Finset.range (j + 1)) (fun i => canSend c σ (i + 2))
def rcvPay (c : Dev nD) (σ : Strm) (b : Fin 2) (r : ℕ) : sProp 𝕄 :=
  iprop(∃ f, ⌜rxRead σ b c f = sv m σ b r (up σ c)⌝ ∗ rxPt c σ b f)
def sndPay (c : Dev nD) (σ : Strm) (b : Fin 2) : sProp 𝕄 := iprop(∃ f, txPt c σ b f)

omit [FloatOps F] in
instance barPay_persistent (c : Dev nD) (d : ℕ) : BI.Persistent (barPay (F := F) c d) := by unfold barPay; infer_instance
omit [FloatOps F] in
instance crdPay_persistent (c : Dev nD) (σ : Strm) (j : ℕ) : BI.Persistent (crdPay (F := F) c σ j) := by unfold crdPay; infer_instance

def Cl.payload (c : Dev nD) : Cl → ℕ → ℕ → sProp 𝕄
  | .snd σ b, _, _ => sndPay c σ b
  | .rcv σ b, r, _ => rcvPay m c σ b r
  | .crd σ, _, j => crdPay c σ j
  | .bar, _, d => barPay c d

theorem Cl.amount_pos (x : Cl) : 0 < x.amount := by cases x <;> first | exact NM_pos | exact Nat.one_pos

def Rd : Rounds.Schedule (GSem nD τ sig) ℕ 𝕄 where
  duties g r := match Cl.of g.2 with | some x => if g.1.2 = .tc then x.duties r else ∅ | none => ∅
  unitless _ := False
  amount g _ _ := match Cl.of g.2 with | some x => x.amount | none => 1
  payload g r d := match Cl.of g.2 with | some x => x.payload m g.1.1 r d | none => iprop(emp)
  amount_pos g _ _ _ := by
    show 0 < (match Cl.of g.2 with | some x => x.amount | none => 1)
    split
    · exact Cl.amount_pos _
    · exact Nat.one_pos

instance Rd_payload_storable (g : GSem nD τ sig) (r : ℕ) (d : ℕ) :
    BI.Storable (upEmb : UEmb _ 𝕄) ((Rd (F := F) m).payload g r d) := by
  show BI.Storable upEmb (match Cl.of g.2 with | some x => x.payload m g.1.1 r d | none => iprop(emp))
  split
  · next x _ =>
    cases x <;> (dsimp only [Cl.payload]; first | unfold sndPay | unfold rcvPay | unfold crdPay | unfold barPay) <;> infer_instance
  · infer_instance

theorem Rd_duties (c : Dev nD) (x : Cl) (r : ℕ) : (Rd m).duties (cell c x) r = x.duties r := by
  show (match Cl.of x.loc with | some x => if ((c : Thread nD τ).2 = Proc.tc) then x.duties r else ∅ | none => ∅) = _
  rw [Cl.of_loc]; exact if_pos rfl
theorem Rd_amount (c : Dev nD) (x : Cl) (r d : ℕ) : (Rd m).amount (cell c x) r d = x.amount := by
  show (match Cl.of x.loc with | some x => x.amount | none => 1) = _
  rw [Cl.of_loc]
theorem Rd_payload (c : Dev nD) (x : Cl) (r d : ℕ) : (Rd m).payload (cell c x) r d = x.payload m c r d := by
  show (match Cl.of x.loc with | some y => y.payload m c r d | none => iprop(emp)) = _
  rw [Cl.of_loc]

theorem Rd_expect (c : Dev nD) (x : Cl) (r : ℕ) : (Rd m).expect (cell c x) r = (x.duties r).card * x.amount := by
  unfold Rounds.Schedule.expect Rounds.Schedule.amountOf
  rw [Rd_duties, Finset.sum_congr rfl (fun d _ => Rd_amount m c x r d), Finset.sum_const, smul_eq_mul]

/-- The round after which a cell has no duties. -/
def Cl.rounds : Cl → ℕ
  | .snd σ b => σ.R b | .rcv σ b => σ.R b | .crd σ => if σ.T = 2 then 0 else 1 | .bar => 1
theorem Cl.duties_end (x : Cl) (r : ℕ) (h : x.rounds ≤ r) : x.duties r = ∅ := by
  cases x with
  | snd σ b => exact if_neg (by dsimp only [Cl.rounds] at h; omega)
  | rcv σ b => exact if_neg (by dsimp only [Cl.rounds] at h; omega)
  | crd σ =>
    by_cases hT : σ.T = 2
    · dsimp only [Cl.duties]; rw [hT]; split <;> rfl
    · dsimp only [Cl.rounds] at h; rw [if_neg hT] at h; exact if_neg (by omega)
  | bar => exact if_neg (by dsimp only [Cl.rounds] at h; omega)
theorem Rd_duties_end (c : Dev nD) (x : Cl) : ∀ r, x.rounds ≤ r → (Rd m).duties (cell c x) r = ∅ :=
  fun r h => by rw [Rd_duties, Cl.duties_end x r h]

/-! ## What is owed -/

/-- The cell a payment of device `c` goes to, and how much. -/
def Pay.cell (c : Dev nD) : Pay → GSem nD τ sig
  | .bsig i => RingProof.cell (bt i c) .bar | .snd σ b _ => RingProof.cell (tgt σ c) (.rcv σ b)
  | .crd σ _ => RingProof.cell (up σ c) (.crd σ)
def Pay.amt : Pay → ℕ
  | .bsig _ => 1 | .snd _ _ _ => NM | .crd _ _ => 1

/-- The tally of payment `i`, at index `i + 1`; what is still owed before payment `n`. -/
def payTally (c : Dev nD) (i : ℕ) : CellTallies nD τ sig ℕ := tallyAt ((payAt i).cell c) (i + 1) (payAt i).amt
def owed (c : Dev nD) (n : ℕ) : CellTallies nD τ sig ℕ := ∑ i ∈ Finset.Ico n 49, payTally c i

theorem owed_step (c : Dev nD) {n : ℕ} (h : n < 49) : owed c n = owed c (n + 1) + payTally c n := by
  unfold owed; rw [add_comm];
  have hI : Finset.Ico n 49 = insert n (Finset.Ico (n + 1) 49) := by ext i; simp only [Finset.mem_insert, Finset.mem_Ico]; omega
  rw [hI, Finset.sum_insert (by simp)]

/-- The indices a cell is waited at, and their order. -/
def Lx (g : GSem nD τ sig) : Finset ℕ := if g.1.2 = .tc then Finset.range 51 else ∅
def lv (_ : GSem nD τ sig) (i : ℕ) : ℕ := i

theorem Lx_tc (c : Dev nD) (s : SemLoc sig) : Lx ((c : Thread nD τ), s) = Finset.range 51 := if_pos rfl

theorem Pay.cell_tc (c : Dev nD) (p : Pay) : (p.cell c).1.2 = .tc := by cases p <;> rfl

theorem owed_pos (c : Dev nD) (n : ℕ) (g : GSem nD τ sig) (i : ℕ) (h : 0 < owed c n g i) : n < i ∧ i < 50 ∧ g.1.2 = .tc := by
  obtain ⟨j, hj, hp⟩ := Pipeline.sum_pos_exists h
  have hj' := Finset.mem_Ico.mp hj
  obtain ⟨rfl, rfl⟩ := Pipeline.tallyAt_pos hp
  exact ⟨by omega, by omega, Pay.cell_tc c _⟩

/-- A device may wait at an index below everything it owes. -/
theorem mayWait (c : Dev nD) (n : ℕ) (s : SemLoc sig) (ι : ℕ) (h : ι ≤ n) (h' : ι < 51) :
    levAts Lx lv ⊢ (MayWait (c : Thread nD τ) s ι (owed c n) : sProp 𝕄) :=
  Pipeline.mayWait_of_levAts (by rw [Lx_tc]; exact Finset.mem_range.mpr h') (fun g i hp => by
    obtain ⟨h1, h2, h3⟩ := owed_pos c n g i hp
    refine ⟨?_, ?_⟩
    · unfold Lx; rw [if_pos h3]; exact Finset.mem_range.mpr (by omega)
    · show ι < i; omega)

end Cert.KernelIdeal.RingProof
-- ==== Proof.State.lean ====
/-
  What a device holds between two effects of the body, as a function of the counters: one component per buffer, slot and
  semaphore, each depending on a few counters only.
-/
module

public import proofs.«01_k».proof.Proof.Sched

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section BigSep
variable {I M : Type} [URA M] [DecidableEq I]

/-- The big separating conjunction's laws, as this development uses them. -/
theorem bs_elim {s : Finset I} {i : I} (h : i ∈ s) {Φ : I → sProp M} : bigSep s Φ ⊢ Φ i := BI.bigSep_elim h
theorem bs_insert {s : Finset I} {i : I} (h : i ∉ s) {Φ : I → sProp M} :
    bigSep (insert i s) Φ = iprop(Φ i ∗ bigSep s Φ) := BI.bigSep_insert h
theorem bs_split {s t : Finset I} (h : t ⊆ s) {Φ : I → sProp M} :
    bigSep s Φ = iprop(bigSep t Φ ∗ bigSep (s \ t) Φ) := BI.bigSep_sdiff_split h
theorem bs_take {s : Finset I} {i : I} (h : i ∈ s) {Φ : I → sProp M} :
    bigSep s Φ = iprop(Φ i ∗ bigSep (s.erase i) Φ) := BI.bigSep_erase h
omit [DecidableEq I] in
theorem bs_empty {Φ : I → sProp M} : bigSep (∅ : Finset I) Φ = iprop(emp) := BI.bigSep_empty
omit [DecidableEq I] in
theorem bs_single {i : I} {Φ : I → sProp M} : bigSep {i} Φ = Φ i := BI.bigSep_singleton
theorem bs_union {s t : Finset I} {Φ : I → sProp M} (h : Disjoint s t) : bigSep (s ∪ t) Φ = iprop(bigSep s Φ ∗ bigSep t Φ) := BI.bigSep_union h
omit [DecidableEq I] in
/-- The first of the numbers from `a` to `b`. -/
theorem bs_Ico {a b : ℕ} (h : a < b) {Φ : ℕ → sProp M} : bigSep (Finset.Ico a b) Φ = iprop(Φ a ∗ bigSep (Finset.Ico (a + 1) b) Φ) := by
  have hI : Finset.Ico a b = insert a (Finset.Ico (a + 1) b) := by ext i; simp only [Finset.mem_insert, Finset.mem_Ico]; omega
  rw [hI]; exact BI.bigSep_insert (by simp)
end BigSep

/-! ## Buffers -/

abbrev oM : Memref sig .tc .vmem S1536x1536 .f32 := Memref.whole cc0_stg0_0
abbrev xbM : Memref sig .tc .vmem S1536x1536 .bf16 := Memref.whole cc0_scratch0
abbrev w1M : Memref sig .tc .vmem S1536x3072 .bf16 := Memref.whole cc0_scratch1
abbrev w2M : Memref sig .tc .vmem S3072x1536 .bf16 := Memref.whole cc0_scratch2
abbrev hbM : Memref sig .tc .vmem S192x3072 .bf16 := Memref.whole cc0_scratch3
abbrev hcM : Memref sig .tc .vmem S6x192x3072 .bf16 := Memref.whole cc0_scratch4
abbrev sAM : Memref sig .tc .vmem S2x1536x512 .f32 := Memref.whole cc0_scratch5
abbrev sBM : Memref sig .tc .vmem S2x512x1536 .f32 := Memref.whole cc0_scratch6

theorem sAInb (b : Fin 2) : ∀ a, (![b.val, 0, 0] : Fin 3 → ℕ) a + S1x1536x512.size a ≤ S2x1536x512.size a := by
  fin_cases b <;> decide
theorem sBInb (b : Fin 2) : ∀ a, (![b.val, 0, 0] : Fin 3 → ℕ) a + S1x512x1536.size a ≤ S2x512x1536.size a := by
  fin_cases b <;> decide
theorem hcInb (q : Fin 6) : ∀ a, (![q.val, 0, 0] : Fin 3 → ℕ) a + S1x192x3072.size a ≤ S6x192x3072.size a := by
  fin_cases q <;> decide
abbrev sAR (b : Fin 2) : Rect S2x1536x512 := Rect.unit (s := S2x1536x512) ![b.val, 0, 0] S1x1536x512.size (sAInb b)
abbrev sBR (b : Fin 2) : Rect S2x512x1536 := Rect.unit (s := S2x512x1536) ![b.val, 0, 0] S1x512x1536.size (sBInb b)
abbrev hcR (q : Fin 6) : Rect S6x192x3072 := Rect.unit (s := S6x192x3072) ![q.val, 0, 0] S1x192x3072.size (hcInb q)
abbrev sAS (b : Fin 2) : Memref sig .tc .vmem S1536x512 .f32 :=
  (sAM.slice (sAR b) (fun _ => rfl)).squeeze S1536x512 squeezes_S1x1536x512_S1536x512
abbrev sBS (b : Fin 2) : Memref sig .tc .vmem S512x1536 .f32 :=
  (sBM.slice (sBR b) (fun _ => rfl)).squeeze S512x1536 squeezes_S1x512x1536_S512x1536
theorem hbInb : ∀ a, (![0, 0] : Fin 2 → ℕ) a + S192x3072.size a ≤ S192x3072.size a := by decide
abbrev hbR : Rect S192x3072 := Rect.unit (s := S192x3072) ![0, 0] S192x3072.size hbInb

/-- The row block whose hidden block the cache's entry `q` keeps. -/
def qk : Fin 6 → Fin 8 | 0 => 1 | 1 => 2 | 2 => 3 | 3 => 7 | 4 => 6 | 5 => 5

variable (m : (ℓ : Loc nD τ sig) → Buf (Elt F) ℓ)

/-- A whole buffer with contents satisfying `P`. -/
def good (c : Dev nD) {cs : CoreSpace} {s : Shape} {e : EltTy} (M : Memref sig .tc cs s e)
    (P : Buf (Elt F) (M.view.loc (c : Thread nD τ)) → Prop) : sProp 𝕄 :=
  iprop(∃ f, ⌜P f⌝ ∗ (M.view.loc (c : Thread nD τ) ↦[Finset.univ]{fullShare} f))

/-! ## The components -/

inductive Cmp
  | owe | bar | cA (b : Fin 2) | cB (b : Fin 2) | out | xb | w1 | w2 | hb | hc
  | tx (σ : Strm) (b : Fin 2) | rx (σ : Strm) (b : Fin 2) | crd (σ : Strm) | cpy (σ : Strm) | knw (σ : Strm)
  deriving DecidableEq

def Cmp.all : List Cmp :=
  [.owe, .bar, .cA 0, .cA 1, .cB 0, .cB 1, .out, .xb, .w1, .w2, .hb, .hc]
    ++ ([Strm.A, .B, .C, .D, .Z].flatMap fun σ => [.tx σ 0, .tx σ 1, .rx σ 0, .rx σ 1, .crd σ, .cpy σ, .knw σ])
instance : Fintype Cmp := ⟨Cmp.all.toFinset, fun x => by
  cases x with
  | owe | bar | out | xb | w1 | w2 | hb | hc => decide
  | cA b | cB b => fin_cases b <;> decide
  | tx σ b | rx σ b => cases σ <;> fin_cases b <;> decide
  | crd σ | cpy σ | knw σ => cases σ <;> decide⟩

def oweC (c : Dev nD) (p : ℕ) : sProp 𝕄 := iprop(∃ W, owes (c : Thread nD τ) (owed c p) W)

/-- All receive slots of a device were put away once. -/
def relC (c : Dev nD) : sProp 𝕄 := bigSep Finset.univ fun k : Strm × Fin 2 => Release.released ES (c, k) 1

omit [FloatOps F] in
instance relC_persistent (c : Dev nD) : BI.Persistent (relC (F := F) c) := by unfold relC; infer_instance

def barC (c : Dev nD) (bsig bar : ℕ) : sProp 𝕄 :=
  iprop((if bar = 0 then iprop(atPos ER (cell c .bar) 0 ∅ 0 ∗ bigSep (Finset.range 3) fun i => cred (tallyAt (cell c .bar) (i + 1) 1))
      else atPos ER (cell c .bar) 1 ∅ 0)
    ∗ (bigSep (Finset.univ.filter fun i : Fin 3 => bsig ≤ i.val) fun i => dutyTok ER (cell (bt i c) .bar) 0 i.val)
    ∗ relC c)

/-- The read shares of the arguments: one for each of the two buffers strips are copied through. -/
def hs (b : Fin 2) : PosShare TreeShare := Transfers.dealOf fullShare (Finset.univ : Finset (Fin 2)) b

def argPt {cs : Space} {s : Shape} {e : EltTy} (c : Dev nD) (M : Memref sig .tc cs s e) (b : Fin 2) : sProp 𝕄 :=
  M.view.loc (c : Thread nD τ) ↦[Finset.univ]{hs b} m (M.view.loc (c : Thread nD τ))

def cpA (c : Dev nD) (b : Fin 2) (k : ℕ) : sProp 𝕄 :=
  iprop((∃ f, ⌜∀ i : Fin 9, i.val + 2 = 2 * k + b.val → (sAM.view.readAt (Elt F) (sAR b).toLoadRect f : Vec F S1x1536x512 .f32) = stripA m c i⌝
      ∗ ((sAS b).view.loc (c : Thread nD τ) ↦[(sAS b).view.set]{fullShare} f))
    ∗ argPt m c a0M b ∗ argPt m c a1M b)
def cpB (c : Dev nD) (b : Fin 2) (k : ℕ) : sProp 𝕄 :=
  iprop((∃ f, ⌜∀ i : Fin 6, i.val + 2 = 2 * k + b.val → (sBM.view.readAt (Elt F) (sBR b).toLoadRect f : Vec F S1x512x1536 .f32) = stripB m c i⌝
      ∗ ((sBS b).view.loc (c : Thread nD τ) ↦[(sBS b).view.set]{fullShare} f))
    ∗ argPt m c a2M b)
def cAC (c : Dev nD) (b : Fin 2) (s w : ℕ) : sProp 𝕄 :=
  if s = w then iprop(semVal ((c : Thread nD τ), .dma (cpySemA b)) 0 ∗ cpA m c b w)
  else iprop(∃ D, Transfers.Flight EC (c : Thread nD τ) (.dma (cpySemA b)) 0 (sAS b).view.dmaCredit D ∗ (D -∗ cpA m c b (w + 1)))
def cBC (c : Dev nD) (b : Fin 2) (s w : ℕ) : sProp 𝕄 :=
  if s = w then iprop(semVal ((c : Thread nD τ), .dma (cpySemB b)) 0 ∗ cpB m c b w)
  else iprop(∃ D, Transfers.Flight EC (c : Thread nD τ) (.dma (cpySemB b)) 0 (sBS b).view.dmaCredit D ∗ (D -∗ cpB m c b (w + 1)))

def outC (c : Dev nD) (tl : Fin 8 → Bool → ℕ) : sProp 𝕄 :=
  good c oM fun f => ∀ k h, 1 ≤ tl k h → (oM.view.readAt (Elt F) (tileR c k h).toLoadRect f : Tile F) = tv m c k h (tl k h - 1)
def xbC (c : Dev nD) (n : ℕ) : sProp 𝕄 :=
  good c xbM fun f => ∀ i : Fin 3, i.val < n → (xbM.view.readAt (Elt F) (xcolR i).toLoadRect f : Vec F S1536x512 .bf16) = xStrip m c i
def w1C (c : Dev nD) (n : ℕ) : sProp 𝕄 :=
  good c w1M fun f => ∀ i : Fin 6, i.val < n → (w1M.view.readAt (Elt F) (colR i).toLoadRect f : Vec F S1536x512 .bf16) = w1Strip m c i
def w2C (c : Dev nD) (n : ℕ) : sProp 𝕄 :=
  good c w2M fun f => ∀ i : Fin 6, i.val < n → (w2M.view.readAt (Elt F) (rowR i).toLoadRect f : Vec F S512x1536 .bf16) = w2Strip m c i
def hbC (c : Dev nD) (n : ℕ) : sProp 𝕄 :=
  good c hbM fun f => 1 ≤ n → (hbM.view.readAt (Elt F) hbR.toLoadRect f : Vec F S192x3072 .bf16) = k0_pay10 (xr m c 0) (w1V m c)
def hcC (c : Dev nD) (n : Fin 6 → ℕ) : sProp 𝕄 :=
  good c hcM fun f => ∀ q, 1 ≤ n q → (hcM.view.readAt (Elt F) (hcR q).toLoadRect f : Vec F S1x192x3072 .bf16) = hcV m c (qk q)

def txC (c : Dev nD) (σ : Strm) (b : Fin 2) (sto snt bck : ℕ) : sProp 𝕄 :=
  iprop(atPos ER (cell c (.snd σ b)) bck ∅ 0
    ∗ reached ER (cell c (.snd σ b)) bck
    ∗ (bigSep (Finset.Ico snt (σ.R b)) fun r => iprop(dutyTok ER (cell c (.snd σ b)) r 0
        ∗ dutyTok ER (cell (tgt σ c) (.rcv σ b)) r 0 ∗ Release.writeTok ES (tgt σ c, σ, b) (r + 1)))
    ∗ (if bck < snt then cred (tallyAt (cell c (.snd σ b)) 0 NM)
       else iprop(∃ f, ⌜snt < sto → txRead σ b c f = sv m σ b snt c⌝ ∗ txPt c σ b f)))
def rxC (c : Dev nD) (σ : Strm) (b : Fin 2) (got fre : ℕ) : sProp 𝕄 :=
  iprop(atPos ER (cell c (.rcv σ b)) got ∅ 0
    ∗ reached ER (cell c (.rcv σ b)) got
    ∗ (bigSep (Finset.Ico got (σ.R b)) fun r => cred (tallyAt (cell c (.rcv σ b)) (payIx (.snd σ b r) + 1) NM))
    ∗ Release.readerAt ES (c, σ, b) (fre + 1)
    ∗ Release.released ES (c, σ, b) (fre + 1)
    ∗ (if fre < got then iprop(∃ f, ⌜rxRead σ b c f = sv m σ b (got - 1) (up σ c)⌝ ∗ rxPt c σ b f) else iprop(emp)))
def crdC (c : Dev nD) (σ : Strm) (w : ℕ) : sProp 𝕄 :=
  iprop((if w < σ.T - 2 then
        iprop(∃ S : Finset ℕ, ⌜S ⊆ Finset.range (σ.T - 2) ∧ w ≤ S.card⌝ ∗ atPos ER (cell c (.crd σ)) 0 S w ∗ bigSep S (crdPay c σ))
      else atPos ER (cell c (.crd σ)) (if σ.T = 2 then 0 else 1) ∅ 0)
    ∗ bigSep (Finset.Ico w (σ.T - 2)) fun j => cred (tallyAt (cell c (.crd σ)) (payIx (.crd σ j) + 1) 1))
def cpyC (c : Dev nD) (σ : Strm) (n : ℕ) : sProp 𝕄 :=
  bigSep (Finset.Ico n (σ.T - 2)) fun j => dutyTok ER (cell (up σ c) (.crd σ)) 0 j
def knwC (c : Dev nD) (σ : Strm) (n : ℕ) : sProp 𝕄 := bigSep (Finset.range n) fun i => canSend c σ i

omit [FloatOps F] in
instance knwC_persistent (c : Dev nD) (σ : Strm) (n : ℕ) : BI.Persistent (knwC (F := F) c σ n) := by unfold knwC; infer_instance

/-- A component, at the counters `ct`. -/
def comp (c : Dev nD) (ct : Key → ℕ) : Cmp → sProp 𝕄
  | .owe => oweC c (ct .pay)
  | .bar => barC c (ct .bsig) (ct .bar)
  | .cA b => cAC m c b (ct (.csA b)) (ct (.cwA b))
  | .cB b => cBC m c b (ct (.csB b)) (ct (.cwB b))
  | .out => outC m c (fun k h => ct (.tl k h))
  | .xb => xbC m c (ct .stX) | .w1 => w1C m c (ct .stW1) | .w2 => w2C m c (ct .stW2) | .hb => hbC m c (ct .hb)
  | .hc => hcC m c (fun q => ct (.hc q))
  | .tx σ b => txC m c σ b (ct (.sto σ b)) (ct (.snt σ b)) (ct (.bck σ b))
  | .rx σ b => rxC m c σ b (ct (.got σ b)) (ct (.fre σ b))
  | .crd σ => crdC c σ (ct (.crd σ))
  | .cpy σ => cpyC c σ (ct (.fre σ 0) + ct (.fre σ 1))
  | .knw σ => knwC c σ (2 * ct .bar + ct (.crd σ))

/-- Which component's counter a key may be. -/
def Cmp.dep : Cmp → Key → Prop
  | .owe, k => k = .pay
  | .bar, k => k = .bsig ∨ k = .bar
  | .cA b, k => k = .csA b ∨ k = .cwA b
  | .cB b, k => k = .csB b ∨ k = .cwB b
  | .out, k => ∃ t h, k = .tl t h
  | .xb, k => k = .stX | .w1, k => k = .stW1 | .w2, k => k = .stW2 | .hb, k => k = .hb
  | .hc, k => ∃ q, k = .hc q
  | .tx σ b, k => k = .sto σ b ∨ k = .snt σ b ∨ k = .bck σ b
  | .rx σ b, k => k = .got σ b ∨ k = .fre σ b
  | .crd σ, k => k = .crd σ
  | .cpy σ, k => k = .fre σ 0 ∨ k = .fre σ 1
  | .knw σ, k => k = .bar ∨ k = .crd σ

theorem comp_congr (c : Dev nD) {ct ct' : Key → ℕ} (i : Cmp) (h : ∀ k, i.dep k → ct k = ct' k) : comp m c ct i = comp m c ct' i := by
  cases i with
  | owe => dsimp only [comp]; rw [h .pay rfl]
  | bar => dsimp only [comp]; rw [h .bsig (.inl rfl), h .bar (.inr rfl)]
  | cA b => dsimp only [comp]; rw [h (.csA b) (.inl rfl), h (.cwA b) (.inr rfl)]
  | cB b => dsimp only [comp]; rw [h (.csB b) (.inl rfl), h (.cwB b) (.inr rfl)]
  | out => dsimp only [comp]; rw [funext fun t => funext fun u => h (.tl t u) ⟨t, u, rfl⟩]
  | xb => dsimp only [comp]; rw [h .stX rfl]
  | w1 => dsimp only [comp]; rw [h .stW1 rfl]
  | w2 => dsimp only [comp]; rw [h .stW2 rfl]
  | hb => dsimp only [comp]; rw [h .hb rfl]
  | hc => dsimp only [comp]; rw [funext fun q => h (.hc q) ⟨q, rfl⟩]
  | tx σ b => dsimp only [comp]; rw [h (.sto σ b) (.inl rfl), h (.snt σ b) (.inr (.inl rfl)), h (.bck σ b) (.inr (.inr rfl))]
  | rx σ b => dsimp only [comp]; rw [h (.got σ b) (.inl rfl), h (.fre σ b) (.inr rfl)]
  | crd σ => dsimp only [comp]; rw [h (.crd σ) rfl]
  | cpy σ => dsimp only [comp]; rw [h (.fre σ 0) (.inl rfl), h (.fre σ 1) (.inr rfl)]
  | knw σ => dsimp only [comp]; rw [h .bar (.inl rfl), h (.crd σ) (.inr rfl)]

/-! ## The state -/

variable (κ : Dev nD × Cl → ℕ) (ιs : SK → ℕ)

/-- A receive slot at rest, with any contents. -/
def slotOf (k : SK) : sProp 𝕄 := Release.slot ((rxS k.2.1 k.2.2).view.loc (k.1 : Thread nD τ)) (rxS k.2.1 k.2.2).view.set

omit [FloatOps F] in
instance slotOf_storable (k : SK) : BI.Storable (upEmb : UEmb _ 𝕄) (slotOf (F := F) k) := by unfold slotOf; infer_instance

/-- What every device knows throughout. -/
def Ctx : sProp 𝕄 :=
  iprop(levAts Lx lv
    ∗ bigSep Finset.univ (fun x : Dev nD × Cl => cellInv ER (Rd m) (κ x) (cell x.1 x.2))
    ∗ bigSep Finset.univ (fun x : Dev nD × Cl => reached ER (cell x.1 x.2) 0)
    ∗ bigSep Finset.univ (fun k : SK => Release.slotInv ES (ιs k) k (slotOf k)))

instance Ctx_persistent : BI.Persistent (Ctx m κ ιs) := by unfold Ctx; infer_instance

theorem Ctx_lev : Ctx m κ ιs ⊢ levAts Lx lv := by unfold Ctx; iintro ⟨#H, -⟩; iexact H
theorem Ctx_inv (c : Dev nD) (x : Cl) : Ctx m κ ιs ⊢ cellInv ER (Rd m) (κ (c, x)) (cell c x) := by
  unfold Ctx; iintro ⟨-, #H, -⟩
  iapply (bs_elim (Finset.mem_univ (c, x)) (Φ := fun x : Dev nD × Cl => cellInv ER (Rd m) (κ x) (cell x.1 x.2))) $$ H
theorem Ctx_reached (c : Dev nD) (x : Cl) : Ctx m κ ιs ⊢ reached ER (cell c x) 0 := by
  unfold Ctx; iintro ⟨-, -, #H, -⟩
  iapply (bs_elim (Finset.mem_univ (c, x)) (Φ := fun x : Dev nD × Cl => (reached ER (cell x.1 x.2) 0 : sProp 𝕄))) $$ H
theorem Ctx_slot (k : SK) : Ctx m κ ιs ⊢ Release.slotInv ES (ιs k) k (slotOf k) := by
  unfold Ctx; iintro ⟨-, -, -, #H⟩
  iapply (bs_elim (Finset.mem_univ k) (Φ := fun k : SK => (Release.slotInv ES (ιs k) k (slotOf k) : sProp 𝕄))) $$ H

/-- The state at the counters `ct`. -/
def StC (c : Dev nD) (ct : Key → ℕ) : sProp 𝕄 := iprop(Ctx m κ ιs ∗ bigSep Finset.univ (comp m c ct))
/-- The state before the `n`-th effect. -/
def St (c : Dev nD) (n : ℕ) : sProp 𝕄 := StC m κ ιs c (cnt n)

/-- The counters after an effect. -/
def bump (ct : Key → ℕ) (o : Op) : Key → ℕ := fun k => ct k + o.keys.count k

theorem St_succ (c : Dev nD) {n : ℕ} {o : Op} (h : opAt n = o) : St m κ ιs c (n + 1) = StC m κ ιs c (bump (cnt n) o) := by subst h; rfl

def sepL (f : Cmp → sProp 𝕄) : List Cmp → sProp 𝕄
  | [] => iprop(emp) | a :: l => iprop(f a ∗ sepL f l)

omit [FloatOps F] in
theorem sepL_eq (f : Cmp → sProp 𝕄) {l : List Cmp} (h : l.Nodup) : sepL f l = bigSep l.toFinset f := by
  induction l with
  | nil => rw [List.toFinset_nil, BI.bigSep_empty]; rfl
  | cons a l ih =>
    have h' := List.nodup_cons.mp h
    rw [List.toFinset_cons, bs_insert (by simpa using h'.1), ← ih h'.2]; rfl

/-- An effect acts on the components `l`; the others do not depend on the counters it moves. -/
theorem St_acc (c : Dev nD) {n : ℕ} {o : Op} (ho : opAt n = o) (l : List Cmp) (hl : l.Nodup)
    (h : ∀ i, i ∉ l → ∀ k, i.dep k → k ∉ o.keys) :
    St m κ ιs c n ⊢ iprop(Ctx m κ ιs ∗ sepL (comp m c (cnt n)) l ∗ (sepL (comp m c (bump (cnt n) o)) l -∗ St m κ ιs c (n + 1))) := by
  rw [St_succ m κ ιs c ho]
  unfold St StC
  rw [sepL_eq _ hl, sepL_eq _ hl, bs_split (Finset.subset_univ l.toFinset) (Φ := comp m c (cnt n)),
    bs_split (Finset.subset_univ l.toFinset) (Φ := comp m c (bump (cnt n) o)),
    BI.bigSep_congr (s := Finset.univ \ l.toFinset) (Ψ := comp m c (bump (cnt n) o)) fun i hi => by
      refine comp_congr m c i fun k hk => ?_
      have := h i (by simpa using hi) k hk
      unfold bump; rw [List.count_eq_zero_of_not_mem this]; rfl]
  iintro ⟨#HC, Hl, Hr⟩
  isplitr; · iexact HC
  isplitl [Hl]; · iexact Hl
  iintro Hl
  isplitr; · iexact HC
  isplitl [Hl]; · iexact Hl
  iexact Hr

end Cert.KernelIdeal.RingProof
-- ==== Proof.Deal.lean ====
/-
  The launch's ghost state: the tokens, positions and slot counts dealt to the devices, the credits each device starts
  with, and the kernel's semaphores by name.
-/
module

public import proofs.«01_k».proof.Proof.State

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section BigSep
variable {I J M : Type} [URA M] [DecidableEq I] [DecidableEq J]

/-- Part of a family, its members named through `f`. -/
theorem bs_pull {s : Finset I} {t : Finset J} (f : I → J) (hf : Set.InjOn f s) (hm : ∀ i ∈ s, f i ∈ t) {Φ : J → sProp M}
    {Ψ : I → sProp M} (h : ∀ i ∈ s, Φ (f i) = Ψ i) : bigSep t Φ ⊢ bigSep s Ψ := by
  rw [← BI.bigSep_congr h, ← BI.bigSep_image_of_injOn hf Φ]
  exact BI.bigSep_subset fun x hx => by obtain ⟨i, hi, rfl⟩ := Finset.mem_image.mp hx; exact hm i hi

omit [DecidableEq I] [DecidableEq J] in
theorem bs_sep {s : Finset I} {Φ Ψ : I → sProp M} : (bigSep s fun i => iprop(Φ i ∗ Ψ i)) = iprop(bigSep s Φ ∗ bigSep s Ψ) := BI.bigSep_sep' s Φ Ψ

/-- A family sorted by what `g` says of its members. -/
theorem bs_sort [Fintype J] (s : Finset I) (g : I → J) (Φ : I → sProp M) :
    bigSep s Φ = bigSep Finset.univ fun j => bigSep (s.filter fun i => g i = j) Φ := by
  have hs : s = Finset.univ.biUnion fun j => s.filter fun i => g i = j := by ext i; simp
  conv_lhs => rw [hs]
  exact BI.bigSep_biUnion_eq _ _ _ fun j _ j' _ hne =>
    Finset.disjoint_filter.mpr fun i _ hi hi' => hne (hi.symm.trans hi')

/-- A family over pairs. -/
theorem bs_product [Fintype J] (t : Finset I) (Φ : J × I → sProp M) :
    bigSep (Finset.univ ×ˢ t) Φ = bigSep Finset.univ fun j => bigSep t fun i => Φ (j, i) := by
  rw [bs_sort _ Prod.fst]
  refine BI.bigSep_congr fun j _ => ?_
  rw [show ((Finset.univ ×ˢ t).filter fun x : J × I => x.1 = j) = t.map ⟨fun i => (j, i), fun _ _ h => (Prod.mk.inj h).2⟩ from by
    ext ⟨a, b⟩
    rw [Finset.mem_filter, Finset.mem_product, Finset.mem_map]
    exact ⟨fun h => ⟨b, h.1.2, Prod.ext h.2.symm rfl⟩, fun ⟨i, h1, h2⟩ => by
      have h3 : j = a := congrArg Prod.fst h2
      have h4 : i = b := congrArg Prod.snd h2
      subst h3; subst h4; exact ⟨⟨Finset.mem_univ _, h1⟩, rfl⟩⟩, BI.bigSep_map]; rfl
end BigSep

/-! ## Families over the streams, the semaphores and the components, member by member -/

section Lists
variable {M : Type} [URA M]

theorem fin2_split (Φ : Fin 2 → sProp M) : bigSep Finset.univ Φ = iprop(Φ 0 ∗ Φ 1) :=
  BI.bigSep_univ_eq_bigSepL [0, 1] (by decide) (by decide) Φ

theorem strm_split (Φ : Strm → sProp M) : bigSep Finset.univ Φ = iprop(Φ .A ∗ Φ .B ∗ Φ .C ∗ Φ .D ∗ Φ .Z) :=
  BI.bigSep_univ_eq_bigSepL [Strm.A, Strm.B, Strm.C, Strm.D, Strm.Z] (by decide) (by decide) Φ

theorem slot_split (Φ : Strm × Fin 2 → sProp M) : bigSep Finset.univ Φ = bigSep Finset.univ fun σ : Strm => iprop(Φ (σ, 0) ∗ Φ (σ, 1)) := by
  rw [BI.bigSep_univ_prod]; exact BI.bigSep_congr fun σ _ => fin2_split _

/-- The semaphores of a stream. -/
def Cl.strm : Cl → Option Strm | .snd σ _ => some σ | .rcv σ _ => some σ | .crd σ => some σ | .bar => none
/-- The components of a stream. -/
def Cmp.strm : Cmp → Option Strm
  | .tx σ _ => some σ | .rx σ _ => some σ | .crd σ => some σ | .cpy σ => some σ | .knw σ => some σ | _ => none

theorem option_split (Φ : Option Strm → sProp M) : bigSep Finset.univ Φ = iprop(Φ none ∗ bigSep Finset.univ fun σ => Φ (some σ)) := by
  have h : (Finset.univ : Finset (Option Strm)) = insert none (Finset.univ.map Function.Embedding.some) := by
    ext x; cases x <;> simp
  rw [h, BI.bigSep_insert (by simp), BI.bigSep_map]; rfl

theorem cl_split (Φ : Cl → sProp M) : bigSep Finset.univ Φ
    = iprop(Φ .bar ∗ bigSep Finset.univ fun σ : Strm => iprop(Φ (.crd σ) ∗ Φ (.snd σ 0) ∗ Φ (.snd σ 1) ∗ Φ (.rcv σ 0) ∗ Φ (.rcv σ 1))) := by
  rw [bs_sort Finset.univ Cl.strm, option_split]
  congr 1
  · rw [show (Finset.univ.filter fun x : Cl => x.strm = none) = {.bar} by decide, bs_single]
  · refine BI.bigSep_congr fun σ _ => ?_
    exact BI.bigSep_eq_bigSepL_of_eq [Cl.crd σ, .snd σ 0, .snd σ 1, .rcv σ 0, .rcv σ 1] (by revert σ; decide +kernel) (by revert σ; decide +kernel) Φ

theorem cmp_split (Φ : Cmp → sProp M) : bigSep Finset.univ Φ
    = iprop((Φ .owe ∗ Φ .bar ∗ Φ (.cA 0) ∗ Φ (.cA 1) ∗ Φ (.cB 0) ∗ Φ (.cB 1) ∗ Φ .out ∗ Φ .xb ∗ Φ .w1 ∗ Φ .w2 ∗ Φ .hb ∗ Φ .hc)
      ∗ bigSep Finset.univ fun σ : Strm => iprop(Φ (.tx σ 0) ∗ Φ (.tx σ 1) ∗ Φ (.rx σ 0) ∗ Φ (.rx σ 1) ∗ Φ (.crd σ) ∗ Φ (.cpy σ) ∗ Φ (.knw σ))) := by
  rw [bs_sort Finset.univ Cmp.strm, option_split]
  congr 1
  · exact BI.bigSep_eq_bigSepL_of_eq (S := Finset.univ.filter fun x : Cmp => x.strm = none) [.owe, .bar, .cA 0, .cA 1, .cB 0, .cB 1, .out, .xb, .w1, .w2, .hb, .hc] (by decide +kernel) (by decide +kernel) Φ
  · refine BI.bigSep_congr fun σ _ => ?_
    exact BI.bigSep_eq_bigSepL_of_eq [Cmp.tx σ 0, .tx σ 1, .rx σ 0, .rx σ 1, .crd σ, .cpy σ, .knw σ] (by revert σ; decide +kernel) (by revert σ; decide +kernel) Φ
end Lists

/-! ## The tokens -/

/-- The device that performs duty `d` of a semaphore of device `c` is the one this takes to `c`. -/
def Cl.payee : Cl → ℕ → (Dev nD ≃ Dev nD)
  | .bar, d => btEquiv (Fin.ofNat 3 d) | .snd _ _, _ => Equiv.refl _ | .rcv σ _, _ => tgtEquiv σ | .crd σ, _ => (tgtEquiv σ).symm

abbrev TK : Type := Cl × Fin 5 × Fin 8

def tokOf (x : Dev nD × TK) : GSem nD τ sig × ℕ × ℕ := (cell (x.2.1.payee x.2.2.2.val x.1) x.2.1, x.2.2.1.val, x.2.2.2.val)
theorem tokOf_inj : Function.Injective tokOf := by
  rintro ⟨c, x, r, d⟩ ⟨c', x', r', d'⟩ h
  obtain ⟨h1, h2⟩ := cell_inj (congrArg Prod.fst h)
  have hr : r = r' := Fin.ext (congrArg (fun y : GSem nD τ sig × ℕ × ℕ => y.2.1) h)
  have hd : d = d' := Fin.ext (congrArg (fun y : GSem nD τ sig × ℕ × ℕ => y.2.2) h)
  dsimp only at h1 h2
  subst h2; subst hr; subst hd
  rw [(Equiv.injective _) h1]
theorem cellP_inj : Function.Injective (fun x : Dev nD × Cl => cell x.1 x.2) := fun ⟨_, _⟩ ⟨_, _⟩ h => Prod.ext (cell_inj h).1 (cell_inj h).2

def cells₁ : Finset (GSem nD τ sig) := Finset.univ.map ⟨fun x : Dev nD × Cl => cell x.1 x.2, cellP_inj⟩
def toks₁ : Finset (GSem nD τ sig × ℕ × ℕ) := Finset.univ.map ⟨tokOf, tokOf_inj⟩

/-- The launch element: the staging pipeline's, the rounds', the slots'. -/
def u₀ : UU :=
  (initOf (Pipeline.cells cfgs cellOf_inj) (Pipeline.launchToks cfgs cellOf_inj),
    (launchOf cells₁ ∅ toks₁, (Release.initSlots (Finset.univ : Finset SK) 5, 1)))

/-- The tokens of the duties a device performs. -/
def devToks (c : Dev nD) : sProp 𝕄 :=
  bigSep Finset.univ fun k : TK => dutyTok ER (cell (k.1.payee k.2.2.val c) k.1) k.2.1.val k.2.2.val
def clToks (c : Dev nD) (x : Cl) : sProp 𝕄 :=
  bigSep Finset.univ fun k : Fin 5 × Fin 8 => dutyTok ER (cell (x.payee k.2.val c) x) k.1.val k.2.val

omit [FloatOps F] in
theorem devToks_eq (c : Dev nD) : (devToks c : sProp 𝕄) = bigSep Finset.univ fun x : Cl => clToks c x := by
  unfold devToks clToks; rw [BI.bigSep_univ_prod]

theorem R_le (σ : Strm) (b : Fin 2) : σ.R b ≤ 5 := by cases σ <;> fin_cases b <;> decide
theorem T_le (σ : Strm) : σ.T - 2 ≤ 8 := by cases σ <;> decide

omit [FloatOps F] in
/-- The tokens of a semaphore with one duty a round. -/
theorem toks_rounds (c c' : Dev nD) (x : Cl) (n : ℕ) (hn : n ≤ 5) (hc : x.payee 0 c = c') :
    (clToks c x : sProp 𝕄) ⊢ bigSep (Finset.Ico 0 n) fun r => dutyTok ER (cell c' x) r 0 := by
  subst hc
  refine bs_pull (fun r => (Fin.ofNat 5 r, 0)) ?_ (fun _ _ => Finset.mem_univ _) ?_
  · intro a ha b hb h
    have ha := Finset.mem_Ico.mp (Finset.mem_coe.mp ha); have hb := Finset.mem_Ico.mp (Finset.mem_coe.mp hb)
    have h' : a % 5 = b % 5 := congrArg (fun y : Fin 5 × Fin 8 => y.1.val) h
    omega
  · intro r hr
    have hr := Finset.mem_Ico.mp hr
    show dutyTok ER (cell (x.payee 0 c) x) (r % 5) 0 = _
    rw [Nat.mod_eq_of_lt (by omega)]

omit [FloatOps F] in
/-- The tokens of the credits. -/
theorem toks_crd (c : Dev nD) (σ : Strm) : (clToks c (.crd σ) : sProp 𝕄) ⊢ cpyC c σ 0 := by
  unfold cpyC
  have := T_le σ
  refine bs_pull (fun d => (0, Fin.ofNat 8 d)) ?_ (fun _ _ => Finset.mem_univ _) ?_
  · intro a ha b hb h
    have ha := Finset.mem_Ico.mp (Finset.mem_coe.mp ha); have hb := Finset.mem_Ico.mp (Finset.mem_coe.mp hb)
    have h' : a % 8 = b % 8 := congrArg (fun y : Fin 5 × Fin 8 => y.2.val) h
    omega
  · intro d hd
    have hd := Finset.mem_Ico.mp hd
    show dutyTok ER (cell (up σ c) (.crd σ)) 0 (d % 8) = _
    rw [Nat.mod_eq_of_lt (by omega)]

omit [FloatOps F] in
/-- The tokens of the entry signals. -/
theorem toks_bar (c : Dev nD) : (clToks c .bar : sProp 𝕄)
    ⊢ bigSep (Finset.univ.filter fun i : Fin 3 => 0 ≤ i.val) fun i => dutyTok ER (cell (bt i c) .bar) 0 i.val := by
  refine bs_pull (fun i => (0, Fin.castLE (by decide) i)) ?_ (fun _ _ => Finset.mem_univ _) ?_
  · intro a _ b _ h
    exact Fin.ext (congrArg (fun y : Fin 5 × Fin 8 => y.2.val) h)
  · intro i _
    show dutyTok ER (cell (bt (Fin.ofNat 3 i.val) c) .bar) 0 i.val = _
    rw [show Fin.ofNat 3 i.val = i from by fin_cases i <;> rfl]

/-! ## The credits -/

/-- The semaphore a payment goes to, and whose it is. -/
def Pay.cl : Pay → Cl | .bsig _ => .bar | .snd σ b _ => .rcv σ b | .crd σ _ => .crd σ
def Pay.dev : Pay → (Dev nD ≃ Dev nD) | .bsig i => btEquiv i | .snd σ _ _ => tgtEquiv σ | .crd σ _ => (tgtEquiv σ).symm
theorem Pay.cell_eq (p : Pay) (d : Dev nD) : p.cell d = RingProof.cell (p.dev d) p.cl := by cases p <;> rfl

def credAt (c : Dev nD) (x : Cl) (i : ℕ) : sProp 𝕄 := cred (tallyAt (cell c x) (i + 1) x.amount)

omit [FloatOps F] in
theorem cred_one (c : Dev nD) (i : ℕ) : (Pipeline.launchCred (fun d => payTally d i) c : sProp 𝕄) ⊢ credAt c (payAt i).cl i := by
  refine (Pipeline.launchCred_elim _ c (payAt i).cl.loc).trans (Entails.of_eq ?_)
  unfold credAt
  refine congrArg cred ?_
  unfold tallyAt
  refine congrArg _ (Finsupp.ext fun u => ?_)
  rw [Pipeline.launchCredit_owing, Fintype.sum_eq_single ((payAt i).dev.symm c)]
  · unfold payTally
    rw [Pay.cell_eq, Equiv.apply_symm_apply, tallyAt_apply, Finsupp.single_apply]
    have ha : (payAt i).amt = (payAt i).cl.amount := by cases payAt i <;> rfl
    rw [ha]
    by_cases h : u = i + 1
    · rw [if_pos ⟨rfl, h⟩, if_pos h.symm]
    · rw [if_neg (fun h' => h h'.2), if_neg (fun h' => h h'.symm)]
  · intro d hd
    unfold payTally
    rw [Pay.cell_eq, tallyAt_apply, if_neg]
    rintro ⟨h, -⟩
    exact hd (by rw [(cell_inj (c := c) (x := (payAt i).cl) h).1, Equiv.symm_apply_apply])

/-- The credits a device starts with, by semaphore. -/
def clCreds (c : Dev nD) (x : Cl) : sProp 𝕄 := bigSep ((Finset.Ico 0 49).filter fun i => (payAt i).cl = x) (credAt c x)

omit [FloatOps F] in
theorem creds (c : Dev nD) : (Pipeline.launchCred (fun d => owed d 0) c : sProp 𝕄) ⊢ bigSep Finset.univ fun x : Cl => clCreds c x := by
  refine (Entails.of_eq (Pipeline.launchCred_sum (Finset.Ico 0 49) (fun i d => payTally d i) c)).trans ?_
  rw [bs_sort _ fun i => (payAt i).cl]
  refine BI.bigSep_mono fun x _ => ?_
  unfold clCreds
  refine BI.bigSep_mono fun i hi => ?_
  have := (Finset.mem_filter.mp hi).2
  subst this
  exact cred_one c i

theorem payIx_snd : ∀ (σ : Strm) (b : Fin 2), ∀ r ∈ Finset.Ico 0 (σ.R b), payIx (.snd σ b r) < 49 ∧ payAt (payIx (.snd σ b r)) = .snd σ b r := by
  decide +kernel
theorem payIx_crd : ∀ σ : Strm, ∀ j ∈ Finset.Ico 0 (σ.T - 2), payIx (.crd σ j) < 49 ∧ payAt (payIx (.crd σ j)) = .crd σ j := by
  decide +kernel

omit [FloatOps F] in
theorem creds_rcv (c : Dev nD) (σ : Strm) (b : Fin 2) : (clCreds c (.rcv σ b) : sProp 𝕄)
    ⊢ bigSep (Finset.Ico 0 (σ.R b)) fun r => cred (tallyAt (cell c (.rcv σ b)) (payIx (.snd σ b r) + 1) NM) := by
  unfold clCreds
  refine bs_pull (fun r => payIx (.snd σ b r)) ?_ ?_ fun _ _ => rfl
  · intro r hr r' hr' h
    have h1 := (payIx_snd σ b r (Finset.mem_coe.mp hr)).2
    rw [show payIx (.snd σ b r) = payIx (.snd σ b r') from h, (payIx_snd σ b r' (Finset.mem_coe.mp hr')).2] at h1
    injection h1 with _ _ h1; exact h1.symm
  · intro r hr
    obtain ⟨h1, h2⟩ := payIx_snd σ b r hr
    exact Finset.mem_filter.mpr ⟨Finset.mem_Ico.mpr ⟨Nat.zero_le _, h1⟩, by rw [h2]; rfl⟩

omit [FloatOps F] in
theorem creds_crd (c : Dev nD) (σ : Strm) : (clCreds c (.crd σ) : sProp 𝕄)
    ⊢ bigSep (Finset.Ico 0 (σ.T - 2)) fun j => cred (tallyAt (cell c (.crd σ)) (payIx (.crd σ j) + 1) 1) := by
  unfold clCreds
  refine bs_pull (fun j => payIx (.crd σ j)) ?_ ?_ fun _ _ => rfl
  · intro r hr r' hr' h
    have h1 := (payIx_crd σ r (Finset.mem_coe.mp hr)).2
    rw [show payIx (.crd σ r) = payIx (.crd σ r') from h, (payIx_crd σ r' (Finset.mem_coe.mp hr')).2] at h1
    injection h1 with _ h1; exact h1.symm
  · intro r hr
    obtain ⟨h1, h2⟩ := payIx_crd σ r hr
    exact Finset.mem_filter.mpr ⟨Finset.mem_Ico.mpr ⟨Nat.zero_le _, h1⟩, by rw [h2]; rfl⟩

omit [FloatOps F] in
theorem creds_bar (c : Dev nD) : (clCreds c .bar : sProp 𝕄)
    ⊢ bigSep (Finset.range 3) fun i => cred (tallyAt (cell c .bar) (i + 1) 1) := by
  unfold clCreds
  refine bs_pull (fun i => i) (fun _ _ _ _ h => h) ?_ fun _ _ => rfl
  intro i hi
  have hi := Finset.mem_range.mp hi
  refine Finset.mem_filter.mpr ⟨Finset.mem_Ico.mpr ⟨Nat.zero_le _, by omega⟩, ?_⟩
  match i, hi with
  | 0, _ => rfl
  | 1, _ => rfl
  | 2, _ => rfl

/-! ## The semaphores at launch -/

/-- The kernel's own semaphores: the streams', and those of the strip copies. -/
abbrev OK : Type := {x : Cl // x ≠ .bar} ⊕ (Fin 2 ⊕ Fin 2)
def osem : OK → SemLoc sig | .inl x => x.1.loc | .inr (.inl b) => .dma (cpySemA b) | .inr (.inr b) => .dma (cpySemB b)

theorem ownSemFacts : Pipeline.OwnSemFacts cfg0.spec osem := by decide +kernel

/-- The strip copies' semaphores at zero. -/
def copySems (c : Dev nD) : sProp 𝕄 :=
  iprop((semVal ((c : Thread nD τ), .dma (cpySemA 0)) 0 ∗ semVal ((c : Thread nD τ), .dma (cpySemA 1)) 0)
    ∗ (semVal ((c : Thread nD τ), .dma (cpySemB 0)) 0 ∗ semVal ((c : Thread nD τ), .dma (cpySemB 1)) 0))

omit [FloatOps F] in
theorem sep_turn (A B C : sProp 𝕄) : iprop((A ∗ B) ∗ C) = iprop((C ∗ A) ∗ B) := by
  have h1 : iprop((A ∗ B) ∗ C) ⊢ iprop((C ∗ A) ∗ B) := by
    iintro ⟨⟨H1, H2⟩, H3⟩
    isplitl [H1 H3]
    · isplitl [H3] <;> iassumption
    iexact H2
  have h2 : iprop((C ∗ A) ∗ B) ⊢ iprop((A ∗ B) ∗ C) := by
    iintro ⟨⟨H1, H2⟩, H3⟩
    isplitl [H2 H3]
    · isplitl [H2] <;> iassumption
    iexact H1
  exact BI.Entails.antisymm h1 h2

omit [FloatOps F] in
/-- The semaphores of a device at launch are the protocol's and the strip copies'. -/
theorem sems_eq (c : Dev nD) :
    iprop(Pipeline.ownSems0 (Ix := ℕ) (Name := ℕ) (U := UU) (Lvl := ℕ) (Val := Elt F) (τ := τ) osem c ∗ unscopedSems0 c)
      = (iprop((bigSep Finset.univ fun x : Cl => semVal (cell c x) 0) ∗ copySems c) : sProp 𝕄) := by
  have h1 : (unscopedSems0 c : sProp 𝕄) = semVal (cell c .bar) 0 := by
    unfold unscopedSems0; rw [bigSep_eq_bigSepL_of_eq [SemLoc.reg barSem] (by decide) (by decide)]; rfl
  have h2 : (Pipeline.ownSems0 (Ix := ℕ) (Name := ℕ) (U := UU) (Lvl := ℕ) (Val := Elt F) (τ := τ) osem c : sProp 𝕄)
      = iprop((bigSep (Finset.univ.filter fun x : Cl => x ≠ .bar) fun x => semVal (cell c x) 0) ∗ copySems c) := by
    unfold Pipeline.ownSems0 copySems
    rw [BI.bigSep_univ_sum, BI.bigSep_univ_sum, fin2_split, fin2_split]
    exact congrArg (fun X => iprop(X ∗ _)) (BI.bigSep_subtype (fun x : Cl => x ≠ .bar) fun x => (semVal (cell c x) 0 : sProp 𝕄))
  have h3 : (bigSep Finset.univ fun x : Cl => (semVal (cell c x) 0 : sProp 𝕄))
      = iprop(semVal (cell c .bar) 0 ∗ bigSep (Finset.univ.filter fun x : Cl => x ≠ .bar) fun x => semVal (cell c x) 0) := by
    rw [bs_take (Finset.mem_univ Cl.bar)]
    rw [show (Finset.univ.erase Cl.bar) = Finset.univ.filter fun x : Cl => x ≠ .bar by ext x; simp]
  rw [h1, h2, h3]
  exact sep_turn _ _ _

/-! ## The global step -/

variable (m : (ℓ : Loc nD τ sig) → Buf (Elt F) ℓ) (κ : Dev nD × Cl → ℕ) (ιs : SK → ℕ)

/-- What the launch element deals; the first device takes it all to the global step. -/
def G (c : Dev nD) : sProp 𝕄 :=
  if c = 0 then iprop(BI.own (ER (launchOf cells₁ ∅ toks₁)) ∗ BI.own (ES (Release.initSlots (Finset.univ : Finset SK) 5))) else iprop(emp)

/-- The facts every device gets. -/
def facts : sProp 𝕄 :=
  iprop(bigSep Finset.univ (fun x : Dev nD × Cl => cellInv ER (Rd m) (κ x) (cell x.1 x.2))
    ∗ bigSep Finset.univ (fun x : Dev nD × Cl => reached ER (cell x.1 x.2) 0)
    ∗ bigSep Finset.univ (fun k : SK => Release.slotInv ES (ιs k) k (slotOf k)))
instance facts_persistent : BI.Persistent (facts m κ ιs) := by unfold facts; infer_instance

/-- What a device gets for itself: its positions, the tokens of the duties it performs, its readers' counts, the tokens
    of the slots it writes, its copies' semaphores. -/
def linear (c : Dev nD) : sProp 𝕄 :=
  iprop((bigSep Finset.univ fun x : Cl => atPos ER (cell c x) 0 ∅ 0) ∗ devToks c
    ∗ (bigSep Finset.univ fun k : Strm × Fin 2 => Release.readerAt ES (c, k) 0)
    ∗ (bigSep Finset.univ fun k : Strm × Fin 2 => bigSep (Finset.range 5) fun i => Release.writeTok ES (tgt k.1 c, k) (i + 1))
    ∗ copySems c)

def G' (c : Dev nD) : sProp 𝕄 := iprop(∃ κ ιs, facts m κ ιs ∗ linear c)

/-- A slot's writer for its owner. -/
def wrEquiv : Dev nD × (Strm × Fin 2) ≃ SK where
  toFun x := (tgt x.2.1 x.1, x.2)
  invFun x := (up x.2.1 x.1, x.2)
  left_inv x := by obtain ⟨c, σ, b⟩ := x; exact Prod.ext (up_tgt σ c) rfl
  right_inv x := by obtain ⟨c, σ, b⟩ := x; exact Prod.ext (tgt_up σ c) rfl

omit [FloatOps F] in
theorem with_facts {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bs_sep]; exact BI.bigSep_mono h)

theorem glob : (bigSep Finset.univ fun c => iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' m) := by
  have hsplit (c : Dev nD) : iprop(Pipeline.ownSems0 (Ix := ℕ) (Name := ℕ) (U := UU) (Lvl := ℕ) (Val := Elt F) (τ := τ) osem c ∗ unscopedSems0 c ∗ G c)
      ⊢ (iprop((bigSep Finset.univ fun x : Cl => semVal (cell c x) 0) ∗ copySems c ∗ G c) : sProp 𝕄) := by
    iintro ⟨H1, H2, H3⟩
    ihave H := (Entails.of_eq (sems_eq (F := F) c)) $$ [H1 H2]
    · isplitl [H1] <;> iassumption
    icases H with ⟨H1, H2⟩
    isplitl [H1]; · iexact H1
    isplitl [H2] <;> iassumption
  refine (BI.bigSep_mono fun c _ => hsplit c).trans ?_
  rw [bs_sep, bs_sep, ← BI.bigSep_univ_prod (fun x : Dev nD × Cl => (semVal (cell x.1 x.2) 0 : sProp 𝕄))]
  have hcells (Φ : GSem nD τ sig → sProp 𝕄) : bigSep cells₁ Φ = bigSep Finset.univ fun x : Dev nD × Cl => Φ (cell x.1 x.2) := by
    unfold cells₁; rw [BI.bigSep_map]; rfl
  have htoks : (bigSep toks₁ fun x => (dutyTok ER x.1 x.2.1 x.2.2 : sProp 𝕄)) = bigSep Finset.univ fun c : Dev nD => devToks c := by
    unfold toks₁; rw [BI.bigSep_map, BI.bigSep_univ_prod]; rfl
  have hrd : (bigSep Finset.univ fun k : SK => (Release.readerAt ES k 0 : sProp 𝕄))
      = bigSep Finset.univ fun c : Dev nD => bigSep Finset.univ fun k : Strm × Fin 2 => Release.readerAt ES (c, k) 0 := BI.bigSep_univ_prod _
  have hwr : (bigSep ((Finset.univ : Finset SK) ×ˢ Finset.range 5) fun x => (Release.writeTok ES x.1 (x.2 + 1) : sProp 𝕄))
      = bigSep Finset.univ fun c : Dev nD => bigSep Finset.univ fun k : Strm × Fin 2 => bigSep (Finset.range 5) fun i =>
          Release.writeTok ES (tgt k.1 c, k) (i + 1) := by
    rw [bs_product, BI.bigSep_univ_equiv wrEquiv, BI.bigSep_univ_prod]; rfl
  have hat : (bigSep Finset.univ fun x : Dev nD × Cl => (atPos ER (cell x.1 x.2) 0 ∅ 0 : sProp 𝕄))
      = bigSep Finset.univ fun c : Dev nD => bigSep Finset.univ fun x : Cl => atPos ER (cell c x) 0 ∅ 0 := BI.bigSep_univ_prod _
  have hG : (bigSep Finset.univ fun c : Dev nD => (G c : sProp 𝕄))
      ⊢ iprop(BI.own (ER (launchOf cells₁ ∅ toks₁)) ∗ BI.own (ES (Release.initSlots (Finset.univ : Finset SK) 5))) :=
    (bs_elim (Finset.mem_univ (0 : Dev nD))).trans (Entails.of_eq (if_pos rfl))
  have hfl := Rounds.fund_launch ER (Rd m) (S := cells₁) (Sd := ∅) (Finset.disjoint_empty_right _) (fun _ h => absurd h (Finset.notMem_empty _)) toks₁ (Es := Set.univ)
  simp only [Finset.union_empty, hcells, htoks] at hfl
  have hsl := Release.slots_init (Es := Set.univ) (ES (F := F)) (Finset.univ : Finset SK) 5 slotOf
  rw [hrd, hwr] at hsl
  show (_ : sProp 𝕄) ⊢ _
  iintro ⟨Hv, Hcp, HG⟩
  ihave HG := hG $$ HG
  icases HG with ⟨HR, HS⟩
  imod hfl $$ [Hv HR] with ⟨%κ, -, Hinv, Hre, Hat, -, Htok⟩
  · isplitl [Hv] <;> iassumption
  imod hsl $$ HS with ⟨%ιs, -, Hsl, Hrd, Hwr⟩
  ihave Hat := (Entails.of_eq hat) $$ Hat
  imodintro
  iapply (with_facts (R := facts m (fun x => κ (cell x.1 x.2)) ιs) (Φ := linear) fun c _ => by
    unfold G'; iintro ⟨H1, H2⟩; iexists (fun x => κ (cell x.1 x.2)), ιs
    isplitl [H1] <;> iassumption)
  isplitl [Hinv Hre Hsl]
  · unfold facts
    isplitl [Hinv]; · iexact Hinv
    isplitl [Hre]; · iexact Hre
    iexact Hsl
  unfold linear
  rw [bs_sep, bs_sep, bs_sep, bs_sep]
  isplitl [Hat]; · iexact Hat
  isplitl [Htok]; · iexact Htok
  isplitl [Hrd]; · iexact Hrd
  isplitl [Hwr]; · iexact Hwr
  iexact Hcp

omit [FloatOps F] in
/-- The launch element's deal. -/
theorem fund : (ownU u₀ : sProp 𝕄) ⊢ |==> iprop(BI.own (EP (initOf (Pipeline.cells cfgs cellOf_inj) (Pipeline.launchToks cfgs cellOf_inj))) ∗ bigSep Finset.univ G) := by
  unfold u₀
  iintro Hu
  ihave H := (ownU_pair _ _) $$ Hu
  icases H with ⟨HP, HX⟩
  ihave H := (own_pair_emb embR _ _) $$ HX
  icases H with ⟨HR, HX⟩
  ihave H := (own_pair_emb _ _ _) $$ HX
  icases H with ⟨HS, -⟩
  imodintro
  isplitl [HP]; · iexact HP
  rw [bs_take (Finset.mem_univ (0 : Dev nD)), BI.bigSep_congr (s := Finset.univ.erase (0 : Dev nD)) (Ψ := fun _ => iprop(emp)) fun c hc => by
    unfold G; rw [if_neg (Finset.ne_of_mem_erase hc)]]
  isplitl
  · unfold G; rw [if_pos rfl]
    isplitl [HR]; · iexact HR
    iexact HS
  · iapply (show (iprop(emp) : sProp 𝕄) ⊢ _ from Entails.of_eq (BI.bigSep_emp_const _).symm)
    iempintro

end Cert.KernelIdeal.RingProof
-- ==== Proof.Loc.lean ====
/-
  The effects on a device's own buffers: loads, stores, and what they see.
-/
module

public import proofs.«01_k».proof.Proof.State
public import Idealize.ShloMosaic.Lib.ViewIndex

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The kernel makes no calls. -/
abbrev 𝒱₀ : Variants := Variants.none

/-- The rest of a device's program run to its end. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Reading what a rectangle's store left -/

section Rects
variable {κ' : Kind} {sp : Space} {s : Shape} {e : EltTy} (M : Memref sig κ' sp s e)

omit [FloatOps F] in
theorem read_same (r : Rect s) (f : M.view.ty.Contents (Elt F)) (w : r.shape.Idx → Elt F e) :
    M.view.readAt (Elt F) r.toLoadRect ((M.access r).write (Elt F) f w Finset.univ) = w := by
  rw [View.readAt_rect]; exact View.read_write_univ (v := M.view.slice r) f w

omit [FloatOps F] in
theorem read_other (r r' : Rect s) (f : M.view.ty.Contents (Elt F)) (w : r'.shape.Idx → Elt F e) (h : Disjoint r.set r'.set) :
    M.view.readAt (Elt F) r.toLoadRect ((M.access r').write (Elt F) f w Finset.univ) = M.view.readAt (Elt F) r.toLoadRect f := by
  rw [View.readAt_rect, View.readAt_rect]
  exact View.read_slice_write_slice_of_disjoint r r' f w Finset.univ (View.disjoint_slice h)

omit [FloatOps F] in
/-- A rectangle inside another reads part of what the other reads. -/
theorem read_inside (r r' : Rect s) (f g : M.view.ty.Contents (Elt F)) (e' : r.shape.Idx → r'.shape.Idx)
    (he : ∀ x, r.emb x = r'.emb (e' x)) (w : r'.shape.Idx → Elt F e)
    (h : M.view.readAt (Elt F) r'.toLoadRect f = w) : M.view.readAt (Elt F) r.toLoadRect f = fun x => w (e' x) := by
  subst h
  funext x
  show M.view.read (Elt F) f (r.emb x) = M.view.read (Elt F) f (r'.emb (e' x))
  rw [he]
end Rects

theorem tile_disjoint {c : Dev nD} {k k' : Fin 8} {h h' : Bool} (hne : (k, h) ≠ (k', h')) :
    Disjoint (tileR c k h).set (tileR c k' h').set := by
  by_cases hk : k = k'
  · subst hk
    have hh : h ≠ h' := fun e => hne (by rw [e])
    refine Rect.disjoint_of_separated _ _ 1 ?_
    cases h <;> cases h' <;> first | exact absurd rfl hh | (right; right; show 0 + 1 * (768 - 1) < 768; decide) | (left; right; show 0 + 1 * (768 - 1) < 768; decide)
  · refine Rect.disjoint_of_separated _ _ 0 ?_
    have h1 : (c.val + k.val) % 8 ≠ (c.val + k'.val) % 8 := fun e => hk (Fin.ext (by have := k.isLt; have := k'.isLt; omega))
    show (192 = 0 ∨ 192 * ((c.val + k.val) % 8) + 1 * (192 - 1) < 192 * ((c.val + k'.val) % 8))
      ∨ (192 = 0 ∨ 192 * ((c.val + k'.val) % 8) + 1 * (192 - 1) < 192 * ((c.val + k.val) % 8))
    omega

variable (m : (ℓ : Loc nD τ sig) → Buf (Elt F) ℓ) (κ : Dev nD × Cl → ℕ) (ιs : SK → ℕ)

/-! ## Which components an effect acts on -/

/-- The components that depend on a counter. -/
def Key.cmps : Key → List Cmp
  | .pay => [.owe] | .bsig => [.bar] | .bar => [.bar, .knw .A, .knw .B, .knw .C, .knw .D, .knw .Z]
  | .csA b => [.cA b] | .cwA b => [.cA b] | .csB b => [.cB b] | .cwB b => [.cB b]
  | .stX => [.xb] | .stW1 => [.w1] | .stW2 => [.w2] | .hb => [.hb] | .hc _ => [.hc] | .tl _ _ => [.out]
  | .sto σ b => [.tx σ b] | .snt σ b => [.tx σ b] | .bck σ b => [.tx σ b]
  | .got σ b => [.rx σ b] | .fre σ b => [.rx σ b, .cpy σ] | .crd σ => [.crd σ, .knw σ]

theorem dep_cmps {i : Cmp} {k : Key} (h : i.dep k) : i ∈ k.cmps := by
  cases i <;> simp only [Cmp.dep] at h
  case out => obtain ⟨_, _, rfl⟩ := h; simp [Key.cmps]
  case hc => obtain ⟨_, rfl⟩ := h; simp [Key.cmps]
  case knw σ => obtain rfl | rfl := h <;> cases σ <;> simp [Key.cmps]
  case tx => obtain rfl | rfl | rfl := h <;> simp [Key.cmps]
  case bar | cA | cB | rx | cpy => obtain rfl | rfl := h <;> simp [Key.cmps]
  all_goals subst h; simp [Key.cmps]

theorem acts {o : Op} {l : List Cmp} (h : ∀ k ∈ o.keys, ∀ i ∈ k.cmps, i ∈ l) : ∀ i, i ∉ l → ∀ k, i.dep k → k ∉ o.keys :=
  fun i hi k hk hk' => hi (h k hk' i (dep_cmps hk))

/-! ## Loads -/

theorem bump_nil (ct : Key → ℕ) {o : Op} (h : o.keys = []) : bump ct o = ct := by
  funext k; unfold bump; rw [h]; rfl

/-- The operation at `n`, named. -/
theorem at_op {c : Dev nD} {n : ℕ} {R : sProp 𝕄} (o : Op) (ho : opAt n = o) (h : opAt n = o → (St m κ ιs c n ⊢ R)) : St m κ ιs c n ⊢ R := h ho

/-- The state before an operation, its number written otherwise. -/
theorem St_norm {c : Dev nD} {n k : ℕ} {R : sProp 𝕄} (h : n = k) (hk : St m κ ιs c k ⊢ R) : St m κ ιs c n ⊢ R := h ▸ hk

/-- A load from a whole buffer: the program goes on at what the buffer's contents read as. -/
theorem step_load {c : Dev nD} {n : ℕ} {o : Op} (ho : opAt n = o) (hk0 : o.keys = []) (i : Cmp) {cs : CoreSpace} {s : Shape} {e : EltTy}
    {M : Memref sig .tc cs s e} {P : Buf (Elt F) (M.view.loc (c : Thread nD τ)) → Prop} (hi : comp m c (cnt n) i = good c M P)
    {r : LoadRect s} {hl : M.view.LoadsAt r} {α : Type} {k : (r.shape.Idx → Elt F e) → Prog (TpuEff nD τ sig (Elt F) Λ₀ .tc) α}
    {Q : α → sProp 𝕄} (hk : ∀ f, P f → St m κ ιs c (n + 1) ⊢ WP c (k (M.view.readAt (Elt F) r f)) Q) :
    St m κ ιs c n ⊢ WP c (.op (.load M r hl) k) Q := by
  refine (St_acc m κ ιs c ho [i] (by simp) (by intro j _ k _; rw [hk0]; simp)).trans ?_
  rw [bump_nil _ hk0]
  show iprop(_ ∗ (comp m c (cnt n) i ∗ emp) ∗ ((comp m c (cnt n) i ∗ emp) -∗ _)) ⊢ _
  rw [hi]; unfold good
  iintro ⟨-, ⟨⟨%f, %hf, Hp⟩, -⟩, Hcl⟩
  iapply (wp_load 𝒱₀ (c : Thread nD τ) none Set.univ (m := M) (r := r) (S := Finset.univ) (Finset.subset_univ _)) $$ Hp
  iintro Hp
  iapply (hk f hf)
  iapply Hcl
  isplitl [Hp]
  · iexists f
    isplitr; · ipureintro; exact hf
    iexact Hp
  · iempintro

/-- A load whose value the contents determine. -/
theorem step_val {c : Dev nD} {n : ℕ} {o : Op} (ho : opAt n = o) (hk0 : o.keys = []) (i : Cmp) {cs : CoreSpace} {s : Shape} {e : EltTy}
    {M : Memref sig .tc cs s e} {P : Buf (Elt F) (M.view.loc (c : Thread nD τ)) → Prop} (hi : comp m c (cnt n) i = good c M P)
    {r : LoadRect s} {hl : M.view.LoadsAt r} {α : Type} {k : (r.shape.Idx → Elt F e) → Prog (TpuEff nD τ sig (Elt F) Λ₀ .tc) α}
    {Q : α → sProp 𝕄} (v : r.shape.Idx → Elt F e) (hv : ∀ f, P f → M.view.readAt (Elt F) r f = v)
    (hk : St m κ ιs c (n + 1) ⊢ WP c (k v) Q) :
    St m κ ιs c n ⊢ WP c (.op (.load M r hl) k) Q :=
  step_load m κ ιs ho hk0 i hi fun f hf => by rw [hv f hf]; exact hk

/-- A store to a whole buffer. -/
theorem step_store {c : Dev nD} {n : ℕ} {o : Op} (ho : opAt n = o) (i : Cmp)
    (hdep : ∀ k ∈ o.keys, ∀ j ∈ k.cmps, j ∈ [i]) {cs : CoreSpace} {s : Shape} {e : EltTy}
    {M : Memref sig .tc cs s e} {P P' : Buf (Elt F) (M.view.loc (c : Thread nD τ)) → Prop} (hi : comp m c (cnt n) i = good c M P)
    (hi' : comp m c (bump (cnt n) o) i = good c M P')
    {r : Rect s} {w : r.shape.Idx → Elt F e} {hx : (M.access r).Stores Finset.univ} {hm : (Finset.univ : Finset r.shape.Idx) = Finset.univ ∨ ∀ a, r.stride a = 1} {α : Type}
    {k : PUnit → Prog (TpuEff nD τ sig (Elt F) Λ₀ .tc) α}
    {Q : α → sProp 𝕄} (hw : ∀ f, P f → P' ((M.access r).write (Elt F) f w Finset.univ))
    (hk : St m κ ιs c (n + 1) ⊢ WP c (k ⟨⟩) Q) :
    St m κ ιs c n ⊢ WP c (.op (.store M r w Finset.univ hx hm) k) Q := by
  refine (St_acc m κ ιs c ho [i] (by simp) (acts hdep)).trans ?_
  show iprop(_ ∗ (comp m c (cnt n) i ∗ emp) ∗ ((comp m c (bump (cnt n) o) i ∗ emp) -∗ _)) ⊢ _
  rw [hi, hi']; unfold good
  iintro ⟨-, ⟨⟨%f, %hf, Hp⟩, -⟩, Hcl⟩
  iapply (wp_store 𝒱₀ (c : Thread nD τ) none Set.univ (m := M) (r := r) (S := Finset.univ) (Finset.subset_univ _)) $$ Hp
  iintro Hp
  iapply hk
  iapply Hcl
  isplitl [Hp]
  · iexists _
    isplitr; · ipureintro; exact hw f hf
    iexact Hp
  · iempintro

end Cert.KernelIdeal.RingProof
-- ==== Proof.Copy.lean ====
/-
  The copies of the arguments' strips into the device's memory: starting one, waiting for it, loading the strip.
-/
module

public import proofs.«01_k».proof.Proof.Loc

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × Cl → ℕ) (ιs : SK → ℕ)

/-- The elements a load of a slot reads are the slot's. -/
theorem slot_set {κ' : Kind} {sp : Space} {s s' : Shape} {e : EltTy} (M : Memref sig κ' sp s e) (r : Rect s) (h1 : ∀ a, r.stride a = 1)
    (h2 : r.shape.Squeezes s') : M.view.setOn r.toLoadRect.set = ((M.slice r h1).squeeze s' h2).view.set := by
  exact ((View.set_reshape (M.view.slice r) h2.numel_eq).trans (View.set_slice M.view r)).symm

/-- An argument's strip out of the share of the whole argument, and back. -/
theorem arg_acc (c : Dev nD) (b : Fin 2) {sp : Space} {s : Shape} {e : EltTy} (M : Memref sig .tc sp s e) (r : Rect s) (h : ∀ a, r.stride a = 1) :
    argPt m c M b ⊢ iprop(((M.slice r h).view.loc (c : Thread nD τ) ↦[(M.slice r h).view.set]{hs b} m ((M.slice r h).view.loc (c : Thread nD τ)))
      ∗ (((M.slice r h).view.loc (c : Thread nD τ) ↦[(M.slice r h).view.set]{hs b} m ((M.slice r h).view.loc (c : Thread nD τ))) -∗ argPt m c M b)) := by
  unfold argPt
  have e := (pointsTo_split_subset (q := hs b) (f := m (M.view.loc (c : Thread nD τ))) (Finset.subset_univ (M.slice r h).view.set) :
    (M.view.loc (c : Thread nD τ) ↦[Finset.univ]{hs b} m (M.view.loc (c : Thread nD τ)) : sProp 𝕄) ⊣⊢ _)
  iintro H
  ihave H := e.1 $$ H
  icases H with ⟨H1, H2⟩
  isplitl [H1]; · iexact H1
  iintro H1
  iapply e.2
  isplitl [H1]; · iexact H1
  iexact H2

theorem srcB_acc (c : Dev nD) (b : Fin 2) (i : Fin 6) :
    argPt m c a2M b ⊢ iprop(((srcB i).view.loc (c : Thread nD τ) ↦[(srcB i).view.set]{hs b} m ((srcB i).view.loc (c : Thread nD τ)))
      ∗ (((srcB i).view.loc (c : Thread nD τ) ↦[(srcB i).view.set]{hs b} m ((srcB i).view.loc (c : Thread nD τ))) -∗ argPt m c a2M b)) :=
  arg_acc m c b a2M (rowR i) (fun _ => rfl)

theorem left_acc {P R T : sProp 𝕄} (h : P ⊢ iprop(T ∗ (T -∗ P))) : iprop(P ∗ R) ⊢ iprop(T ∗ (T -∗ (P ∗ R))) := by
  iintro ⟨HP, HR⟩
  ihave H := h $$ HP
  icases H with ⟨HT, HP⟩
  isplitl [HT]; · iexact HT
  iintro HT
  isplitl [HT HP]; · iapply HP; iexact HT
  iexact HR
theorem right_acc {P R T : sProp 𝕄} (h : P ⊢ iprop(T ∗ (T -∗ P))) : iprop(R ∗ P) ⊢ iprop(T ∗ (T -∗ (R ∗ P))) := by
  iintro ⟨HR, HP⟩
  ihave H := h $$ HP
  icases H with ⟨HT, HP⟩
  isplitl [HT]; · iexact HT
  iintro HT
  isplitl [HR]; · iexact HR
  iapply HP; iexact HT

theorem srcA_acc (c : Dev nD) (b : Fin 2) (i : Fin 9) :
    iprop(argPt m c a0M b ∗ argPt m c a1M b) ⊢ iprop(((srcA i).view.loc (c : Thread nD τ) ↦[(srcA i).view.set]{hs b} m ((srcA i).view.loc (c : Thread nD τ)))
      ∗ (((srcA i).view.loc (c : Thread nD τ) ↦[(srcA i).view.set]{hs b} m ((srcA i).view.loc (c : Thread nD τ))) -∗ (argPt m c a0M b ∗ argPt m c a1M b))) := by
  have w (j : Fin 6) := right_acc (R := argPt m c a0M b) (arg_acc m c b a1M (colR j) (fun _ => rfl))
  have x (j : Fin 3) := left_acc (R := argPt m c a1M b) (arg_acc m c b a0M (xcolR j) (fun _ => rfl))
  match i with
  | 0 => exact w 0 | 1 => exact w 1 | 2 => exact w 2 | 3 => exact w 3 | 4 => exact w 4 | 5 => exact w 5
  | 6 => exact x 0 | 7 => exact x 1 | 8 => exact x 2

section Copies
variable {c : Dev nD} {n : ℕ} {α : Type}

/-! ## The copies of the first weight's and `x`'s strips -/

/-- What a copy leaves in its buffer. -/
theorem copiedA (c : Dev nD) (i : Fin 9) (b : Fin 2) (fd : Buf (Elt F) ((sAS b).view.loc (c : Thread nD τ))) :
    (sAM.view.readAt (Elt F) (sAR b).toLoadRect ((sAS b).view.write (Elt F) fd
      ((srcA i).view.read (Elt F) (m ((srcA i).view.loc (c : Thread nD τ)))) Finset.univ) : Vec F S1x1536x512 .f32) = stripA m c i := by
  funext x
  refine Eq.trans ?_ (View.read_write_reshape (sAM.view.slice (sAR b)) (squeezes_S1x1536x512_S1536x512).numel_eq fd
    ((srcA i).view.read (Elt F) (m ((srcA i).view.loc (c : Thread nD τ)))) ((Shape.reshapeEquiv (squeezes_S1x1536x512_S1536x512).numel_eq).symm x))
  rw [Equiv.apply_symm_apply]; rfl

theorem csA {i : Fin 9} (ho : opAt n = .csA i) {src : Memref sig .tc .hbm S1536x512 .f32} {dst : Memref sig .tc .vmem S1536x512 .f32} {sem : DmaSem sig}
    {hsrc : src.view.WordExact} {hdst : dst.view.WordExact} {hsem : DmaTarget.Typed (nD := nD) (τ := τ) (p := Proc.tc) .hbm (.dma sem) (.here dst)}
    {kk : PUnit → Prog (TpuEff nD τ sig (Elt F) Λ₀ .tc) α} {Q : α → sProp 𝕄}
    (hs' : src = srcA i) (hd' : dst = sAS (par i.val)) (he : sem = cpySemA (par i.val))
    (hn : cnt n (.csA (par i.val)) = i.val / 2 ∧ cnt n (.cwA (par i.val)) = i.val / 2)
    (hk : St m κ ιs c (n + 1) ⊢ WP c (kk ⟨⟩) Q) :
    St m κ ιs c n ⊢ WP c (.op (.enqueueDma src (.here dst) (.dma sem) hsrc hdst hsem) kk) Q := by
  subst hs' hd' he
  refine (St_acc m κ ιs c ho [.cA (par i.val)] (by simp) (acts (by simp [Op.keys, Key.cmps]))).trans ?_
  have h0 : comp m c (cnt n) (.cA (par i.val)) = iprop(semVal ((c : Thread nD τ), .dma (cpySemA (par i.val))) 0 ∗ cpA m c (par i.val) (i.val / 2)) := by
    show cAC m c _ _ _ = _
    rw [hn.1, hn.2]; exact if_pos rfl
  have h1 : comp m c (bump (cnt n) (.csA i)) (.cA (par i.val)) = iprop(∃ D, Transfers.Flight EC (c : Thread nD τ) (.dma (cpySemA (par i.val))) 0 (sAS (par i.val)).view.dmaCredit D ∗ (D -∗ cpA m c (par i.val) (i.val / 2 + 1))) := by
    have e1 : bump (cnt n) (.csA i) (.csA (par i.val)) = i.val / 2 + 1 := by simp [bump, Op.keys, hn.1]
    have e2 : bump (cnt n) (.csA i) (.cwA (par i.val)) = i.val / 2 := by simp [bump, Op.keys, hn.2]
    show cAC m c _ _ _ = _
    rw [e1, e2]; exact if_neg (by omega)
  show iprop(_ ∗ (comp m c (cnt n) _ ∗ emp) ∗ ((comp m c (bump (cnt n) _) _ ∗ emp) -∗ _)) ⊢ _
  rw [h0, h1]; unfold cpA
  iintro ⟨-, ⟨⟨Hz, ⟨%f, -, Hd⟩, Harg⟩, -⟩, Hcl⟩
  ihave Hs := srcA_acc m c (par i.val) i $$ Harg
  icases Hs with ⟨Hs, Hback⟩
  iapply (Transfers.wp_dmaLocal EC 𝒱₀ (c : Thread nD τ) none 0 (sAS (par i.val)).view.dmaCredit rfl (View.dmaCredit_pos _ (by decide)) (Finset.Subset.refl _)) $$ [Hs Hd Hz]
  · isplitl [Hs]; · iexact Hs
    isplitl [Hd]; · iexact Hd
    iexact Hz
  iintro Hf
  iapply hk
  iapply Hcl
  isplitl [Hf Hback]
  · iexists _
    isplitl [Hf]; · iexact Hf
    iintro ⟨Hd, Hs⟩
    isplitl [Hd]
    · iexists ((sAS (par i.val)).view.write (Elt F) f ((srcA i).view.read (Elt F) (m ((srcA i).view.loc (c : Thread nD τ)))) Finset.univ)
      isplitr
      · ipureintro
        intro i' hi'
        obtain rfl : i' = i := Fin.ext (by unfold par at hi'; dsimp only at hi'; omega)
        exact copiedA m c i' (par i'.val) f
      iexact Hd
    · iapply Hback; iexact Hs
  · iempintro

theorem cwA {i : Fin 9} (ho : opAt n = .cwA i) {src : Memref sig .tc .hbm S1536x512 .f32} {dst : Memref sig .tc .vmem S1536x512 .f32} {sem : DmaSem sig}
    {hsrc : src.view.WordExact} {hdst : dst.view.WordExact}
    {kk : PUnit → Prog (TpuEff nD τ sig (Elt F) Λ₀ .tc) α} {Q : α → sProp 𝕄}
    (hd' : dst = sAS (par i.val)) (he : sem = cpySemA (par i.val))
    (hn : cnt n (.csA (par i.val)) = i.val / 2 + 1 ∧ cnt n (.cwA (par i.val)) = i.val / 2)
    (hk : St m κ ιs c (n + 1) ⊢ WP c (kk ⟨⟩) Q) :
    St m κ ιs c n ⊢ WP c (.op (.waitDma2 sem src dst hsrc hdst) kk) Q := by
  subst hd' he
  refine (St_acc m κ ιs c ho [.cA (par i.val), .owe] (by simp) (acts (by simp [Op.keys, Key.cmps]))).trans ?_
  have h0 : comp m c (cnt n) (.cA (par i.val)) = iprop(∃ D, Transfers.Flight EC (c : Thread nD τ) (.dma (cpySemA (par i.val))) 0 (sAS (par i.val)).view.dmaCredit D ∗ (D -∗ cpA m c (par i.val) (i.val / 2 + 1))) := by
    show cAC m c _ _ _ = _
    rw [hn.1, hn.2]; exact if_neg (by omega)
  have h1 : comp m c (bump (cnt n) (.cwA i)) (.cA (par i.val)) = iprop(semVal ((c : Thread nD τ), .dma (cpySemA (par i.val))) 0 ∗ cpA m c (par i.val) (i.val / 2 + 1)) := by
    have e1 : bump (cnt n) (.cwA i) (.csA (par i.val)) = i.val / 2 + 1 := by simp [bump, Op.keys, hn.1]
    have e2 : bump (cnt n) (.cwA i) (.cwA (par i.val)) = i.val / 2 + 1 := by simp [bump, Op.keys, hn.2]
    show cAC m c _ _ _ = _
    rw [e1, e2]; exact if_pos rfl
  have h2 : comp m c (bump (cnt n) (.cwA i)) .owe = comp m c (cnt n) .owe := by
    show oweC c _ = oweC c _
    congr 1
  show iprop(_ ∗ (comp m c (cnt n) _ ∗ comp m c (cnt n) _ ∗ emp) ∗ ((comp m c (bump (cnt n) _) _ ∗ comp m c (bump (cnt n) _) _ ∗ emp) -∗ _)) ⊢ _
  rw [h0, h1, h2]
  show iprop(_ ∗ (_ ∗ oweC c (cnt n .pay) ∗ emp) ∗ ((_ ∗ oweC c (cnt n .pay) ∗ emp) -∗ _)) ⊢ _
  unfold oweC
  iintro ⟨#HC, ⟨⟨%D, Hf, HD⟩, ⟨%W, HO⟩, -⟩, Hcl⟩
  iapply (Transfers.wp_waitLocalO EC 𝒱₀ (c : Thread nD τ) none 0 rfl) $$ [Hf HO]
  · isplitl [Hf]; · iexact Hf
    isplitl [HO]; · iexact HO
    iapply (mayWait c (cnt n .pay) _ 0 (Nat.zero_le _) (by decide))
    iapply (Ctx_lev m κ ιs) $$ HC
  iintro ⟨Hd, Hz, HO⟩
  iapply hk
  iapply Hcl
  isplitl [Hd HD Hz]
  · isplitl [Hz]; · iexact Hz
    iapply HD; iexact Hd
  isplitl [HO]
  · iexists _; iexact HO
  · iempintro

theorem ldA {i : Fin 9} (ho : opAt n = .ldA i) {off : Fin 3 → ℕ} {inb : ∀ a, off a + (S1x1536x512).size a ≤ (S2x1536x512).size a}
    {hl : sAM.view.LoadsAt (Rect.unit (s := S2x1536x512) off (S1x1536x512).size inb).toLoadRect}
    {kk : Vec F S1x1536x512 .f32 → Prog (TpuEff nD τ sig (Elt F) Λ₀ .tc) α} {Q : α → sProp 𝕄}
    (hoff : off = ![(par i.val).val, 0, 0])
    (hn : cnt n (.csA (par i.val)) = i.val / 2 + 1 ∧ cnt n (.cwA (par i.val)) = i.val / 2 + 1)
    (hk : St m κ ιs c (n + 1) ⊢ WP c (kk (stripA m c i)) Q) :
    St m κ ιs c n ⊢ WP c (.op (.load sAM (Rect.unit (s := S2x1536x512) off (S1x1536x512).size inb).toLoadRect hl) kk) Q := by
  subst hoff
  refine (St_acc m κ ιs c ho [.cA (par i.val)] (by simp) (acts (by simp [Op.keys]))).trans ?_
  rw [bump_nil _ (by rfl)]
  have h0 : comp m c (cnt n) (.cA (par i.val)) = iprop(semVal ((c : Thread nD τ), .dma (cpySemA (par i.val))) 0 ∗ cpA m c (par i.val) (i.val / 2 + 1)) := by
    show cAC m c _ _ _ = _
    rw [hn.1, hn.2]; exact if_pos rfl
  show iprop(_ ∗ (comp m c (cnt n) _ ∗ emp) ∗ ((comp m c (cnt n) _ ∗ emp) -∗ _)) ⊢ _
  rw [h0]; unfold cpA
  iintro ⟨-, ⟨⟨Hz, ⟨%f, %hf, Hd⟩, Harg⟩, -⟩, Hcl⟩
  iapply (wp_load 𝒱₀ (c : Thread nD τ) none Set.univ (m := sAM) (S := (sAS (par i.val)).view.set)
    (r := (Rect.unit (s := S2x1536x512) ![(par i.val).val, 0, 0] (S1x1536x512).size inb).toLoadRect)
    (by rw [slot_set sAM (sAR (par i.val)) (fun _ => rfl) squeezes_S1x1536x512_S1536x512])) $$ Hd
  iintro Hd
  rw [show (sAM.view.readAt (Elt F) (Rect.unit (s := S2x1536x512) ![(par i.val).val, 0, 0] (S1x1536x512).size inb).toLoadRect f : Vec F S1x1536x512 .f32) = stripA m c i from
    hf i (by unfold par; dsimp only; omega)]
  iapply hk
  iapply Hcl
  isplitl [Hz Hd Harg]
  · isplitl [Hz]; · iexact Hz
    isplitl [Hd]
    · iexists f
      isplitr; · ipureintro; exact hf
      iexact Hd
    · iexact Harg
  · iempintro

/-! ## The copies of the second weight's strips -/

/-- What a copy leaves in its buffer. -/
theorem copiedB (c : Dev nD) (i : Fin 6) (b : Fin 2) (fd : Buf (Elt F) ((sBS b).view.loc (c : Thread nD τ))) :
    (sBM.view.readAt (Elt F) (sBR b).toLoadRect ((sBS b).view.write (Elt F) fd
      ((srcB i).view.read (Elt F) (m ((srcB i).view.loc (c : Thread nD τ)))) Finset.univ) : Vec F S1x512x1536 .f32) = stripB m c i := by
  funext x
  refine Eq.trans ?_ (View.read_write_reshape (sBM.view.slice (sBR b)) (squeezes_S1x512x1536_S512x1536).numel_eq fd
    ((srcB i).view.read (Elt F) (m ((srcB i).view.loc (c : Thread nD τ)))) ((Shape.reshapeEquiv (squeezes_S1x512x1536_S512x1536).numel_eq).symm x))
  rw [Equiv.apply_symm_apply]; rfl

theorem csB {i : Fin 6} (ho : opAt n = .csB i) {src : Memref sig .tc .hbm S512x1536 .f32} {dst : Memref sig .tc .vmem S512x1536 .f32} {sem : DmaSem sig}
    {hsrc : src.view.WordExact} {hdst : dst.view.WordExact} {hsem : DmaTarget.Typed (nD := nD) (τ := τ) (p := Proc.tc) .hbm (.dma sem) (.here dst)}
    {kk : PUnit → Prog (TpuEff nD τ sig (Elt F) Λ₀ .tc) α} {Q : α → sProp 𝕄}
    (hs' : src = srcB i) (hd' : dst = sBS (par i.val)) (he : sem = cpySemB (par i.val))
    (hn : cnt n (.csB (par i.val)) = i.val / 2 ∧ cnt n (.cwB (par i.val)) = i.val / 2)
    (hk : St m κ ιs c (n + 1) ⊢ WP c (kk ⟨⟩) Q) :
    St m κ ιs c n ⊢ WP c (.op (.enqueueDma src (.here dst) (.dma sem) hsrc hdst hsem) kk) Q := by
  subst hs' hd' he
  refine (St_acc m κ ιs c ho [.cB (par i.val)] (by simp) (acts (by simp [Op.keys, Key.cmps]))).trans ?_
  have h0 : comp m c (cnt n) (.cB (par i.val)) = iprop(semVal ((c : Thread nD τ), .dma (cpySemB (par i.val))) 0 ∗ cpB m c (par i.val) (i.val / 2)) := by
    show cBC m c _ _ _ = _
    rw [hn.1, hn.2]; exact if_pos rfl
  have h1 : comp m c (bump (cnt n) (.csB i)) (.cB (par i.val)) = iprop(∃ D, Transfers.Flight EC (c : Thread nD τ) (.dma (cpySemB (par i.val))) 0 (sBS (par i.val)).view.dmaCredit D ∗ (D -∗ cpB m c (par i.val) (i.val / 2 + 1))) := by
    have e1 : bump (cnt n) (.csB i) (.csB (par i.val)) = i.val / 2 + 1 := by simp [bump, Op.keys, hn.1]
    have e2 : bump (cnt n) (.csB i) (.cwB (par i.val)) = i.val / 2 := by simp [bump, Op.keys, hn.2]
    show cBC m c _ _ _ = _
    rw [e1, e2]; exact if_neg (by omega)
  show iprop(_ ∗ (comp m c (cnt n) _ ∗ emp) ∗ ((comp m c (bump (cnt n) _) _ ∗ emp) -∗ _)) ⊢ _
  rw [h0, h1]; unfold cpB
  iintro ⟨-, ⟨⟨Hz, ⟨%f, -, Hd⟩, Harg⟩, -⟩, Hcl⟩
  ihave Hs := srcB_acc m c (par i.val) i $$ Harg
  icases Hs with ⟨Hs, Hback⟩
  iapply (Transfers.wp_dmaLocal EC 𝒱₀ (c : Thread nD τ) none 0 (sBS (par i.val)).view.dmaCredit rfl (View.dmaCredit_pos _ (by decide)) (Finset.Subset.refl _)) $$ [Hs Hd Hz]
  · isplitl [Hs]; · iexact Hs
    isplitl [Hd]; · iexact Hd
    iexact Hz
  iintro Hf
  iapply hk
  iapply Hcl
  isplitl [Hf Hback]
  · iexists _
    isplitl [Hf]; · iexact Hf
    iintro ⟨Hd, Hs⟩
    isplitl [Hd]
    · iexists ((sBS (par i.val)).view.write (Elt F) f ((srcB i).view.read (Elt F) (m ((srcB i).view.loc (c : Thread nD τ)))) Finset.univ)
      isplitr
      · ipureintro
        intro i' hi'
        obtain rfl : i' = i := Fin.ext (by unfold par at hi'; dsimp only at hi'; omega)
        exact copiedB m c i' (par i'.val) f
      iexact Hd
    · iapply Hback; iexact Hs
  · iempintro

theorem cwB {i : Fin 6} (ho : opAt n = .cwB i) {src : Memref sig .tc .hbm S512x1536 .f32} {dst : Memref sig .tc .vmem S512x1536 .f32} {sem : DmaSem sig}
    {hsrc : src.view.WordExact} {hdst : dst.view.WordExact}
    {kk : PUnit → Prog (TpuEff nD τ sig (Elt F) Λ₀ .tc) α} {Q : α → sProp 𝕄}
    (hd' : dst = sBS (par i.val)) (he : sem = cpySemB (par i.val))
    (hn : cnt n (.csB (par i.val)) = i.val / 2 + 1 ∧ cnt n (.cwB (par i.val)) = i.val / 2)
    (hk : St m κ ιs c (n + 1) ⊢ WP c (kk ⟨⟩) Q) :
    St m κ ιs c n ⊢ WP c (.op (.waitDma2 sem src dst hsrc hdst) kk) Q := by
  subst hd' he
  refine (St_acc m κ ιs c ho [.cB (par i.val), .owe] (by simp) (acts (by simp [Op.keys, Key.cmps]))).trans ?_
  have h0 : comp m c (cnt n) (.cB (par i.val)) = iprop(∃ D, Transfers.Flight EC (c : Thread nD τ) (.dma (cpySemB (par i.val))) 0 (sBS (par i.val)).view.dmaCredit D ∗ (D -∗ cpB m c (par i.val) (i.val / 2 + 1))) := by
    show cBC m c _ _ _ = _
    rw [hn.1, hn.2]; exact if_neg (by omega)
  have h1 : comp m c (bump (cnt n) (.cwB i)) (.cB (par i.val)) = iprop(semVal ((c : Thread nD τ), .dma (cpySemB (par i.val))) 0 ∗ cpB m c (par i.val) (i.val / 2 + 1)) := by
    have e1 : bump (cnt n) (.cwB i) (.csB (par i.val)) = i.val / 2 + 1 := by simp [bump, Op.keys, hn.1]
    have e2 : bump (cnt n) (.cwB i) (.cwB (par i.val)) = i.val / 2 + 1 := by simp [bump, Op.keys, hn.2]
    show cBC m c _ _ _ = _
    rw [e1, e2]; exact if_pos rfl
  have h2 : comp m c (bump (cnt n) (.cwB i)) .owe = comp m c (cnt n) .owe := by
    show oweC c _ = oweC c _
    congr 1
  show iprop(_ ∗ (comp m c (cnt n) _ ∗ comp m c (cnt n) _ ∗ emp) ∗ ((comp m c (bump (cnt n) _) _ ∗ comp m c (bump (cnt n) _) _ ∗ emp) -∗ _)) ⊢ _
  rw [h0, h1, h2]
  show iprop(_ ∗ (_ ∗ oweC c (cnt n .pay) ∗ emp) ∗ ((_ ∗ oweC c (cnt n .pay) ∗ emp) -∗ _)) ⊢ _
  unfold oweC
  iintro ⟨#HC, ⟨⟨%D, Hf, HD⟩, ⟨%W, HO⟩, -⟩, Hcl⟩
  iapply (Transfers.wp_waitLocalO EC 𝒱₀ (c : Thread nD τ) none 0 rfl) $$ [Hf HO]
  · isplitl [Hf]; · iexact Hf
    isplitl [HO]; · iexact HO
    iapply (mayWait c (cnt n .pay) _ 0 (Nat.zero_le _) (by decide))
    iapply (Ctx_lev m κ ιs) $$ HC
  iintro ⟨Hd, Hz, HO⟩
  iapply hk
  iapply Hcl
  isplitl [Hd HD Hz]
  · isplitl [Hz]; · iexact Hz
    iapply HD; iexact Hd
  isplitl [HO]
  · iexists _; iexact HO
  · iempintro

theorem ldB {i : Fin 6} (ho : opAt n = .ldB i) {off : Fin 3 → ℕ} {inb : ∀ a, off a + (S1x512x1536).size a ≤ (S2x512x1536).size a}
    {hl : sBM.view.LoadsAt (Rect.unit (s := S2x512x1536) off (S1x512x1536).size inb).toLoadRect}
    {kk : Vec F S1x512x1536 .f32 → Prog (TpuEff nD τ sig (Elt F) Λ₀ .tc) α} {Q : α → sProp 𝕄}
    (hoff : off = ![(par i.val).val, 0, 0])
    (hn : cnt n (.csB (par i.val)) = i.val / 2 + 1 ∧ cnt n (.cwB (par i.val)) = i.val / 2 + 1)
    (hk : St m κ ιs c (n + 1) ⊢ WP c (kk (stripB m c i)) Q) :
    St m κ ιs c n ⊢ WP c (.op (.load sBM (Rect.unit (s := S2x512x1536) off (S1x512x1536).size inb).toLoadRect hl) kk) Q := by
  subst hoff
  refine (St_acc m κ ιs c ho [.cB (par i.val)] (by simp) (acts (by simp [Op.keys]))).trans ?_
  rw [bump_nil _ (by rfl)]
  have h0 : comp m c (cnt n) (.cB (par i.val)) = iprop(semVal ((c : Thread nD τ), .dma (cpySemB (par i.val))) 0 ∗ cpB m c (par i.val) (i.val / 2 + 1)) := by
    show cBC m c _ _ _ = _
    rw [hn.1, hn.2]; exact if_pos rfl
  show iprop(_ ∗ (comp m c (cnt n) _ ∗ emp) ∗ ((comp m c (cnt n) _ ∗ emp) -∗ _)) ⊢ _
  rw [h0]; unfold cpB
  iintro ⟨-, ⟨⟨Hz, ⟨%f, %hf, Hd⟩, Harg⟩, -⟩, Hcl⟩
  iapply (wp_load 𝒱₀ (c : Thread nD τ) none Set.univ (m := sBM) (S := (sBS (par i.val)).view.set)
    (r := (Rect.unit (s := S2x512x1536) ![(par i.val).val, 0, 0] (S1x512x1536).size inb).toLoadRect)
    (by rw [slot_set sBM (sBR (par i.val)) (fun _ => rfl) squeezes_S1x512x1536_S512x1536])) $$ Hd
  iintro Hd
  rw [show (sBM.view.readAt (Elt F) (Rect.unit (s := S2x512x1536) ![(par i.val).val, 0, 0] (S1x512x1536).size inb).toLoadRect f : Vec F S1x512x1536 .f32) = stripB m c i from
    hf i (by unfold par; dsimp only; omega)]
  iapply hk
  iapply Hcl
  isplitl [Hz Hd Harg]
  · isplitl [Hz]; · iexact Hz
    isplitl [Hd]
    · iexists f
      isplitr; · ipureintro; exact hf
      iexact Hd
    · iexact Harg
  · iempintro

end Copies

end Cert.KernelIdeal.RingProof
-- ==== Proof.Msg.lean ====
/-
  The messages: filling a slot, sending it, waiting for it, taking it out.
-/
module

public import proofs.«01_k».proof.Proof.Copy

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × Cl → ℕ) (ιs : SK → ℕ)

/-- What a transfer between slots delivers. -/
theorem delivered (σ : Strm) (b : Fin 2) (c c' : Dev nD) (fd : Buf (Elt F) ((rxS σ b).view.loc (c' : Thread nD τ)))
    (fs : Buf (Elt F) ((txS σ b).view.loc (c : Thread nD τ))) :
    rxRead σ b c' ((rxS σ b).view.write (Elt F) fd ((txS σ b).view.read (Elt F) fs) Finset.univ) = txRead σ b c fs := by
  funext x
  refine Eq.trans ?_ ((View.read_write_reshape ((rxM σ).view.slice (slotR b)) squeezes_S1x192x768_S192x768.numel_eq fd
    ((txS σ b).view.read (Elt F) fs) ((Shape.reshapeEquiv squeezes_S1x192x768_S192x768.numel_eq).symm x)).trans ?_)
  · rw [Equiv.apply_symm_apply]; rfl
  · show (txM σ).view.read (Elt F) fs ((slotR b).emb (Shape.reshapeEquiv _ _)) = (txM σ).view.read (Elt F) fs ((slotR b).emb x)
    rw [Equiv.apply_symm_apply]

theorem of_eq {P Q : sProp 𝕄} (h : P = Q) : P ⊢ Q := h ▸ BIBase.Entails.rfl

theorem dmaCredit_tx (σ : Strm) (b : Fin 2) : (txS σ b).view.dmaCredit = NM := by cases σ <;> fin_cases b <;> rfl
theorem dmaCredit_rx (σ : Strm) (b : Fin 2) : (rxS σ b).view.dmaCredit = NM := by cases σ <;> fin_cases b <;> rfl

theorem same_owe {c : Dev nD} {ct : Key → ℕ} {o : Op} (h : o.keys.count .pay = 0) : bump ct o .pay = ct .pay := by
  unfold bump; rw [h]; rfl

section Msgs
variable {c : Dev nD} {n : ℕ} {α : Type} {σ : Strm} {b : Fin 2} {r : ℕ}

/-! ## Loads and stores of slots -/

theorem ldRx (ho : opAt n = .ldRx σ b r) {M : Memref sig .tc .vmem S2x192x768 .bf16} {off : Fin 3 → ℕ}
    {inb : ∀ a, off a + S1x192x768.size a ≤ S2x192x768.size a} {hl : M.view.LoadsAt (Rect.unit (s := S2x192x768) off S1x192x768.size inb).toLoadRect}
    {kk : Msg F → Prog (TpuEff nD τ sig (Elt F) Λ₀ .tc) α} {Q : α → sProp 𝕄}
    (hM : M = rxM σ) (hoff : off = ![b.val, 0, 0]) (hn : cnt n (.got σ b) = r + 1 ∧ cnt n (.fre σ b) = r)
    (hk : St m κ ιs c (n + 1) ⊢ WP c (kk (sv m σ b r (up σ c))) Q) :
    St m κ ιs c n ⊢ WP c (.op (.load M (Rect.unit (s := S2x192x768) off S1x192x768.size inb).toLoadRect hl) kk) Q := by
  subst hM hoff
  refine (St_acc m κ ιs c ho [.rx σ b] (by simp) (acts (by simp [Op.keys]))).trans ?_
  rw [bump_nil _ (by rfl)]
  have h0 : comp m c (cnt n) (.rx σ b) = rxC m c σ b (r + 1) r := by show rxC m c σ b _ _ = _; rw [hn.1, hn.2]
  show iprop(_ ∗ (comp m c (cnt n) _ ∗ emp) ∗ ((comp m c (cnt n) _ ∗ emp) -∗ _)) ⊢ _
  rw [h0]; unfold rxC; rw [if_pos (Nat.lt_succ_self r)]
  iintro ⟨-, ⟨⟨Ha, Hr, Hc, Hra, Hrel, ⟨%f, %hf, Hp⟩⟩, -⟩, Hcl⟩
  iapply (wp_load 𝒱₀ (c : Thread nD τ) none Set.univ (m := rxM σ) (S := (rxS σ b).view.set)
    (r := (Rect.unit (s := S2x192x768) ![b.val, 0, 0] S1x192x768.size inb).toLoadRect)
    (by rw [slot_set (rxM σ) (slotR b) (fun _ => rfl) squeezes_S1x192x768_S192x768])) $$ Hp
  iintro Hp
  rw [show ((rxM σ).view.readAt (Elt F) (Rect.unit (s := S2x192x768) ![b.val, 0, 0] S1x192x768.size inb).toLoadRect f : Msg F) = sv m σ b r (up σ c) from hf]
  iapply hk
  iapply Hcl
  isplitl [Ha Hr Hc Hra Hrel Hp]
  · isplitl [Ha]; · iexact Ha
    isplitl [Hr]; · iexact Hr
    isplitl [Hc]; · iexact Hc
    isplitl [Hra]; · iexact Hra
    isplitl [Hrel]; · iexact Hrel
    iexists f
    isplitr; · ipureintro; exact hf
    iexact Hp
  · iempintro

theorem nopT (ho : opAt n = .nopT σ b) {M : Memref sig .tc .vmem S2x192x768 .bf16} {off : Fin 3 → ℕ}
    {inb : ∀ a, off a + S1x192x768.size a ≤ S2x192x768.size a} {hl : M.view.LoadsAt (Rect.unit (s := S2x192x768) off S1x192x768.size inb).toLoadRect}
    {kk : Msg F → Prog (TpuEff nD τ sig (Elt F) Λ₀ .tc) α} {Q : α → sProp 𝕄}
    (hM : M = txM σ) (hoff : off = ![b.val, 0, 0]) (hn : cnt n (.snt σ b) = cnt n (.bck σ b))
    (hk : ∀ v, St m κ ιs c (n + 1) ⊢ WP c (kk v) Q) :
    St m κ ιs c n ⊢ WP c (.op (.load M (Rect.unit (s := S2x192x768) off S1x192x768.size inb).toLoadRect hl) kk) Q := by
  subst hM hoff
  refine (St_acc m κ ιs c ho [.tx σ b] (by simp) (acts (by simp [Op.keys]))).trans ?_
  rw [bump_nil _ (by rfl)]
  have h0 : comp m c (cnt n) (.tx σ b) = txC m c σ b (cnt n (.sto σ b)) (cnt n (.bck σ b)) (cnt n (.bck σ b)) := by
    show txC m c σ b _ _ _ = _; rw [hn]
  show iprop(_ ∗ (comp m c (cnt n) _ ∗ emp) ∗ ((comp m c (cnt n) _ ∗ emp) -∗ _)) ⊢ _
  rw [h0]; unfold txC; rw [if_neg (Nat.lt_irrefl _)]
  iintro ⟨-, ⟨⟨Ha, Hr, Ht, ⟨%f, %hf, Hp⟩⟩, -⟩, Hcl⟩
  iapply (wp_load 𝒱₀ (c : Thread nD τ) none Set.univ (m := txM σ) (S := (txS σ b).view.set)
    (r := (Rect.unit (s := S2x192x768) ![b.val, 0, 0] S1x192x768.size inb).toLoadRect)
    (by rw [slot_set (txM σ) (slotR b) (fun _ => rfl) squeezes_S1x192x768_S192x768])) $$ Hp
  iintro Hp
  iapply (hk _)
  iapply Hcl
  isplitl [Ha Hr Ht Hp]
  · isplitl [Ha]; · iexact Ha
    isplitl [Hr]; · iexact Hr
    isplitl [Ht]; · iexact Ht
    iexists f
    isplitr; · ipureintro; exact hf
    iexact Hp
  · iempintro

theorem stTx (ho : opAt n = .stTx σ b r) {M : Memref sig .tc .vmem S2x192x768 .bf16} {off : Fin 3 → ℕ}
    {inb : ∀ a, off a + S1x192x768.size a ≤ S2x192x768.size a} {w : Msg F}
    {hx : (M.access (Rect.unit (s := S2x192x768) off S1x192x768.size inb)).Stores Finset.univ}
    {hm : (Finset.univ : Finset (Rect.unit (s := S2x192x768) off S1x192x768.size inb).shape.Idx) = Finset.univ ∨ ∀ a, (Rect.unit (s := S2x192x768) off S1x192x768.size inb).stride a = 1}
    {kk : PUnit → Prog (TpuEff nD τ sig (Elt F) Λ₀ .tc) α} {Q : α → sProp 𝕄}
    (hM : M = txM σ) (hoff : off = ![b.val, 0, 0])
    (hn : cnt n (.sto σ b) = r ∧ cnt n (.snt σ b) = r ∧ cnt n (.bck σ b) = r) (hw : w = sv m σ b r c)
    (hk : St m κ ιs c (n + 1) ⊢ WP c (kk ⟨⟩) Q) :
    St m κ ιs c n ⊢ WP c (.op (.store M (Rect.unit (s := S2x192x768) off S1x192x768.size inb) w Finset.univ hx hm) kk) Q := by
  subst hM hoff hw
  refine (St_acc m κ ιs c ho [.tx σ b] (by simp) (acts (by simp [Op.keys, Key.cmps]))).trans ?_
  have h0 : comp m c (cnt n) (.tx σ b) = txC m c σ b r r r := by show txC m c σ b _ _ _ = _; rw [hn.1, hn.2.1, hn.2.2]
  have h1 : comp m c (bump (cnt n) (.stTx σ b r)) (.tx σ b) = txC m c σ b (r + 1) r r := by
    show txC m c σ b _ _ _ = _; simp [bump, Op.keys, hn]
  show iprop(_ ∗ (comp m c (cnt n) _ ∗ emp) ∗ ((comp m c (bump (cnt n) _) _ ∗ emp) -∗ _)) ⊢ _
  rw [h0, h1]; unfold txC; simp only [if_neg (Nat.lt_irrefl r)]
  iintro ⟨-, ⟨⟨Ha, Hr, Ht, ⟨%f, %hf, Hp⟩⟩, -⟩, Hcl⟩
  iapply (wp_store 𝒱₀ (c : Thread nD τ) none Set.univ (m := txM σ) (S := (txS σ b).view.set)
    (r := Rect.unit (s := S2x192x768) ![b.val, 0, 0] S1x192x768.size inb)
    (by
      rw [show (txS σ b).view.set = _ from View.set_reshape ((txM σ).view.slice (slotR b)) squeezes_S1x192x768_S192x768.numel_eq]
      exact Finset.Subset.refl _)) $$ Hp
  iintro Hp
  iapply hk
  iapply Hcl
  isplitl [Ha Hr Ht Hp]
  · isplitl [Ha]; · iexact Ha
    isplitl [Hr]; · iexact Hr
    isplitl [Ht]; · iexact Ht
    iexists _
    isplitr
    swap; · iexact Hp
    ipureintro; intro _
    exact read_same (txM σ) (slotR b) f (sv m σ b r c)
  · iempintro

/-! ## Waits -/

theorem duties_snd (h : r < σ.R b) : (Rd m).duties (cell c (.snd σ b)) r = {0} := by rw [Rd_duties]; exact if_pos h
theorem duties_rcv (h : r < σ.R b) : (Rd m).duties (cell c (.rcv σ b)) r = {0} := by rw [Rd_duties]; exact if_pos h
theorem expect_snd (h : r < σ.R b) : (Rd m).expect (cell c (.snd σ b)) r = NM := by
  rw [Rd_expect, show Cl.duties (.snd σ b) r = {0} from if_pos h, Finset.card_singleton, one_mul]; rfl
theorem expect_rcv (h : r < σ.R b) : (Rd m).expect (cell c (.rcv σ b)) r = NM := by
  rw [Rd_expect, show Cl.duties (.rcv σ b) r = {0} from if_pos h, Finset.card_singleton, one_mul]; rfl

theorem wtx (ho : opAt n = .wtx σ b r) {sp : Space} {s' : Shape} {e' : EltTy} {src : Memref sig .tc sp s' e'} {dst : Memref sig .tc .vmem S192x768 .bf16} {sem : DmaSem sig}
    {hsrc : src.view.WordExact} {hdst : dst.view.WordExact}
    {kk : PUnit → Prog (TpuEff nD τ sig (Elt F) Λ₀ .tc) α} {Q : α → sProp 𝕄}
    (hd : dst = txS σ b) (hs : sem = sndSem σ b) (hR : r < σ.R b)
    (hn : cnt n (.sto σ b) = r + 1 ∧ cnt n (.snt σ b) = r + 1 ∧ cnt n (.bck σ b) = r)
    (hk : St m κ ιs c (n + 1) ⊢ WP c (kk ⟨⟩) Q) :
    St m κ ιs c n ⊢ WP c (.op (.waitDma2 sem src dst hsrc hdst) kk) Q := by
  subst hd hs
  refine (St_acc m κ ιs c ho [.tx σ b, .owe] (by simp) (acts (by simp [Op.keys, Key.cmps]))).trans ?_
  have h0 : comp m c (cnt n) (.tx σ b) = txC m c σ b (r + 1) (r + 1) r := by show txC m c σ b _ _ _ = _; rw [hn.1, hn.2.1, hn.2.2]
  have h1 : comp m c (bump (cnt n) (.wtx σ b r)) (.tx σ b) = txC m c σ b (r + 1) (r + 1) (r + 1) := by
    show txC m c σ b _ _ _ = _; simp [bump, Op.keys, hn]
  have h2 : comp m c (bump (cnt n) (.wtx σ b r)) .owe = comp m c (cnt n) .owe := by
    show oweC c _ = oweC c _; congr 1
  show iprop(_ ∗ (comp m c (cnt n) _ ∗ comp m c (cnt n) _ ∗ emp) ∗ ((comp m c (bump (cnt n) _) _ ∗ comp m c (bump (cnt n) _) _ ∗ emp) -∗ _)) ⊢ _
  rw [h0, h1, h2]
  show iprop(_ ∗ (_ ∗ oweC c (cnt n .pay) ∗ emp) ∗ ((_ ∗ oweC c (cnt n .pay) ∗ emp) -∗ _)) ⊢ _
  unfold oweC txC
  rw [if_pos (Nat.lt_succ_self r), if_neg (Nat.lt_irrefl (r + 1))]
  iintro ⟨#HC, ⟨⟨Ha, -, Ht, Hcr⟩, ⟨%W, HO⟩, -⟩, Hcl⟩
  iapply (Rounds.wp_wait_rest_token 𝒱₀ ER (Rd m) (c : Thread nD τ) none (κ := κ (c, .snd σ b))
      (wpE_waitDma2_eq 𝒱₀ (c : Thread nD τ) none Set.univ) (Set.mem_univ _) 0 (O := owed c (cnt n .pay)) (W := W) (R := r) (m := 0) (T := ∅)
      (by rw [Nat.zero_add, dmaCredit_tx]; exact (expect_snd m hR).symm)) $$ [Hcr HO Ha]
  · isplitr; · iapply (Ctx_inv m κ ιs c (.snd σ b)) $$ HC
    isplitl [Hcr]; · rw [dmaCredit_tx]; iexact Hcr
    isplitl [HO]; · iexact HO
    isplitr
    · iapply (mayWait c (cnt n .pay) _ 0 (Nat.zero_le _) (by decide))
      iapply (Ctx_lev m κ ιs) $$ HC
    iexact Ha
  rw [Finset.sdiff_empty, show (Rd m).duties ((c : Thread nD τ), .dma (sndSem σ b)) r = {0} from duties_snd m hR, bs_single,
    show (Rd m).payload ((c : Thread nD τ), .dma (sndSem σ b)) r 0 = sndPay c σ b from Rd_payload m c (.snd σ b) r 0]
  unfold sndPay
  iintro ⟨HO, Ha, Hr, ⟨%f, Hp⟩⟩
  iapply hk
  iapply Hcl
  isplitl [Ha Hr Ht Hp]
  · isplitl [Ha]; · iexact Ha
    isplitl [Hr]; · iexact Hr
    isplitl [Ht]; · iexact Ht
    iexists f
    isplitr; · ipureintro; intro h; exact absurd h (Nat.lt_irrefl _)
    iexact Hp
  isplitl [HO]
  · iexists _; iexact HO
  · iempintro

theorem wrx (ho : opAt n = .wrx σ b r) {sp : Space} {s' : Shape} {e' : EltTy} {src : Memref sig .tc sp s' e'} {dst : Memref sig .tc .vmem S192x768 .bf16} {sem : DmaSem sig}
    {hsrc : src.view.WordExact} {hdst : dst.view.WordExact}
    {kk : PUnit → Prog (TpuEff nD τ sig (Elt F) Λ₀ .tc) α} {Q : α → sProp 𝕄}
    (hd : dst = rxS σ b) (hs : sem = rcvSem σ b) (hR : r < σ.R b)
    (hn : cnt n (.got σ b) = r ∧ cnt n (.fre σ b) = r) (hp : payIx (.snd σ b r) + 1 ≤ cnt n .pay ∧ payIx (.snd σ b r) + 1 < 51)
    (hk : St m κ ιs c (n + 1) ⊢ WP c (kk ⟨⟩) Q) :
    St m κ ιs c n ⊢ WP c (.op (.waitDma2 sem src dst hsrc hdst) kk) Q := by
  subst hd hs
  refine (St_acc m κ ιs c ho [.rx σ b, .owe] (by simp) (acts (by simp [Op.keys, Key.cmps]))).trans ?_
  have h0 : comp m c (cnt n) (.rx σ b) = rxC m c σ b r r := by show rxC m c σ b _ _ = _; rw [hn.1, hn.2]
  have h1 : comp m c (bump (cnt n) (.wrx σ b r)) (.rx σ b) = rxC m c σ b (r + 1) r := by
    show rxC m c σ b _ _ = _; simp [bump, Op.keys, hn]
  have h2 : comp m c (bump (cnt n) (.wrx σ b r)) .owe = comp m c (cnt n) .owe := by
    show oweC c _ = oweC c _; congr 1
  show iprop(_ ∗ (comp m c (cnt n) _ ∗ comp m c (cnt n) _ ∗ emp) ∗ ((comp m c (bump (cnt n) _) _ ∗ comp m c (bump (cnt n) _) _ ∗ emp) -∗ _)) ⊢ _
  rw [h0, h1, h2]
  show iprop(_ ∗ (_ ∗ oweC c (cnt n .pay) ∗ emp) ∗ ((_ ∗ oweC c (cnt n .pay) ∗ emp) -∗ _)) ⊢ _
  unfold oweC rxC
  rw [if_neg (Nat.lt_irrefl r), if_pos (Nat.lt_succ_self r), bs_Ico hR]
  iintro ⟨#HC, ⟨⟨Ha, -, ⟨Hcr, Hc⟩, Hra, Hrel, -⟩, ⟨%W, HO⟩, -⟩, Hcl⟩
  iapply (Rounds.wp_wait_rest_token 𝒱₀ ER (Rd m) (c : Thread nD τ) none (κ := κ (c, .rcv σ b))
      (wpE_waitDma2_eq 𝒱₀ (c : Thread nD τ) none Set.univ) (Set.mem_univ _) (payIx (.snd σ b r) + 1) (O := owed c (cnt n .pay)) (W := W) (R := r) (m := 0) (T := ∅)
      (by rw [Nat.zero_add, dmaCredit_rx]; exact (expect_rcv m hR).symm)) $$ [Hcr HO Ha]
  · isplitr; · iapply (Ctx_inv m κ ιs c (.rcv σ b)) $$ HC
    isplitl [Hcr]; · rw [dmaCredit_rx]; iexact Hcr
    isplitl [HO]; · iexact HO
    isplitr
    · iapply (mayWait c (cnt n .pay) _ _ hp.1 hp.2)
      iapply (Ctx_lev m κ ιs) $$ HC
    iexact Ha
  rw [Finset.sdiff_empty, show (Rd m).duties ((c : Thread nD τ), .dma (rcvSem σ b)) r = {0} from duties_rcv m hR, bs_single,
    show (Rd m).payload ((c : Thread nD τ), .dma (rcvSem σ b)) r 0 = rcvPay m c σ b r from Rd_payload m c (.rcv σ b) r 0]
  unfold rcvPay
  iintro ⟨HO, Ha, Hr, ⟨%f, %hf, Hp⟩⟩
  iapply hk
  iapply Hcl
  isplitl [Ha Hr Hc Hra Hrel Hp]
  · isplitl [Ha]; · iexact Ha
    isplitl [Hr]; · iexact Hr
    isplitl [Hc]; · iexact Hc
    isplitl [Hra]; · iexact Hra
    isplitl [Hrel]; · iexact Hrel
    iexists f
    isplitr; · ipureintro; exact hf
    iexact Hp
  isplitl [HO]
  · iexists _; iexact HO
  · iempintro

/-! ## Sending -/

theorem snd (ho : opAt n = .snd σ b r) {src dst : Memref sig .tc .vmem S192x768 .bf16} {sem sS : DmaSem sig} {dv : Dev nD}
    {hsc : dst.view.ref.isScScratch = false}
    {hsrc : src.view.WordExact} {hdst : dst.view.WordExact}
    {hsem : DmaTarget.Typed (nD := nD) (τ := τ) (p := Proc.tc) .vmem (.dma sem) (.remote (Dev.tc dv) dst (.dma sS) hsc)}
    {kk : PUnit → Prog (TpuEff nD τ sig (Elt F) Λ₀ .tc) α} {Q : α → sProp 𝕄}
    (hs' : src = txS σ b) (hd' : dst = rxS σ b) (he : sem = rcvSem σ b) (hS : sS = sndSem σ b) (hv : dv = tgt σ c) (hR : r < σ.R b)
    (hn : cnt n (.sto σ b) = r + 1 ∧ cnt n (.snt σ b) = r ∧ cnt n (.bck σ b) = r)
    (hp : cnt n .pay < 49 ∧ payAt (cnt n .pay) = .snd σ b r)
    (hkn : 2 * r + b.val < 2 * cnt n .bar + cnt n (.crd σ))
    (hk : St m κ ιs c (n + 1) ⊢ WP c (kk ⟨⟩) Q) :
    St m κ ιs c n ⊢ WP c (.op (.enqueueDma src (.remote (Dev.tc dv) dst (.dma sS) hsc) (.dma sem) hsrc hdst hsem) kk) Q := by
  subst hs' hd' he hS
  subst hv
  refine (St_acc m κ ιs c ho [.tx σ b, .owe, .knw σ] (by simp) (acts (by simp [Op.keys, Key.cmps]))).trans ?_
  have h0 : comp m c (cnt n) (.tx σ b) = txC m c σ b (r + 1) r r := by show txC m c σ b _ _ _ = _; rw [hn.1, hn.2.1, hn.2.2]
  have h1 : comp m c (bump (cnt n) (.snd σ b r)) (.tx σ b) = txC m c σ b (r + 1) (r + 1) r := by
    show txC m c σ b _ _ _ = _; simp [bump, Op.keys, hn]
  have h2 : comp m c (bump (cnt n) (.snd σ b r)) .owe = oweC c (cnt n .pay + 1) := by
    show oweC c _ = oweC c _; congr 1
  have h3 : comp m c (bump (cnt n) (.snd σ b r)) (.knw σ) = knwC c σ (2 * cnt n .bar + cnt n (.crd σ)) := by
    show knwC c σ _ = _; simp [bump, Op.keys]
  show iprop(_ ∗ (comp m c (cnt n) _ ∗ comp m c (cnt n) _ ∗ comp m c (cnt n) _ ∗ emp) ∗ ((comp m c (bump (cnt n) _) _ ∗ comp m c (bump (cnt n) _) _ ∗ comp m c (bump (cnt n) _) _ ∗ emp) -∗ _)) ⊢ _
  rw [h0, h1, h2, h3]
  show iprop(_ ∗ (_ ∗ oweC c (cnt n .pay) ∗ knwC c σ (2 * cnt n .bar + cnt n (.crd σ)) ∗ emp) ∗ ((_ ∗ oweC c (cnt n .pay + 1) ∗ _ ∗ emp) -∗ _)) ⊢ _
  unfold oweC txC
  rw [if_pos (Nat.lt_succ_self r), if_neg (Nat.lt_irrefl r), bs_Ico hR]
  have hcan : knwC c σ (2 * cnt n .bar + cnt n (.crd σ)) ⊢ (iprop(Release.released ES (tgt σ c, σ, b) (r + 1) ∗ reached ER (cell (tgt σ c) (.rcv σ b)) r) : sProp 𝕄) := by
    refine (bs_elim (Finset.mem_range.mpr hkn) (Φ := fun i => (canSend c σ i : sProp 𝕄))).trans ?_
    have e1 : par (2 * r + b.val) = b := Fin.ext (by have := b.isLt; show (2 * r + b.val) % 2 = b.val; omega)
    have e2 : (2 * r + b.val) / 2 = r := by have := b.isLt; omega
    unfold canSend; rw [e1, e2]
  iintro ⟨#HC, ⟨⟨Ha, #Hr, ⟨⟨Hts, Htr, Hw⟩, Ht⟩, ⟨%fs, %hfs, Hp⟩⟩, ⟨%W, HO⟩, #Hkn, -⟩, Hcl⟩
  ihave #Hcan := hcan $$ Hkn
  icases Hcan with ⟨#Hrel, #Hrch⟩
  imod (Release.slot_take ES (k := (tgt σ c, σ, b)) (S := slotOf (tgt σ c, σ, b)) (ι := ιs (tgt σ c, σ, b)) (Es := Set.univ) (Set.mem_univ _) (r + 1)) $$ [Hw] with Hslot
  · isplitr; · iapply (Ctx_slot m κ ιs (tgt σ c, σ, b)) $$ HC
    isplitr; · iexact Hrel
    iexact Hw
  unfold slotOf Release.slot
  icases Hslot with ⟨%fd, Hd⟩
  iapply (Rounds.wp_send_pointsTo 𝒱₀ ER (Rd m) (c : Thread nD τ) none (κ₁ := κ (c, .snd σ b)) (κ₂ := κ (tgt σ c, .rcv σ b))
    (c' := (tgt σ c : Thread nD τ)) (sem := .dma (rcvSem σ b)) (sS := .dma (sndSem σ b)) (src := txS σ b) (dst := rxS σ b)
    (r₁ := r) (r₂ := r) (d₁ := 0) (d₂ := 0) (fs := fs) (fd := fd)
    (by rw [show (Rd m).duties ((c : Thread nD τ), .dma (sndSem σ b)) r = {0} from duties_snd m hR]; exact Finset.mem_singleton_self _)
    (by rw [show (Rd m).duties ((tgt σ c : Thread nD τ), .dma (rcvSem σ b)) r = {0} from duties_rcv m hR]; exact Finset.mem_singleton_self _)
    (cnt n .pay + 1) 0 NM (dmaCredit_rx σ b) (Rd_amount m c (.snd σ b) r 0) (Rd_amount m (tgt σ c) (.rcv σ b) r 0)
    (O₀ := owed c (cnt n .pay)) (owed c (cnt n .pay + 1)) (by
      rw [owed_step c hp.1]; unfold payTally; rw [hp.2]; rfl) (W := W)
    (by
      refine BIBase.Entails.trans ?_ (of_eq (Rd_payload m c (.snd σ b) r 0).symm)
      show _ ⊢ sndPay c σ b
      unfold sndPay; iintro H; iexists fs; iexact H)
    (by
      refine BIBase.Entails.trans ?_ (of_eq (Rd_payload m (tgt σ c) (.rcv σ b) r 0).symm)
      show _ ⊢ rcvPay m (tgt σ c) σ b r
      unfold rcvPay; iintro H
      iexists ((rxS σ b).view.write (Elt F) fd ((txS σ b).view.read (Elt F) fs) Finset.univ)
      isplitr
      · ipureintro
        rw [delivered σ b c (tgt σ c) fd fs, up_tgt]; exact hfs (Nat.lt_succ_self r)
      iexact H)) $$ [Hp Hd HO Hts Htr]
  · isplitr; · iapply (Ctx_inv m κ ιs c (.snd σ b)) $$ HC
    isplitr; · iapply (Ctx_inv m κ ιs (tgt σ c) (.rcv σ b)) $$ HC
    isplitl [Hp]; · iexact Hp
    isplitl [Hd]; · iexact Hd
    isplitl [HO]; · iexact HO
    isplitl [Hts]; · iexact Hts
    isplitr; · iexact Hr
    isplitl [Htr]; · iexact Htr
    iexact Hrch
  iintro ⟨Hcr, HO⟩
  iapply hk
  iapply Hcl
  isplitl [Ha Ht Hcr]
  · isplitl [Ha]; · iexact Ha
    isplitr; · iexact Hr
    isplitl [Ht]; · iexact Ht
    iexact Hcr
  isplitl [HO]
  · iexists _; iexact HO
  isplitr; · iexact Hkn
  iempintro

end Msgs

end Cert.KernelIdeal.RingProof
-- ==== Proof.Hand.lean ====
/-
  The signals: the entry handshake, and the credits handed back for emptied slots.
-/
module

public import proofs.«01_k».proof.Proof.Msg

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × Cl → ℕ) (ιs : SK → ℕ)

/-- A device may wait at a set of indices below everything it owes. -/
theorem mayOwe (c : Dev nD) (n : ℕ) (W : Waits sig ℕ) (h : ∀ p ∈ W, p.2 ≤ n ∧ p.2 < 51) :
    levAts Lx lv ⊢ (MayOwe (c : Thread nD τ) W (owed c n) : sProp 𝕄) :=
  MayOwe.of_levAts (fun p hp => by rw [Lx_tc]; exact Finset.mem_range.mpr (h p hp).2)
    (fun g i hi => by
      obtain ⟨h1, h2, h3⟩ := owed_pos c n g i hi
      unfold Lx; rw [if_pos h3]; exact Finset.mem_range.mpr (by omega))
    (fun g i hi p hp => by
      obtain ⟨h1, h2, h3⟩ := owed_pos c n g i hi
      have := (h p hp).1
      show p.2 < i; omega)

theorem slot_false (k : SK) : iprop(slotOf k ∗ slotOf k) ⊢ (False : sProp 𝕄) := by
  unfold slotOf
  exact Release.slot_slot_false (by
    rcases k with ⟨c, σ, b⟩
    cases σ <;> fin_cases b <;> exact ⟨_, View.emb_mem_set _ (fun a => ⟨0, by revert a; decide⟩)⟩)

section Hands
variable {c : Dev nD} {n : ℕ} {α : Type} {σ : Strm}

/-- A credit's contents, from what the receiver of the messages knows of its two slots. -/
theorem crdPay_intro (d : Dev nD) (j a a' g g' : ℕ) (ha : j / 2 + 2 ≤ a) (ha' : (j + 1) / 2 + 1 ≤ a') (hg : j / 2 + 1 ≤ g) (hg' : (j + 1) / 2 ≤ g') :
    (iprop(Release.released ES (tgt σ d, σ, par j) a ∗ Release.released ES (tgt σ d, σ, par (j + 1)) a'
      ∗ reached ER (cell (tgt σ d) (.rcv σ (par j))) g ∗ reached ER (cell (tgt σ d) (.rcv σ (par (j + 1)))) g') : sProp 𝕄) ⊢ crdPay d σ j := by
  unfold crdPay
  refine BI.bigSep_intro_persistent fun i hi => ?_
  have hi := Finset.mem_range.mp hi
  unfold canSend
  iintro ⟨#H1, #H2, #H3, #H4⟩
  have ep : par (i + 2) = par i := Fin.ext (by show (i + 2) % 2 = i % 2; omega)
  rw [ep]
  by_cases hp : i % 2 = j % 2
  · rw [show par i = par j from Fin.ext hp]
    isplitr
    · iapply (Release.released_mono ES (show (i + 2) / 2 + 1 ≤ a by omega)) $$ H1
    · iapply (Rounds.reached_mono ER (show (i + 2) / 2 ≤ g by omega)) $$ H3
  · rw [show par i = par (j + 1) from Fin.ext (by show i % 2 = (j + 1) % 2; omega)]
    isplitr
    · iapply (Release.released_mono ES (show (i + 2) / 2 + 1 ≤ a' by omega)) $$ H2
    · iapply (Rounds.reached_mono ER (show (i + 2) / 2 ≤ g' by omega)) $$ H4

theorem crd {j : ℕ} (ho : opAt n = .crd σ j) {sem : Sem sig} {kn : ℤ} {dst : Thread nD τ}
    {kk : PUnit → Prog (TpuEff nD τ sig (Elt F) Λ₀ .tc) α} {Q : α → sProp 𝕄}
    (he : sem = crdSem σ) (hkn : kn = ((1 : ℕ) : ℤ)) (hv : dst = (up σ c : Thread nD τ))
    (hn : cnt n (.got σ (par j)) = j / 2 + 1 ∧ cnt n (.fre σ (par j)) = j / 2)
    (hn' : (j + 1) / 2 ≤ cnt n (.got σ (par (j + 1))) ∧ cnt n (.fre σ (par (j + 1))) = (j + 1) / 2)
    (hj : j < σ.T - 2)
    (hp : cnt n .pay < 49 ∧ payAt (cnt n .pay) = .crd σ j)
    (hk : St m κ ιs c (n + 1) ⊢ WP c (kk ⟨⟩) Q) :
    St m κ ιs c n ⊢ WP c (.op (.semSignal dst sem kn) kk) Q := by
  subst he hkn hv
  have hne : par j ≠ par (j + 1) := fun h => by have := congrArg Fin.val h; simp only [par] at this; omega
  refine (St_acc m κ ιs c ho [.rx σ (par j), .rx σ (par (j + 1)), .cpy σ, .owe] (by simp [hne]) (acts (by
    simp only [Op.keys, Key.cmps, List.mem_cons, List.not_mem_nil, or_false, forall_eq_or_imp, forall_eq]; simp))).trans ?_
  have e01 : cnt n (.fre σ 0) + cnt n (.fre σ 1) = j := by
    have h2 := Nat.mod_two_eq_zero_or_one j
    rcases h2 with h2 | h2
    · have a : par j = 0 := Fin.ext h2
      have b : par (j + 1) = 1 := Fin.ext (by show (j + 1) % 2 = 1; omega)
      rw [a] at hn; rw [b] at hn'; omega
    · have a : par j = 1 := Fin.ext h2
      have b : par (j + 1) = 0 := Fin.ext (by show (j + 1) % 2 = 0; omega)
      rw [a] at hn; rw [b] at hn'; omega
  have h0 : comp m c (cnt n) (.rx σ (par j)) = rxC m c σ (par j) (j / 2 + 1) (j / 2) := by show rxC m c σ _ _ _ = _; rw [hn.1, hn.2]
  have h0' : comp m c (bump (cnt n) (.crd σ j)) (.rx σ (par j)) = rxC m c σ (par j) (j / 2 + 1) (j / 2 + 1) := by
    show rxC m c σ _ _ _ = _; simp [bump, Op.keys, hn]
  have h1 : comp m c (bump (cnt n) (.crd σ j)) (.rx σ (par (j + 1))) = comp m c (cnt n) (.rx σ (par (j + 1))) := by
    have h : ([Key.fre σ (par j), Key.pay]).count (.fre σ (par (j + 1))) = 0 := List.count_eq_zero.mpr (by simp [hne.symm])
    have h' : bump (cnt n) (.crd σ j) (.fre σ (par (j + 1))) = cnt n (.fre σ (par (j + 1))) := by
      show cnt n _ + ([Key.fre σ (par j), Key.pay]).count (.fre σ (par (j + 1))) = _
      rw [h]; rfl
    show rxC m c σ _ _ _ = rxC m c σ _ _ _; rw [h']; congr 1
  have h2 : comp m c (bump (cnt n) (.crd σ j)) .owe = oweC c (cnt n .pay + 1) := by show oweC c _ = oweC c _; congr 1
  have h3 : comp m c (bump (cnt n) (.crd σ j)) (.cpy σ) = cpyC c σ (j + 1) := by
    show cpyC c σ (bump (cnt n) (.crd σ j) (.fre σ 0) + bump (cnt n) (.crd σ j) (.fre σ 1)) = _
    congr 1
    have h2 := Nat.mod_two_eq_zero_or_one j
    rcases h2 with h2 | h2
    · have a : par j = 0 := Fin.ext h2
      simp [bump, Op.keys, a]; omega
    · have a : par j = 1 := Fin.ext h2
      simp [bump, Op.keys, a]; omega
  have h4 : comp m c (cnt n) (.cpy σ) = cpyC c σ j := by show cpyC c σ _ = _; rw [e01]
  show iprop(_ ∗ (comp m c (cnt n) _ ∗ comp m c (cnt n) _ ∗ comp m c (cnt n) _ ∗ comp m c (cnt n) _ ∗ emp)
    ∗ ((comp m c (bump (cnt n) _) _ ∗ comp m c (bump (cnt n) _) _ ∗ comp m c (bump (cnt n) _) _ ∗ comp m c (bump (cnt n) _) _ ∗ emp) -∗ _)) ⊢ _
  rw [h0, h0', h1, h2, h3, h4]
  show iprop(_ ∗ (_ ∗ rxC m c σ (par (j + 1)) _ _ ∗ _ ∗ oweC c (cnt n .pay) ∗ emp)
    ∗ ((_ ∗ rxC m c σ (par (j + 1)) _ _ ∗ _ ∗ oweC c (cnt n .pay + 1) ∗ emp) -∗ _)) ⊢ _
  rw [hn'.2]
  generalize cnt n (.got σ (par (j + 1))) = g' at *
  unfold rxC oweC cpyC
  rw [if_pos (Nat.lt_succ_self (j / 2)), if_neg (Nat.lt_irrefl (j / 2 + 1)), bs_Ico hj]
  iintro ⟨#HC, ⟨⟨Ha, #Hr, Hc, Hra, -, ⟨%f, -, Hp⟩⟩, ⟨Ha', #Hr', Hc', Hra', #Hrel', Hp'⟩, ⟨Htok, Htoks⟩, ⟨%W, HO⟩, -⟩, Hcl⟩
  imod (Release.slot_release ES (k := (c, σ, par j)) (S := slotOf (c, σ, par j)) (ι := ιs (c, σ, par j)) (Es := Set.univ) (Set.mem_univ _) (slot_false _) (j / 2 + 1)) $$ [Hra Hp] with ⟨Hra, #Hrel⟩
  · isplitr; · iapply (Ctx_slot m κ ιs (c, σ, par j)) $$ HC
    isplitl [Hra]; · iexact Hra
    unfold slotOf Release.slot
    iexists f; iexact Hp
  iapply (Rounds.wp_signal 𝒱₀ ER (Rd m) (c : Thread nD τ) none (dst := (up σ c : Thread nD τ)) (sem := crdSem σ) (κ := κ (up σ c, .crd σ)) (r := 0) (d := j) (k' := 1)
    (by
      have := Rd_duties m (up σ c) (.crd σ) 0
      refine this.symm ▸ ?_
      exact Finset.mem_range.mpr hj)
    (Rd_amount m (up σ c) (.crd σ) 0 j) (cnt n .pay + 1) (O₀ := owed c (cnt n .pay)) (owed c (cnt n .pay + 1))
    (by rw [owed_step c hp.1]; unfold payTally; rw [hp.2]; rfl) (W := W)) $$ [HO Htok]
  · isplitr; · iapply (Ctx_inv m κ ιs (up σ c) (.crd σ)) $$ HC
    isplitl [HO]; · iexact HO
    isplitl [Htok]; · iexact Htok
    isplitr
    · iapply (show crdPay (up σ c) σ j ⊢ (Rd m).payload ((up σ c : Thread nD τ), .reg (crdSem σ)) 0 j from of_eq (Rd_payload m (up σ c) (.crd σ) 0 j).symm)
      iapply (crdPay_intro (σ := σ) (up σ c) j (j / 2 + 2) ((j + 1) / 2 + 1) (j / 2 + 1) g' (Nat.le_refl _) (Nat.le_refl _) (Nat.le_refl _) hn'.1)
      rw [tgt_up]
      isplitr; · iexact Hrel
      isplitr; · iexact Hrel'
      isplitr; · iexact Hr
      iexact Hr'
    iapply (Ctx_reached m κ ιs (up σ c) (.crd σ)) $$ HC
  iintro HO
  iapply hk
  iapply Hcl
  isplitl [Ha Hc Hra]
  · isplitl [Ha]; · iexact Ha
    isplitr; · iexact Hr
    isplitl [Hc]; · iexact Hc
    isplitl [Hra]; · iexact Hra
    isplitr; · iexact Hrel
    iempintro
  isplitl [Ha' Hc' Hra' Hp']
  · isplitl [Ha']; · iexact Ha'
    isplitr; · iexact Hr'
    isplitl [Hc']; · iexact Hc'
    isplitl [Hra']; · iexact Hra'
    isplitr; · iexact Hrel'
    iexact Hp'
  isplitl [Htoks]; · iexact Htoks
  isplitl [HO]
  · iexists _; iexact HO
  iempintro

/-- Knowing two messages more than credits were waited for, and one credit's contents, one more may be sent. -/
theorem knw_more (d : Dev nD) (w e : ℕ) (h : w ≤ e) : (iprop(knwC d σ (2 + w) ∗ crdPay d σ e) : sProp 𝕄) ⊢ knwC d σ (2 + (w + 1)) := by
  refine BI.bigSep_intro_persistent fun i hi => ?_
  unfold knwC crdPay
  have hi := Finset.mem_range.mp hi
  by_cases hl : i < 2 + w
  · iintro ⟨#H, -⟩
    iapply (bs_elim (Finset.mem_range.mpr hl) (Φ := fun i => (canSend d σ i : sProp 𝕄))) $$ H
  · obtain ⟨i, rfl⟩ : ∃ i', i = i' + 2 := ⟨i - 2, by omega⟩
    iintro ⟨-, #H⟩
    iapply (bs_elim (Finset.mem_range.mpr (show i < e + 1 by omega)) (Φ := fun i => (canSend d σ (i + 2) : sProp 𝕄))) $$ H

theorem wcrd {w : ℕ} (ho : opAt n = .wcrd σ w) {sem : Sem sig} {kn : ℤ}
    {kk : PUnit → Prog (TpuEff nD τ sig (Elt F) Λ₀ .tc) α} {Q : α → sProp 𝕄}
    (he : sem = crdSem σ) (hkn : kn = ((1 : ℕ) : ℤ))
    (hn : cnt n (.crd σ) = w ∧ cnt n .bar = 1) (hw : w < σ.T - 2)
    (hp : payIx (.crd σ w) + 1 ≤ cnt n .pay ∧ payIx (.crd σ w) + 1 < 51)
    (hk : St m κ ιs c (n + 1) ⊢ WP c (kk ⟨⟩) Q) :
    St m κ ιs c n ⊢ WP c (.op (.semWait sem kn) kk) Q := by
  subst he hkn
  refine (St_acc m κ ιs c ho [.crd σ, .owe, .knw σ] (by simp) (acts (by simp [Op.keys, Key.cmps]))).trans ?_
  have h0 : comp m c (cnt n) (.crd σ) = crdC c σ w := by show crdC c σ _ = _; rw [hn.1]
  have h1 : comp m c (bump (cnt n) (.wcrd σ w)) (.crd σ) = crdC c σ (w + 1) := by show crdC c σ _ = _; simp [bump, Op.keys, hn]
  have h2 : comp m c (bump (cnt n) (.wcrd σ w)) .owe = comp m c (cnt n) .owe := by show oweC c _ = oweC c _; congr 1
  have h3 : comp m c (cnt n) (.knw σ) = knwC c σ (2 + w) := by show knwC c σ _ = _; rw [hn.1, hn.2]
  have h4 : comp m c (bump (cnt n) (.wcrd σ w)) (.knw σ) = knwC c σ (2 + (w + 1)) := by show knwC c σ _ = _; simp [bump, Op.keys, hn]
  show iprop(_ ∗ (comp m c (cnt n) _ ∗ comp m c (cnt n) _ ∗ comp m c (cnt n) _ ∗ emp) ∗ ((comp m c (bump (cnt n) _) _ ∗ comp m c (bump (cnt n) _) _ ∗ comp m c (bump (cnt n) _) _ ∗ emp) -∗ _)) ⊢ _
  rw [h0, h1, h2, h3, h4]
  show iprop(_ ∗ (_ ∗ oweC c (cnt n .pay) ∗ _ ∗ emp) ∗ ((_ ∗ oweC c (cnt n .pay) ∗ _ ∗ emp) -∗ _)) ⊢ _
  unfold oweC crdC
  rw [if_pos hw, bs_Ico hw]
  have hd : (Rd m).duties ((c : Thread nD τ), .reg (crdSem σ)) 0 = Finset.range (σ.T - 2) :=
    (Rd_duties m c (.crd σ) 0).trans rfl
  have hx : (Rd m).expect ((c : Thread nD τ), .reg (crdSem σ)) 0 = σ.T - 2 := by
    refine (Rd_expect m c (.crd σ) 0).trans ?_
    rw [show Cl.duties (.crd σ) 0 = Finset.range (σ.T - 2) from rfl, Finset.card_range]; exact Nat.mul_one _
  have hpay : ∀ d, (Rd m).payload ((c : Thread nD τ), .reg (crdSem σ)) 0 d = crdPay c σ d := fun d => Rd_payload m c (.crd σ) 0 d
  -- what one more wait teaches
  have learn : ∀ S : Finset ℕ, S ⊆ Finset.range (σ.T - 2) → w + 1 ≤ S.card →
      (iprop(knwC c σ (2 + w) ∗ bigSep S (crdPay c σ)) : sProp 𝕄) ⊢ knwC c σ (2 + (w + 1)) := by
    intro S hS hc
    obtain ⟨e, he, hle⟩ : ∃ e ∈ S, w ≤ e := by
      by_contra hno
      push Not at hno
      have : S ⊆ Finset.range w := fun x hx => Finset.mem_range.mpr (hno x hx)
      have := Finset.card_le_card this
      rw [Finset.card_range] at this; omega
    refine BIBase.Entails.trans ?_ (knw_more c w e hle)
    iintro ⟨#H, #HS⟩
    isplitr; · iexact H
    iapply (bs_elim he (Φ := fun i => (crdPay c σ i : sProp 𝕄))) $$ HS
  iintro ⟨#HC, ⟨⟨⟨%S, %hS, Ha, #HS⟩, ⟨Hcr, Hc⟩⟩, ⟨%W, HO⟩, #Hkn, -⟩, Hcl⟩
  by_cases hl : w + 1 < σ.T - 2
  · rw [if_pos hl]
    iapply (Rounds.wp_wait 𝒱₀ ER (Rd m) (c : Thread nD τ) none (κ := κ (c, .crd σ)) (sm := .reg (crdSem σ))
        (wpE_semWait_eq 𝒱₀ (c : Thread nD τ) none Set.univ) (Set.mem_univ _) (k' := 1) (cr := Finsupp.single (payIx (.crd σ w) + 1) 1) (O := owed c (cnt n .pay)) (W := W)
        (R := 0) (m := w) (T := S) {(.reg (crdSem σ), payIx (.crd σ w) + 1)}
        (Util.total_single _ _) (image_single_subset _ _ _)) $$ [Hcr HO Ha]
    · isplitr; · iapply (Ctx_inv m κ ιs c (.crd σ)) $$ HC
      isplitl [Hcr]; · iexact Hcr
      isplitl [HO]; · iexact HO
      isplitr
      · iapply (mayOwe c (cnt n .pay) _ (by intro p hq; rw [Finset.mem_singleton.mp hq]; exact hp))
        iapply (Ctx_lev m κ ιs) $$ HC
      iexact Ha
    iintro %S' ⟨%hS', HO, Ha, Hnew⟩
    rw [hd, hx] at hS'
    have hcard : w + 1 ≤ S'.card := by
      have h5 := Finset.card_sdiff_add_card_eq_card hS'.2.1
      rw [Finset.card_range] at h5; have := hS'.2.2; omega
    have hall : (iprop(bigSep S (crdPay c σ) ∗ bigSep (S' \ S) (crdPay c σ)) : sProp 𝕄) ⊢ bigSep S' (crdPay c σ) := by
      rw [← bs_union Finset.disjoint_sdiff, Finset.union_sdiff_of_subset hS'.1]
    ihave #HS' := hall $$ [Hnew]
    · isplitr; · iexact HS
      rw [show (fun d => (Rd m).payload ((c : Thread nD τ), .reg (crdSem σ)) 0 d) = crdPay c σ from funext hpay]; iexact Hnew
    iapply hk
    iapply Hcl
    isplitl [Ha Hc]
    · isplitl [Ha]
      · iexists S'
        isplitr; · ipureintro; exact ⟨hS'.2.1, hcard⟩
        isplitl [Ha]; · iexact Ha
        iexact HS'
      iexact Hc
    isplitl [HO]; · iexists _; iexact HO
    isplitr
    · iapply (learn S' hS'.2.1 hcard)
      isplitr; · iexact Hkn
      iexact HS'
    iempintro
  · rw [if_neg hl, if_neg (show ¬ σ.T = 2 by omega)]
    iapply (Rounds.wp_wait_rest_token 𝒱₀ ER (Rd m) (c : Thread nD τ) none (κ := κ (c, .crd σ))
        (wpE_semWait_eq 𝒱₀ (c : Thread nD τ) none Set.univ) (Set.mem_univ _) (payIx (.crd σ w) + 1) (k' := 1) (O := owed c (cnt n .pay)) (W := W) (R := 0) (m := w) (T := S)
        (by rw [hx]; omega)) $$ [Hcr HO Ha]
    · isplitr; · iapply (Ctx_inv m κ ιs c (.crd σ)) $$ HC
      isplitl [Hcr]; · iexact Hcr
      isplitl [HO]; · iexact HO
      isplitr
      · iapply (mayWait c (cnt n .pay) _ _ hp.1 hp.2)
        iapply (Ctx_lev m κ ιs) $$ HC
      iexact Ha
    rw [hd]
    iintro ⟨HO, Ha, -, Hnew⟩
    have hall : (iprop(bigSep S (crdPay c σ) ∗ bigSep (Finset.range (σ.T - 2) \ S) (crdPay c σ)) : sProp 𝕄) ⊢ bigSep (Finset.range (σ.T - 2)) (crdPay c σ) := by
      rw [← bs_union Finset.disjoint_sdiff, Finset.union_sdiff_of_subset hS.1]
    ihave #HS' := hall $$ [Hnew]
    · isplitr; · iexact HS
      rw [show (fun d => (Rd m).payload ((c : Thread nD τ), .reg (crdSem σ)) 0 d) = crdPay c σ from funext hpay]; iexact Hnew
    iapply hk
    iapply Hcl
    isplitl [Ha Hc]
    · isplitl [Ha]; · iexact Ha
      iexact Hc
    isplitl [HO]; · iexists _; iexact HO
    isplitr
    · iapply (learn (Finset.range (σ.T - 2)) (Finset.Subset.refl _) (by rw [Finset.card_range]; omega))
      isplitr; · iexact Hkn
      iexact HS'
    iempintro

/-! ## The entry handshake -/

/-- What an entry signal tells is known to its sender: its slots were put away once, every message semaphore starts its rounds. -/
theorem barPay_intro (c : Dev nD) (i : Fin 3) : iprop(Ctx m κ ιs ∗ relC c) ⊢ barPay (bt i c) i.val := by
  unfold barPay
  refine BI.bigSep_intro_persistent fun σ hσ => ?_
  have hi : σ.dir = i := Fin.ext (Finset.mem_filter.mp hσ).2
  have ht : tgt σ (bt i c) = c := by rw [← bf_dir, hi, bf_bt]
  unfold canSend relC
  rw [ht]
  iintro ⟨#H, #Hr⟩
  isplitr
  · isplitr; · iapply (bs_elim (Finset.mem_univ (σ, par 0)) (Φ := fun k : Strm × Fin 2 => (Release.released ES (c, k) 1 : sProp 𝕄))) $$ Hr
    iapply (Ctx_reached m κ ιs _ _) $$ H
  · isplitr; · iapply (bs_elim (Finset.mem_univ (σ, par 1)) (Φ := fun k : Strm × Fin 2 => (Release.released ES (c, k) 1 : sProp 𝕄))) $$ Hr
    iapply (Ctx_reached m κ ιs _ _) $$ H

theorem bsig {i : Fin 3} (ho : opAt n = .bsig i) {sem : Sem sig} {kn : ℤ} {dst : Thread nD τ}
    {kk : PUnit → Prog (TpuEff nD τ sig (Elt F) Λ₀ .tc) α} {Q : α → sProp 𝕄}
    (he : sem = barSem) (hkn : kn = ((1 : ℕ) : ℤ)) (hv : dst = (bt i c : Thread nD τ))
    (hn : cnt n .bsig = i.val)
    (hp : cnt n .pay < 49 ∧ payAt (cnt n .pay) = .bsig i)
    (hk : St m κ ιs c (n + 1) ⊢ WP c (kk ⟨⟩) Q) :
    St m κ ιs c n ⊢ WP c (.op (.semSignal dst sem kn) kk) Q := by
  subst he hkn hv
  refine (St_acc m κ ιs c ho [.bar, .owe] (by simp) (acts (by simp [Op.keys, Key.cmps]))).trans ?_
  have h0 : comp m c (cnt n) .bar = barC c i.val (cnt n .bar) := by show barC c _ _ = _; rw [hn]
  have h1 : comp m c (bump (cnt n) (.bsig i)) .bar = barC c (i.val + 1) (cnt n .bar) := by show barC c _ _ = _; simp [bump, Op.keys, hn]
  have h2 : comp m c (bump (cnt n) (.bsig i)) .owe = oweC c (cnt n .pay + 1) := by show oweC c _ = oweC c _; congr 1
  show iprop(_ ∗ (comp m c (cnt n) _ ∗ comp m c (cnt n) _ ∗ emp) ∗ ((comp m c (bump (cnt n) _) _ ∗ comp m c (bump (cnt n) _) _ ∗ emp) -∗ _)) ⊢ _
  rw [h0, h1, h2]
  show iprop(_ ∗ (_ ∗ oweC c (cnt n .pay) ∗ emp) ∗ ((_ ∗ oweC c (cnt n .pay + 1) ∗ emp) -∗ _)) ⊢ _
  unfold oweC barC
  have hsplit : (Finset.univ.filter fun i' : Fin 3 => i.val ≤ i'.val) = insert i (Finset.univ.filter fun i' : Fin 3 => i.val + 1 ≤ i'.val) := by
    have h : ∀ i : Fin 3, (Finset.univ.filter fun i' : Fin 3 => i.val ≤ i'.val) = insert i (Finset.univ.filter fun i' : Fin 3 => i.val + 1 ≤ i'.val) := by decide
    exact h i
  rw [hsplit, bs_insert (by simp)]
  iintro ⟨#HC, ⟨⟨Hb, ⟨Htok, Htoks⟩, #Hrl⟩, ⟨%W, HO⟩, -⟩, Hcl⟩
  iapply (Rounds.wp_signal 𝒱₀ ER (Rd m) (c : Thread nD τ) none (dst := (bt i c : Thread nD τ)) (sem := barSem) (κ := κ (bt i c, .bar)) (r := 0) (d := i.val) (k' := 1)
    (by
      have := Rd_duties m (bt i c) .bar 0
      refine this.symm ▸ ?_
      exact Finset.mem_range.mpr i.isLt)
    (Rd_amount m (bt i c) .bar 0 i.val) (cnt n .pay + 1) (O₀ := owed c (cnt n .pay)) (owed c (cnt n .pay + 1))
    (by rw [owed_step c hp.1]; unfold payTally; rw [hp.2]; rfl) (W := W)) $$ [HO Htok]
  · isplitr; · iapply (Ctx_inv m κ ιs (bt i c) .bar) $$ HC
    isplitl [HO]; · iexact HO
    isplitl [Htok]; · iexact Htok
    isplitr
    · iapply (show barPay (bt i c) i.val ⊢ (Rd m).payload ((bt i c : Thread nD τ), .reg barSem) 0 i.val from of_eq (Rd_payload m (bt i c) .bar 0 i.val).symm)
      iapply (barPay_intro m κ ιs c i)
      isplitr; · iexact HC
      iexact Hrl
    iapply (Ctx_reached m κ ιs (bt i c) .bar) $$ HC
  iintro HO
  iapply hk
  iapply Hcl
  isplitl [Hb Htoks]
  · isplitl [Hb]; · iexact Hb
    isplitl [Htoks]; · iexact Htoks
    iexact Hrl
  isplitl [HO]
  · iexists _; iexact HO
  iempintro

/-- A handshake lets two messages of every stream be sent. -/
theorem knw_two (d : Dev nD) (σ : Strm) : (bigSep (Finset.range 3) (barPay d) : sProp 𝕄) ⊢ knwC d σ 2 := by
  refine (bs_elim (i := σ.dir.val) (Finset.mem_range.mpr σ.dir.isLt) (Φ := fun i => (barPay d i : sProp 𝕄))).trans ?_
  unfold barPay
  refine (bs_elim (i := σ) (by simp) (Φ := fun σ => (iprop(canSend d σ 0 ∗ canSend d σ 1) : sProp 𝕄))).trans ?_
  refine BI.bigSep_intro_persistent fun i hi => ?_
  have hi := Finset.mem_range.mp hi
  iintro ⟨#H0, #H1⟩
  obtain rfl | rfl : i = 0 ∨ i = 1 := by omega
  · iexact H0
  · iexact H1

theorem bwait (ho : opAt n = .bwait) {sem : Sem sig} {kn : ℤ}
    {kk : PUnit → Prog (TpuEff nD τ sig (Elt F) Λ₀ .tc) α} {Q : α → sProp 𝕄}
    (he : sem = barSem) (hkn : kn = ((3 : ℕ) : ℤ))
    (hn : cnt n .bar = 0 ∧ ∀ σ, cnt n (.crd σ) = 0) (hp : 3 ≤ cnt n .pay)
    (hk : St m κ ιs c (n + 1) ⊢ WP c (kk ⟨⟩) Q) :
    St m κ ιs c n ⊢ WP c (.op (.semWait sem kn) kk) Q := by
  subst he hkn
  refine (St_acc m κ ιs c ho [.bar, .owe, .knw .A, .knw .B, .knw .C, .knw .D, .knw .Z] (by decide) (acts (by simp [Op.keys, Key.cmps]))).trans ?_
  have h0 : comp m c (cnt n) .bar = barC c (cnt n .bsig) 0 := by show barC c _ _ = _; rw [hn.1]
  have h1 : comp m c (bump (cnt n) .bwait) .bar = barC c (cnt n .bsig) 1 := by show barC c _ _ = _; simp [bump, Op.keys, hn]
  have h2 : comp m c (bump (cnt n) .bwait) .owe = comp m c (cnt n) .owe := by show oweC c _ = oweC c _; congr 1
  have h4 : ∀ σ, comp m c (bump (cnt n) .bwait) (.knw σ) = knwC c σ 2 := fun σ => by
    show knwC c σ _ = _; simp [bump, Op.keys, hn]
  show iprop(_ ∗ (comp m c (cnt n) _ ∗ comp m c (cnt n) _ ∗ _) ∗ ((comp m c (bump (cnt n) _) _ ∗ comp m c (bump (cnt n) _) _
    ∗ comp m c (bump (cnt n) _) _ ∗ comp m c (bump (cnt n) _) _ ∗ comp m c (bump (cnt n) _) _ ∗ comp m c (bump (cnt n) _) _ ∗ comp m c (bump (cnt n) _) _ ∗ emp) -∗ _)) ⊢ _
  rw [h0, h1, h2, h4, h4, h4, h4, h4]
  show iprop(_ ∗ (_ ∗ oweC c (cnt n .pay) ∗ _) ∗ ((_ ∗ oweC c (cnt n .pay) ∗ _) -∗ _)) ⊢ _
  unfold oweC barC
  rw [if_pos rfl, if_neg Nat.one_ne_zero]
  have hd : (Rd m).duties ((c : Thread nD τ), .reg barSem) 0 = Finset.range 3 := (Rd_duties m c .bar 0).trans rfl
  have hx : (Rd m).expect ((c : Thread nD τ), .reg barSem) 0 = 3 := by
    refine (Rd_expect m c .bar 0).trans ?_
    rw [show Cl.duties .bar 0 = Finset.range 3 from rfl, Finset.card_range]; rfl
  have hpay : ∀ d, (Rd m).payload ((c : Thread nD τ), .reg barSem) 0 d = barPay c d := fun d => Rd_payload m c .bar 0 d
  have hcr : (bigSep (Finset.range 3) (fun i => cred (tallyAt (cell c .bar) (i + 1) 1)) : sProp 𝕄)
      ⊢ cred (tallyOn (cell c .bar) (Finsupp.single 1 1 + Finsupp.single 2 1 + Finsupp.single 3 1)) := by
    rw [show (Finset.range 3 : Finset ℕ) = insert 0 (insert 1 {2}) by decide, bs_insert (by decide), bs_insert (by decide), bs_single]
    rw [show (tallyOn (cell c .bar) (Finsupp.single 1 1 + Finsupp.single 2 1 + Finsupp.single 3 1) : CellTallies nD τ sig ℕ)
      = tallyAt (cell c .bar) 1 1 + tallyAt (cell c .bar) 2 1 + tallyAt (cell c .bar) 3 1 by
        unfold tallyOn tallyAt; rw [Pi.single_add, Pi.single_add]; rfl]
    iintro ⟨H1, H2, H3⟩
    iapply (cred_add _ _).2
    isplitl [H1 H2]
    · iapply (cred_add _ _).2
      isplitl [H1]; · iexact H1
      iexact H2
    iexact H3
  have hsup : (Finsupp.single 1 1 + Finsupp.single 2 1 + Finsupp.single 3 1 : ℕ →₀ ℕ).support ⊆ Finset.range 4 := by
    intro x hx
    by_contra hxn
    rw [Finset.mem_range] at hxn
    refine absurd ?_ (Finsupp.mem_support_iff.mp hx)
    rw [Finsupp.add_apply, Finsupp.add_apply, Finsupp.single_eq_of_ne (by omega), Finsupp.single_eq_of_ne (by omega), Finsupp.single_eq_of_ne (by omega)]
    rfl
  iintro ⟨#HC, ⟨⟨⟨Ha, Hcr⟩, Htoks, #Hrl⟩, ⟨%W, HO⟩, -⟩, Hcl⟩
  ihave Hcr := hcr $$ Hcr
  iapply (Rounds.wp_wait_rest 𝒱₀ ER (Rd m) (c : Thread nD τ) none (κ := κ (c, .bar)) (sm := .reg barSem)
      (wpE_semWait_eq 𝒱₀ (c : Thread nD τ) none Set.univ) (Set.mem_univ _) (k' := 3) (cr := Finsupp.single 1 1 + Finsupp.single 2 1 + Finsupp.single 3 1)
      (O := owed c (cnt n .pay)) (W := W) (R := 0) (m := 0) (T := ∅) ((Finset.range 4).image (SemLoc.reg barSem, ·))
      (by rw [hx])
      (by rw [Util.total_add, Util.total_add, Util.total_single, Util.total_single, Util.total_single])
      (Finset.image_subset_image hsup)) $$ [Hcr HO Ha]
  · isplitr; · iapply (Ctx_inv m κ ιs c .bar) $$ HC
    isplitl [Hcr]; · iexact Hcr
    isplitl [HO]; · iexact HO
    isplitr
    · iapply (mayOwe c (cnt n .pay) _ (by
        intro p hq
        obtain ⟨i, hi, rfl⟩ := Finset.mem_image.mp hq
        have := Finset.mem_range.mp hi
        exact ⟨by show i ≤ _; omega, by show i < 51; omega⟩))
      iapply (Ctx_lev m κ ιs) $$ HC
    iexact Ha
  rw [Finset.sdiff_empty, hd, show (fun d => (Rd m).payload ((c : Thread nD τ), .reg barSem) 0 d) = barPay c from funext hpay]
  iintro ⟨HO, Ha, -, #Hpay⟩
  iapply hk
  iapply Hcl
  isplitl [Ha Htoks]
  · isplitl [Ha]; · iexact Ha
    isplitl [Htoks]; · iexact Htoks
    iexact Hrl
  isplitl [HO]
  · iexists _; iexact HO
  isplitr; · iapply (knw_two c _) $$ Hpay
  isplitr; · iapply (knw_two c _) $$ Hpay
  isplitr; · iapply (knw_two c _) $$ Hpay
  isplitr; · iapply (knw_two c _) $$ Hpay
  isplitr; · iapply (knw_two c _) $$ Hpay
  iempintro

end Hands

end Cert.KernelIdeal.RingProof
-- ==== Proof.Enter.lean ====
/- The state a device enters its body with, and what it leaves with. -/
module

public import proofs.«01_k».proof.Proof.Deal
public import proofs.«01_k».proof.Proof.Hand
public import Idealize.ShloMosaic.Lib.Ring

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × Cl → ℕ) (ιs : SK → ℕ)

/-! ## Buffers and their two halves -/

/-- Two rectangles that halve the shape along its first axis. -/
structure Halves (s : Shape) (r : Fin 2 → Rect s) (a₀ : Fin s.rank) : Prop where
  two : s.size a₀ = 2
  off0 : ∀ b, (r b).off a₀ = b.val
  size0 : ∀ b, (r b).size a₀ = 1
  off : ∀ b a, a ≠ a₀ → (r b).off a = 0
  size : ∀ b a, a ≠ a₀ → (r b).size a = s.size a
  stride : ∀ b a, (r b).stride a = 1

variable {s : Shape} {r : Fin 2 → Rect s} {a₀ : Fin s.rank}

theorem Halves.mem (H : Halves s r a₀) (b : Fin 2) (i : s.Idx) : i ∈ (r b).set ↔ (i a₀).val = b.val := by
  refine (LoadRect.mem_set _).trans ⟨fun h => ?_, fun h a => ?_⟩
  · obtain ⟨j, hj, e⟩ := h a₀
    rw [H.size0] at hj
    rw [H.off0, H.stride] at e
    omega
  · by_cases ha : a = a₀
    · subst ha
      exact ⟨0, by rw [H.size0]; exact Nat.one_pos, by rw [H.off0, h]; rfl⟩
    · exact ⟨(i a).val, by rw [H.size b a ha]; exact (i a).isLt, by rw [H.off b a ha, H.stride]; omega⟩

theorem Halves.disj (H : Halves s r a₀) (b b' : Fin 2) (h : b ≠ b') : Disjoint (r b).set (r b').set := by
  rw [Finset.disjoint_left]
  intro i hi hi'
  exact h (Fin.ext (((H.mem b i).mp hi).symm.trans ((H.mem b' i).mp hi')))

theorem Halves.cover (H : Halves s r a₀) (i : s.Idx) : ∃ b, i ∈ (r b).set := by
  have h := (i a₀).isLt
  have h2 := H.two
  exact ⟨⟨(i a₀).val, by omega⟩, (H.mem _ i).mpr rfl⟩

theorem slotR_halves : Halves S2x192x768 slotR 0 :=
  ⟨rfl, fun _ => rfl, fun _ => rfl, by decide, by decide, fun _ _ => rfl⟩
theorem sAR_halves : Halves S2x1536x512 sAR 0 :=
  ⟨rfl, fun _ => rfl, fun _ => rfl, by decide, by decide, fun _ _ => rfl⟩
theorem sBR_halves : Halves S2x512x1536 sBR 0 :=
  ⟨rfl, fun _ => rfl, fun _ => rfl, by decide, by decide, fun _ _ => rfl⟩

/-- One half's elements of a buffer. -/
def half {sp : Space} {e : EltTy} {s' : Shape} (M : Memref sig .tc sp s e) (hst : ∀ b a, (r b).stride a = 1)
    (hsq : ∀ b, (r b).shape.Squeezes s') (b : Fin 2) : Finset M.view.ty.Idx := ((M.slice (r b) (hst b)).squeeze s' (hsq b)).view.set

/-- A whole buffer is its two halves. -/
theorem halves_sets {sp : Space} {e : EltTy} {s' : Shape} (M : Memref sig .tc sp s e) (hM : M.view.set = Finset.univ)
    (H : Halves s r a₀) (hst : ∀ b a, (r b).stride a = 1) (hsq : ∀ b, (r b).shape.Squeezes s') :
    (∀ b b', b ≠ b' → Disjoint (half M hst hsq b) (half M hst hsq b')) ∧ Finset.univ.biUnion (half M hst hsq) = Finset.univ := by
  have e (b : Fin 2) : half M hst hsq b = M.view.setOn (r b).set := (slot_set M (r b) (hst b) (hsq b)).symm
  constructor
  · intro b b' h
    rw [e, e]
    exact (Finset.disjoint_map _).mpr (H.disj b b' h)
  · refine Finset.eq_univ_of_forall fun i => ?_
    have hi : i ∈ M.view.set := by rw [hM]; exact Finset.mem_univ _
    obtain ⟨j, -, rfl⟩ := Finset.mem_map.mp hi
    obtain ⟨b, hb⟩ := H.cover j
    refine Finset.mem_biUnion.mpr ⟨b, Finset.mem_univ _, ?_⟩
    rw [e]
    exact Finset.mem_map_of_mem _ hb

theorem whole_split {sp : Space} {e : EltTy} {s' : Shape} (M : Memref sig .tc sp s e) (hM : M.view.set = Finset.univ)
    (H : Halves s r a₀) (hst : ∀ b a, (r b).stride a = 1) (hsq : ∀ b, (r b).shape.Squeezes s') (c : Dev nD) :
    (iprop(∃ f, M.view.loc (c : Thread nD τ) ↦{fullShare} f) : sProp 𝕄)
      ⊢ iprop((∃ f, ((M.slice (r 0) (hst 0)).squeeze s' (hsq 0)).view.loc (c : Thread nD τ) ↦[((M.slice (r 0) (hst 0)).squeeze s' (hsq 0)).view.set]{fullShare} f)
        ∗ (∃ f, ((M.slice (r 1) (hst 1)).squeeze s' (hsq 1)).view.loc (c : Thread nD τ) ↦[((M.slice (r 1) (hst 1)).squeeze s' (hsq 1)).view.set]{fullShare} f)) := by
  obtain ⟨hd, hc⟩ := halves_sets M hM H hst hsq
  iintro ⟨%f, Hf⟩
  have e := (Ring.pointsTo_blocks (ℓ := M.view.loc (c : Thread nD τ)) _ hd hc (q := fullShare) f : (_ : sProp 𝕄) = _)
  rw [fin2_split] at e
  ihave Hf := (Entails.of_eq e) $$ Hf
  icases Hf with ⟨H0, H1⟩
  isplitl [H0]
  · iexists f; iexact H0
  · iexists f; iexact H1

theorem whole_join {sp : Space} {e : EltTy} {s' : Shape} (M : Memref sig .tc sp s e) (hM : M.view.set = Finset.univ)
    (H : Halves s r a₀) (hst : ∀ b a, (r b).stride a = 1) (hsq : ∀ b, (r b).shape.Squeezes s') (c : Dev nD) :
    (iprop((∃ f, ((M.slice (r 0) (hst 0)).squeeze s' (hsq 0)).view.loc (c : Thread nD τ) ↦[((M.slice (r 0) (hst 0)).squeeze s' (hsq 0)).view.set]{fullShare} f)
        ∗ (∃ f, ((M.slice (r 1) (hst 1)).squeeze s' (hsq 1)).view.loc (c : Thread nD τ) ↦[((M.slice (r 1) (hst 1)).squeeze s' (hsq 1)).view.set]{fullShare} f)) : sProp 𝕄)
      ⊢ iprop(∃ f, M.view.loc (c : Thread nD τ) ↦{fullShare} f) := by
  obtain ⟨hd, hc⟩ := halves_sets M hM H hst hsq
  iintro ⟨⟨%f, H0⟩, H1⟩
  have e := (Ring.pointsTo_blocks_join_exists (ℓ := M.view.loc (c : Thread nD τ)) _ hd hc (q := fullShare) f : (_ : sProp 𝕄) ⊢ _)
  rw [fin2_split] at e
  iapply e
  isplitl [H0]
  · iexists f; iexact H0
  · iexact H1

theorem txM_set (σ : Strm) : (txM σ).view.set = Finset.univ := by cases σ <;> exact View.set_whole _
theorem rxM_set (σ : Strm) : (rxM σ).view.set = Finset.univ := by cases σ <;> exact View.set_whole _

/-- A stream's send buffer is its two slots. -/
theorem tx_split (c : Dev nD) (σ : Strm) : (iprop(∃ f, (txM σ).view.loc (c : Thread nD τ) ↦{fullShare} f) : sProp 𝕄)
    ⊢ iprop((∃ f, txPt c σ 0 f) ∗ (∃ f, txPt c σ 1 f)) :=
  whole_split (txM σ) (txM_set σ) slotR_halves (fun _ _ => rfl) (fun _ => squeezes_S1x192x768_S192x768) c
theorem tx_join (c : Dev nD) (σ : Strm) : (iprop((∃ f, txPt c σ 0 f) ∗ (∃ f, txPt c σ 1 f)) : sProp 𝕄)
    ⊢ iprop(∃ f, (txM σ).view.loc (c : Thread nD τ) ↦{fullShare} f) :=
  whole_join (txM σ) (txM_set σ) slotR_halves (fun _ _ => rfl) (fun _ => squeezes_S1x192x768_S192x768) c
/-- A stream's receive buffer is its two slots. -/
theorem rx_split (c : Dev nD) (σ : Strm) : (iprop(∃ f, (rxM σ).view.loc (c : Thread nD τ) ↦{fullShare} f) : sProp 𝕄)
    ⊢ iprop((∃ f, rxPt c σ 0 f) ∗ (∃ f, rxPt c σ 1 f)) :=
  whole_split (rxM σ) (rxM_set σ) slotR_halves (fun _ _ => rfl) (fun _ => squeezes_S1x192x768_S192x768) c
theorem rx_join (c : Dev nD) (σ : Strm) : (iprop((∃ f, rxPt c σ 0 f) ∗ (∃ f, rxPt c σ 1 f)) : sProp 𝕄)
    ⊢ iprop(∃ f, (rxM σ).view.loc (c : Thread nD τ) ↦{fullShare} f) :=
  whole_join (rxM σ) (rxM_set σ) slotR_halves (fun _ _ => rfl) (fun _ => squeezes_S1x192x768_S192x768) c

/-- An argument's two read shares make the whole. -/
theorem arg_eq {cs : Space} {s : Shape} {e : EltTy} (c : Dev nD) (M : Memref sig .tc cs s e) :
    (M.view.loc (c : Thread nD τ) ↦{fullShare} m (M.view.loc (c : Thread nD τ)) : sProp 𝕄) = iprop(argPt m c M 0 ∗ argPt m c M 1) := by
  have h := (Transfers.pointsTo_deal (Finset.univ : Finset (Fin 2)) ⟨0, Finset.mem_univ _⟩ fullShare :
    (M.view.loc (c : Thread nD τ) ↦[Finset.univ]{fullShare} m (M.view.loc (c : Thread nD τ)) : sProp 𝕄) = _)
  rw [fin2_split] at h
  exact h

/-! ## Entering -/

theorem slotOf_intro (c : Dev nD) (σ : Strm) (b : Fin 2) : (iprop(∃ f, rxPt c σ b f) : sProp 𝕄) ⊢ slotOf (c, σ, b) := BI.Entails.refl _
theorem bs_subset {I : Type} [DecidableEq I] {S T : Finset I} {Φ : I → sProp 𝕄} (h : S ⊆ T) : bigSep T Φ ⊢ bigSep S Φ := BI.bigSep_subset h

theorem slot_put (c : Dev nD) (σ : Strm) (b : Fin 2) :
    iprop(Ctx m κ ιs ∗ Release.readerAt ES (c, σ, b) 0 ∗ (∃ f, rxPt c σ b f))
      ⊢ |={Set.univ}=> (iprop(Release.readerAt ES (c, σ, b) 1 ∗ Release.released ES (c, σ, b) 1) : sProp 𝕄) := by
  iintro ⟨#HC, Hr, HS⟩
  iapply (Release.slot_release ES (Set.mem_univ _) (slot_false (c, σ, b)) 0)
  isplitr
  · iapply (Ctx_slot m κ ιs (c, σ, b)); iexact HC
  isplitl [Hr]; · iexact Hr
  iapply (slotOf_intro c σ b); iexact HS

theorem tx_in (c : Dev nD) (σ : Strm) (b : Fin 2) :
    iprop(Ctx m κ ιs ∗ atPos ER (cell c (.snd σ b)) 0 ∅ 0 ∗ clToks c (.snd σ b) ∗ clToks c (.rcv σ b)
      ∗ (bigSep (Finset.range 5) fun i => Release.writeTok ES (tgt σ c, σ, b) (i + 1)) ∗ (∃ f, txPt c σ b f))
      ⊢ txC m c σ b 0 0 0 := by
  unfold txC
  iintro ⟨#HC, Hp, Ht, Hu, Hw, ⟨%f, Hf⟩⟩
  isplitl [Hp]; · iexact Hp
  isplitr
  · iapply (Ctx_reached m κ ιs c (.snd σ b)); iexact HC
  isplitl [Ht Hu Hw]
  · rw [bs_sep, bs_sep]
    isplitl [Ht]
    · iapply (toks_rounds c c (.snd σ b) _ (R_le σ b) rfl); iexact Ht
    isplitl [Hu]
    · iapply (toks_rounds c (tgt σ c) (.rcv σ b) _ (R_le σ b) rfl); iexact Hu
    · iapply (bs_subset (S := Finset.Ico 0 (σ.R b)) (T := Finset.range 5) (fun i hi => by
        have := (Finset.mem_Ico.mp hi).2; have := R_le σ b; exact Finset.mem_range.mpr (by omega))); iexact Hw
  rw [if_neg (by decide)]
  iexists f
  isplitr
  · ipureintro; intro h; exact absurd h (by decide)
  iexact Hf

theorem rx_in (c : Dev nD) (σ : Strm) (b : Fin 2) :
    iprop(Ctx m κ ιs ∗ atPos ER (cell c (.rcv σ b)) 0 ∅ 0 ∗ clCreds c (.rcv σ b)
      ∗ Release.readerAt ES (c, σ, b) 1 ∗ Release.released ES (c, σ, b) 1)
      ⊢ rxC m c σ b 0 0 := by
  unfold rxC
  iintro ⟨#HC, Hp, Hc, Hr, Hl⟩
  isplitl [Hp]; · iexact Hp
  isplitr
  · iapply (Ctx_reached m κ ιs c (.rcv σ b)); iexact HC
  isplitl [Hc]
  · iapply (creds_rcv c σ b); iexact Hc
  isplitl [Hr]; · iexact Hr
  isplitl [Hl]; · iexact Hl
  rw [if_neg (by decide)]
  iempintro

theorem T_cases (σ : Strm) : 0 < σ.T - 2 ∨ σ.T = 2 := by cases σ <;> decide

theorem crd_in (c : Dev nD) (σ : Strm) :
    iprop(atPos ER (cell c (.crd σ)) 0 ∅ 0 ∗ clCreds c (.crd σ)) ⊢ (crdC c σ 0 : sProp 𝕄) := by
  unfold crdC
  iintro ⟨Hp, Hc⟩
  isplitl [Hp]
  · rcases T_cases σ with h | h
    · rw [if_pos h]
      iexists (∅ : Finset ℕ)
      isplitr
      · ipureintro; exact ⟨Finset.empty_subset _, Nat.zero_le _⟩
      isplitl [Hp]; · iexact Hp
      rw [BI.bigSep_empty]; iempintro
    · rw [if_neg (by omega), if_pos h]; iexact Hp
  · iapply (creds_crd c σ); iexact Hc

/-- What a device enters with of one semaphore. -/
def cellIn (c : Dev nD) (x : Cl) : sProp 𝕄 := iprop(atPos ER (cell c x) 0 ∅ 0 ∗ clToks c x ∗ clCreds c x)
/-- The tokens of the slots it writes. -/
def slotTok (c : Dev nD) (k : Strm × Fin 2) : sProp 𝕄 := bigSep (Finset.range 5) fun i => Release.writeTok ES (tgt k.1 c, k) (i + 1)
/-- What a device enters with of one stream. -/
def strmIn (c : Dev nD) (σ : Strm) : sProp 𝕄 :=
  iprop((cellIn c (.crd σ) ∗ cellIn c (.snd σ 0) ∗ cellIn c (.snd σ 1) ∗ cellIn c (.rcv σ 0) ∗ cellIn c (.rcv σ 1))
    ∗ (Release.readerAt ES (c, σ, 0) 0 ∗ Release.readerAt ES (c, σ, 1) 0)
    ∗ (slotTok c (σ, 0) ∗ slotTok c (σ, 1))
    ∗ (∃ f, (txM σ).view.loc (c : Thread nD τ) ↦{fullShare} f) ∗ (∃ f, (rxM σ).view.loc (c : Thread nD τ) ↦{fullShare} f))
/-- A stream's components of the state. -/
def strmSt (c : Dev nD) (ct : Key → ℕ) (σ : Strm) : sProp 𝕄 :=
  iprop(comp m c ct (.tx σ 0) ∗ comp m c ct (.tx σ 1) ∗ comp m c ct (.rx σ 0) ∗ comp m c ct (.rx σ 1)
    ∗ comp m c ct (.crd σ) ∗ comp m c ct (.cpy σ) ∗ comp m c ct (.knw σ))
def slotRel (c : Dev nD) (k : Strm × Fin 2) : sProp 𝕄 := Release.released ES (c, k) 1
instance (c : Dev nD) (k : Strm × Fin 2) : BI.Persistent (slotRel (F := F) c k) := by unfold slotRel; infer_instance

theorem strmSt_zero (c : Dev nD) (σ : Strm) : strmSt m c (cnt 0) σ
    = iprop(txC m c σ 0 0 0 0 ∗ txC m c σ 1 0 0 0 ∗ rxC m c σ 0 0 0 ∗ rxC m c σ 1 0 0 ∗ crdC c σ 0 ∗ cpyC c σ 0 ∗ knwC c σ 0) := rfl
theorem knw_zero (c : Dev nD) (σ : Strm) : (iprop(emp) : sProp 𝕄) ⊢ knwC c σ 0 := by
  unfold knwC; rw [Finset.range_zero, BI.bigSep_empty]; exact BI.Entails.refl _

theorem strm_enter (c : Dev nD) (σ : Strm) : iprop(Ctx m κ ιs ∗ strmIn c σ)
    ⊢ |={Set.univ}=> iprop(strmSt m c (cnt 0) σ ∗ (slotRel c (σ, 0) ∗ slotRel c (σ, 1))) := by
  rw [strmSt_zero]
  unfold strmIn cellIn slotTok slotRel
  iintro ⟨#HC, ⟨⟨Hp, Ht, Hc⟩, ⟨Hp0, Ht0, -⟩, ⟨Hp1, Ht1, -⟩, ⟨Hq0, Hu0, Hc0⟩, ⟨Hq1, Hu1, Hc1⟩⟩, ⟨Hr0, Hr1⟩, ⟨Hw0, Hw1⟩, Htx, Hrx⟩
  ihave Htx := (tx_split c σ) $$ Htx
  icases Htx with ⟨Htx0, Htx1⟩
  ihave Hrx := (rx_split c σ) $$ Hrx
  icases Hrx with ⟨Hrx0, Hrx1⟩
  imod (slot_put m κ ιs c σ 0) $$ [HC Hr0 Hrx0] with ⟨Hr0, #Hl0⟩
  · isplitr; · iexact HC
    isplitl [Hr0] <;> iassumption
  imod (slot_put m κ ιs c σ 1) $$ [HC Hr1 Hrx1] with ⟨Hr1, #Hl1⟩
  · isplitr; · iexact HC
    isplitl [Hr1] <;> iassumption
  imodintro
  isplitl
  · isplitl [Hp0 Ht0 Hu0 Hw0 Htx0]
    · iapply (tx_in m κ ιs c σ 0)
      isplitr; · iexact HC
      isplitl [Hp0]; · iexact Hp0
      isplitl [Ht0]; · iexact Ht0
      isplitl [Hu0]; · iexact Hu0
      isplitl [Hw0]; · iexact Hw0
      iexact Htx0
    isplitl [Hp1 Ht1 Hu1 Hw1 Htx1]
    · iapply (tx_in m κ ιs c σ 1)
      isplitr; · iexact HC
      isplitl [Hp1]; · iexact Hp1
      isplitl [Ht1]; · iexact Ht1
      isplitl [Hu1]; · iexact Hu1
      isplitl [Hw1]; · iexact Hw1
      iexact Htx1
    isplitl [Hq0 Hc0 Hr0]
    · iapply (rx_in m κ ιs c σ 0)
      isplitr; · iexact HC
      isplitl [Hq0]; · iexact Hq0
      isplitl [Hc0]; · iexact Hc0
      isplitl [Hr0]; · iexact Hr0
      iexact Hl0
    isplitl [Hq1 Hc1 Hr1]
    · iapply (rx_in m κ ιs c σ 1)
      isplitr; · iexact HC
      isplitl [Hq1]; · iexact Hq1
      isplitl [Hc1]; · iexact Hc1
      isplitl [Hr1]; · iexact Hr1
      iexact Hl1
    isplitl [Hp Hc]
    · iapply (crd_in c σ)
      isplitl [Hp]; · iexact Hp
      iexact Hc
    isplitl [Ht]
    · iapply (toks_crd c σ); iexact Ht
    · iapply (knw_zero c σ); iempintro
  isplitr
  · iexact Hl0
  · iexact Hl1

/-- What a device enters its body with, besides what it knows. -/
def devIn (c : Dev nD) : sProp 𝕄 :=
  iprop(oweC c 0 ∗ cellIn c .bar ∗ (bigSep Finset.univ fun σ : Strm => strmIn c σ)
    ∗ copySems c
    ∗ (∃ f, sAM.view.loc (c : Thread nD τ) ↦{fullShare} f) ∗ (∃ f, sBM.view.loc (c : Thread nD τ) ↦{fullShare} f)
    ∗ (a0M.view.loc (c : Thread nD τ) ↦{fullShare} m (a0M.view.loc (c : Thread nD τ)))
    ∗ (a1M.view.loc (c : Thread nD τ) ↦{fullShare} m (a1M.view.loc (c : Thread nD τ)))
    ∗ (a2M.view.loc (c : Thread nD τ) ↦{fullShare} m (a2M.view.loc (c : Thread nD τ)))
    ∗ (∃ f, oM.view.loc (c : Thread nD τ) ↦{fullShare} f)
    ∗ (∃ f, xbM.view.loc (c : Thread nD τ) ↦{fullShare} f) ∗ (∃ f, w1M.view.loc (c : Thread nD τ) ↦{fullShare} f)
    ∗ (∃ f, w2M.view.loc (c : Thread nD τ) ↦{fullShare} f) ∗ (∃ f, hbM.view.loc (c : Thread nD τ) ↦{fullShare} f)
    ∗ (∃ f, hcM.view.loc (c : Thread nD τ) ↦{fullShare} f))

theorem strms_enter (c : Dev nD) : iprop(Ctx m κ ιs ∗ bigSep Finset.univ fun σ : Strm => strmIn c σ)
    ⊢ |={Set.univ}=> iprop((bigSep Finset.univ fun σ : Strm => strmSt m c (cnt 0) σ) ∗ relC c) := by
  have h1 : iprop(Ctx m κ ιs ∗ bigSep Finset.univ fun σ : Strm => strmIn c σ)
      ⊢ bigSep Finset.univ fun σ : Strm => iprop(|={Set.univ}=> iprop(strmSt m c (cnt 0) σ ∗ (slotRel c (σ, 0) ∗ slotRel c (σ, 1)))) :=
    (sep_mono_left (BI.bigSep_of_persistent Finset.univ (Ctx m κ ιs))).trans
      (by rw [← bs_sep]; exact BI.bigSep_mono fun σ _ => strm_enter m κ ιs c σ)
  have h2 : (bigSep Finset.univ fun σ : Strm => iprop(strmSt m c (cnt 0) σ ∗ (slotRel c (σ, 0) ∗ slotRel c (σ, 1))))
      = iprop((bigSep Finset.univ fun σ : Strm => strmSt m c (cnt 0) σ) ∗ relC c) := by
    rw [bs_sep]
    unfold relC
    exact congrArg (fun X => iprop(_ ∗ X)) (slot_split (slotRel c)).symm
  rw [← h2]
  exact h1.trans (BI.bigSep_fupd Finset.univ _)

/-- A whole buffer is at contents of which nothing is asked. -/
theorem good_intro (c : Dev nD) {cs : CoreSpace} {s : Shape} {e : EltTy} (M : Memref sig .tc cs s e)
    (P : Buf (Elt F) (M.view.loc (c : Thread nD τ)) → Prop) (h : ∀ f, P f) :
    (iprop(∃ f, M.view.loc (c : Thread nD τ) ↦{fullShare} f) : sProp 𝕄) ⊢ good c M P := by
  unfold good
  iintro ⟨%f, H⟩
  iexists f
  isplitr; · ipureintro; exact h f
  iexact H

theorem cA_in (c : Dev nD) (b : Fin 2) :
    (iprop(semVal ((c : Thread nD τ), .dma (cpySemA b)) 0
      ∗ (∃ f, (sAS b).view.loc (c : Thread nD τ) ↦[(sAS b).view.set]{fullShare} f) ∗ argPt m c a0M b ∗ argPt m c a1M b) : sProp 𝕄) ⊢ cAC m c b 0 0 := by
  unfold cAC cpA
  rw [if_pos rfl]
  iintro ⟨H, ⟨%f, Hf⟩, Ha, Hb⟩
  isplitl [H]; · iexact H
  isplitl [Hf]
  · iexists f
    isplitr
    · ipureintro; intro i h; have := b.isLt; omega
    iexact Hf
  isplitl [Ha] <;> iassumption

theorem cB_in (c : Dev nD) (b : Fin 2) :
    (iprop(semVal ((c : Thread nD τ), .dma (cpySemB b)) 0
      ∗ (∃ f, (sBS b).view.loc (c : Thread nD τ) ↦[(sBS b).view.set]{fullShare} f) ∗ argPt m c a2M b) : sProp 𝕄) ⊢ cBC m c b 0 0 := by
  unfold cBC cpB
  rw [if_pos rfl]
  iintro ⟨H, ⟨%f, Hf⟩, Ha⟩
  isplitl [H]; · iexact H
  isplitl [Hf]
  · iexists f
    isplitr
    · ipureintro; intro i h; have := b.isLt; omega
    iexact Hf
  iexact Ha

theorem bar_in (c : Dev nD) : (iprop(cellIn c .bar ∗ relC c) : sProp 𝕄) ⊢ barC c 0 0 := by
  unfold barC cellIn
  rw [if_pos rfl]
  iintro ⟨⟨Hp, Ht, Hc⟩, Hr⟩
  isplitl [Hp Hc]
  · isplitl [Hp]; · iexact Hp
    iapply (creds_bar c); iexact Hc
  isplitl [Ht]
  · iapply (toks_bar c); iexact Ht
  iexact Hr

theorem St_zero (c : Dev nD) : St m κ ιs c 0 = iprop(Ctx m κ ιs
    ∗ (oweC c 0 ∗ barC c 0 0 ∗ cAC m c 0 0 0 ∗ cAC m c 1 0 0 ∗ cBC m c 0 0 0 ∗ cBC m c 1 0 0 ∗ outC m c (fun _ _ => 0) ∗ xbC m c 0
      ∗ w1C m c 0 ∗ w2C m c 0 ∗ hbC m c 0 ∗ hcC m c (fun _ => 0)) ∗ bigSep Finset.univ fun σ : Strm => strmSt m c (cnt 0) σ) := by
  unfold St StC
  rw [cmp_split]
  rfl

theorem sA_split (c : Dev nD) : (iprop(∃ f, sAM.view.loc (c : Thread nD τ) ↦{fullShare} f) : sProp 𝕄)
    ⊢ iprop((∃ f, (sAS 0).view.loc (c : Thread nD τ) ↦[(sAS 0).view.set]{fullShare} f) ∗ (∃ f, (sAS 1).view.loc (c : Thread nD τ) ↦[(sAS 1).view.set]{fullShare} f)) :=
  whole_split sAM (View.set_whole _) sAR_halves (fun _ _ => rfl) (fun _ => squeezes_S1x1536x512_S1536x512) c
theorem sA_join (c : Dev nD) :
    (iprop((∃ f, (sAS 0).view.loc (c : Thread nD τ) ↦[(sAS 0).view.set]{fullShare} f) ∗ (∃ f, (sAS 1).view.loc (c : Thread nD τ) ↦[(sAS 1).view.set]{fullShare} f)) : sProp 𝕄)
    ⊢ iprop(∃ f, sAM.view.loc (c : Thread nD τ) ↦{fullShare} f) :=
  whole_join sAM (View.set_whole _) sAR_halves (fun _ _ => rfl) (fun _ => squeezes_S1x1536x512_S1536x512) c
theorem sB_split (c : Dev nD) : (iprop(∃ f, sBM.view.loc (c : Thread nD τ) ↦{fullShare} f) : sProp 𝕄)
    ⊢ iprop((∃ f, (sBS 0).view.loc (c : Thread nD τ) ↦[(sBS 0).view.set]{fullShare} f) ∗ (∃ f, (sBS 1).view.loc (c : Thread nD τ) ↦[(sBS 1).view.set]{fullShare} f)) :=
  whole_split sBM (View.set_whole _) sBR_halves (fun _ _ => rfl) (fun _ => squeezes_S1x512x1536_S512x1536) c
theorem sB_join (c : Dev nD) :
    (iprop((∃ f, (sBS 0).view.loc (c : Thread nD τ) ↦[(sBS 0).view.set]{fullShare} f) ∗ (∃ f, (sBS 1).view.loc (c : Thread nD τ) ↦[(sBS 1).view.set]{fullShare} f)) : sProp 𝕄)
    ⊢ iprop(∃ f, sBM.view.loc (c : Thread nD τ) ↦{fullShare} f) :=
  whole_join sBM (View.set_whole _) sBR_halves (fun _ _ => rfl) (fun _ => squeezes_S1x512x1536_S512x1536) c

theorem out_in (c : Dev nD) : (iprop(∃ f, oM.view.loc (c : Thread nD τ) ↦{fullShare} f) : sProp 𝕄) ⊢ outC m c (fun _ _ => 0) :=
  good_intro c oM _ (fun f k h hk => absurd hk (Nat.not_succ_le_zero 0))
theorem xb_in (c : Dev nD) : (iprop(∃ f, xbM.view.loc (c : Thread nD τ) ↦{fullShare} f) : sProp 𝕄) ⊢ xbC m c 0 :=
  good_intro c xbM _ (fun f k hk => absurd hk (Nat.not_lt_zero _))
theorem w1_in (c : Dev nD) : (iprop(∃ f, w1M.view.loc (c : Thread nD τ) ↦{fullShare} f) : sProp 𝕄) ⊢ w1C m c 0 :=
  good_intro c w1M _ (fun f k hk => absurd hk (Nat.not_lt_zero _))
theorem w2_in (c : Dev nD) : (iprop(∃ f, w2M.view.loc (c : Thread nD τ) ↦{fullShare} f) : sProp 𝕄) ⊢ w2C m c 0 :=
  good_intro c w2M _ (fun f k hk => absurd hk (Nat.not_lt_zero _))
theorem hb_in (c : Dev nD) : (iprop(∃ f, hbM.view.loc (c : Thread nD τ) ↦{fullShare} f) : sProp 𝕄) ⊢ hbC m c 0 :=
  good_intro c hbM _ (fun f hk => absurd hk (by decide))
theorem hc_in (c : Dev nD) : (iprop(∃ f, hcM.view.loc (c : Thread nD τ) ↦{fullShare} f) : sProp 𝕄) ⊢ hcC m c (fun _ => 0) :=
  good_intro c hcM _ (fun f k hk => absurd hk (Nat.not_succ_le_zero 0))

/-- A device enters its body at the first state. -/
theorem dev_enter (c : Dev nD) : iprop(Ctx m κ ιs ∗ devIn m c) ⊢ |={Set.univ}=> St m κ ιs c 0 := by
  rw [St_zero]
  unfold devIn copySems
  rw [arg_eq m c a0M, arg_eq m c a1M, arg_eq m c a2M]
  iintro ⟨#HC, HO, Hb, Hs, ⟨⟨Hs0, Hs1⟩, ⟨Ht0, Ht1⟩⟩, HA, HB, ⟨Ha0, Ha1⟩, ⟨Hb0, Hb1⟩, ⟨Hc0, Hc1⟩, Ho, H0, H1, H2, H3, H4⟩
  imod (strms_enter m κ ιs c) $$ [HC Hs] with ⟨Hs, #Hr⟩
  · isplitr; · iexact HC
    iexact Hs
  ihave HA := (sA_split c) $$ HA
  icases HA with ⟨HA0, HA1⟩
  ihave HB := (sB_split c) $$ HB
  icases HB with ⟨HB0, HB1⟩
  imodintro
  isplitr; · iexact HC
  isplitr [Hs]
  · isplitl [HO]; · iexact HO
    isplitl [Hb]
    · iapply (bar_in c); isplitl [Hb]; · iexact Hb
      iexact Hr
    isplitl [Hs0 HA0 Ha0 Hb0]
    · iapply (cA_in m c 0)
      isplitl [Hs0]; · iexact Hs0
      isplitl [HA0]; · iexact HA0
      isplitl [Ha0] <;> iassumption
    isplitl [Hs1 HA1 Ha1 Hb1]
    · iapply (cA_in m c 1)
      isplitl [Hs1]; · iexact Hs1
      isplitl [HA1]; · iexact HA1
      isplitl [Ha1] <;> iassumption
    isplitl [Ht0 HB0 Hc0]
    · iapply (cB_in m c 0)
      isplitl [Ht0]; · iexact Ht0
      isplitl [HB0] <;> iassumption
    isplitl [Ht1 HB1 Hc1]
    · iapply (cB_in m c 1)
      isplitl [Ht1]; · iexact Ht1
      isplitl [HB1] <;> iassumption
    isplitl [Ho]
    · iapply (out_in m c); iexact Ho
    isplitl [H0]
    · iapply (xb_in m c); iexact H0
    isplitl [H1]
    · iapply (w1_in m c); iexact H1
    isplitl [H2]
    · iapply (w2_in m c); iexact H2
    isplitl [H3]
    · iapply (hb_in m c); iexact H3
    · iapply (hc_in m c); iexact H4
  · iexact Hs

/-! ## Leaving -/

theorem end_tx : ∀ (σ : Strm) (b : Fin 2), cnt 460 (.snt σ b) = σ.R b ∧ cnt 460 (.bck σ b) = σ.R b := by decide +kernel
theorem end_rx : ∀ (σ : Strm) (b : Fin 2), cnt 460 (.got σ b) = σ.R b ∧ cnt 460 (.fre σ b) < σ.R b := by decide +kernel
theorem end_crd : ∀ σ : Strm, cnt 460 (.crd σ) = σ.T - 2 := by decide +kernel
theorem end_bar : cnt 460 .bar = 1 := by decide +kernel
theorem end_pay : cnt 460 .pay = 49 := by decide +kernel
theorem end_cA : ∀ b : Fin 2, cnt 460 (.csA b) = cnt 460 (.cwA b) := by decide +kernel
theorem end_cB : ∀ b : Fin 2, cnt 460 (.csB b) = cnt 460 (.cwB b) := by decide +kernel
theorem end_tl : ∀ (k : Fin 8) (h : Bool), cnt 460 (.tl k h) = 3 ∨ cnt 460 (.tl k h) = 2 ∧ (k = 0 ∨ (k = 1 ∧ h = false) ∨ (k = 7 ∧ h = true)) := by decide +kernel

theorem cell_end (c : Dev nD) (x : Cl) : iprop(Ctx m κ ιs ∗ atPos ER (cell c x) x.rounds ∅ 0) ⊢ |={Set.univ}=> (semVal (cell c x) 0 : sProp 𝕄) := by
  iintro ⟨#HC, H⟩
  iapply (Rounds.cell_close ER (Rd m) (Set.mem_univ (κ (c, x))) (fun h => h) (R := x.rounds) (Rd_duties_end m c x))
  isplitr
  · iapply (Ctx_inv m κ ιs c x); iexact HC
  iexact H

theorem tx_out (c : Dev nD) (σ : Strm) (b : Fin 2) (sto : ℕ) : txC m c σ b sto (σ.R b) (σ.R b)
    ⊢ iprop(atPos ER (cell c (.snd σ b)) (σ.R b) ∅ 0 ∗ (∃ f, txPt c σ b f)) := by
  unfold txC
  rw [if_neg (lt_irrefl _)]
  iintro ⟨Hp, -, -, ⟨%f, -, Hf⟩⟩
  isplitl [Hp]; · iexact Hp
  iexists f; iexact Hf

theorem rx_out (c : Dev nD) (σ : Strm) (b : Fin 2) (fre : ℕ) (h : fre < σ.R b) : rxC m c σ b (σ.R b) fre
    ⊢ iprop(atPos ER (cell c (.rcv σ b)) (σ.R b) ∅ 0 ∗ (∃ f, rxPt c σ b f)) := by
  unfold rxC
  rw [if_pos h]
  iintro ⟨Hp, -, -, -, -, ⟨%f, -, Hf⟩⟩
  isplitl [Hp]; · iexact Hp
  iexists f; iexact Hf

theorem crd_out (c : Dev nD) (σ : Strm) : (crdC c σ (σ.T - 2) : sProp 𝕄) ⊢ atPos ER (cell c (.crd σ)) (if σ.T = 2 then 0 else 1) ∅ 0 := by
  unfold crdC
  rw [if_neg (lt_irrefl (σ.T - 2))]
  iintro ⟨H, -⟩; iexact H

theorem strmSt_end (c : Dev nD) (σ : Strm) : strmSt m c (cnt 460) σ
    ⊢ iprop(txC m c σ 0 (cnt 460 (.sto σ 0)) (σ.R 0) (σ.R 0) ∗ txC m c σ 1 (cnt 460 (.sto σ 1)) (σ.R 1) (σ.R 1)
      ∗ rxC m c σ 0 (σ.R 0) (cnt 460 (.fre σ 0)) ∗ rxC m c σ 1 (σ.R 1) (cnt 460 (.fre σ 1)) ∗ crdC c σ (σ.T - 2)) := by
  show iprop(txC m c σ 0 (cnt 460 (.sto σ 0)) (cnt 460 (.snt σ 0)) (cnt 460 (.bck σ 0)) ∗ txC m c σ 1 (cnt 460 (.sto σ 1)) (cnt 460 (.snt σ 1)) (cnt 460 (.bck σ 1))
    ∗ rxC m c σ 0 (cnt 460 (.got σ 0)) (cnt 460 (.fre σ 0)) ∗ rxC m c σ 1 (cnt 460 (.got σ 1)) (cnt 460 (.fre σ 1)) ∗ crdC c σ (cnt 460 (.crd σ))
    ∗ comp m c (cnt 460) (.cpy σ) ∗ comp m c (cnt 460) (.knw σ)) ⊢ _
  rw [(end_tx σ 0).1, (end_tx σ 0).2, (end_tx σ 1).1, (end_tx σ 1).2, (end_rx σ 0).1, (end_rx σ 1).1, end_crd σ]
  iintro ⟨H1, H2, H3, H4, H5, -⟩
  isplitl [H1]; · iexact H1
  isplitl [H2]; · iexact H2
  isplitl [H3]; · iexact H3
  isplitl [H4] <;> iassumption

/-- What a device leaves with of one stream. -/
def strmOut (c : Dev nD) (σ : Strm) : sProp 𝕄 :=
  iprop((∃ f, (txM σ).view.loc (c : Thread nD τ) ↦{fullShare} f) ∗ (∃ f, (rxM σ).view.loc (c : Thread nD τ) ↦{fullShare} f))

theorem strm_leave (c : Dev nD) (σ : Strm) : iprop(Ctx m κ ιs ∗ strmSt m c (cnt 460) σ)
    ⊢ |={Set.univ}=> iprop((semVal (cell c (.crd σ)) 0 ∗ semVal (cell c (.snd σ 0)) 0 ∗ semVal (cell c (.snd σ 1)) 0
      ∗ semVal (cell c (.rcv σ 0)) 0 ∗ semVal (cell c (.rcv σ 1)) 0) ∗ strmOut c σ) := by
  unfold strmOut
  iintro ⟨#HC, H⟩
  ihave H := (strmSt_end m c σ) $$ H
  icases H with ⟨H1, H2, H3, H4, H5⟩
  ihave H1 := (tx_out m c σ 0 _) $$ H1
  ihave H2 := (tx_out m c σ 1 _) $$ H2
  ihave H3 := (rx_out m c σ 0 _ (end_rx σ 0).2) $$ H3
  ihave H4 := (rx_out m c σ 1 _ (end_rx σ 1).2) $$ H4
  ihave H5 := (crd_out c σ) $$ H5
  icases H1 with ⟨H1, Ht0⟩
  icases H2 with ⟨H2, Ht1⟩
  icases H3 with ⟨H3, Hr0⟩
  icases H4 with ⟨H4, Hr1⟩
  imod (cell_end m κ ιs c (.snd σ 0)) $$ [HC H1] with H1
  · isplitr; · iexact HC
    iexact H1
  imod (cell_end m κ ιs c (.snd σ 1)) $$ [HC H2] with H2
  · isplitr; · iexact HC
    iexact H2
  imod (cell_end m κ ιs c (.rcv σ 0)) $$ [HC H3] with H3
  · isplitr; · iexact HC
    iexact H3
  imod (cell_end m κ ιs c (.rcv σ 1)) $$ [HC H4] with H4
  · isplitr; · iexact HC
    iexact H4
  imod (cell_end m κ ιs c (.crd σ)) $$ [HC H5] with H5
  · isplitr; · iexact HC
    iexact H5
  imodintro
  isplitr [Ht0 Ht1 Hr0 Hr1]
  · isplitl [H5]; · iexact H5
    isplitl [H1]; · iexact H1
    isplitl [H2]; · iexact H2
    isplitl [H3] <;> iassumption
  isplitl [Ht0 Ht1]
  · iapply (tx_join c σ)
    isplitl [Ht0] <;> iassumption
  · iapply (rx_join c σ)
    isplitl [Hr0] <;> iassumption

theorem strms_leave (c : Dev nD) : iprop(Ctx m κ ιs ∗ bigSep Finset.univ fun σ : Strm => strmSt m c (cnt 460) σ)
    ⊢ |={Set.univ}=> iprop((bigSep Finset.univ fun σ : Strm => iprop(semVal (cell c (.crd σ)) 0 ∗ semVal (cell c (.snd σ 0)) 0 ∗ semVal (cell c (.snd σ 1)) 0
      ∗ semVal (cell c (.rcv σ 0)) 0 ∗ semVal (cell c (.rcv σ 1)) 0)) ∗ bigSep Finset.univ (strmOut c)) := by
  have h1 : iprop(Ctx m κ ιs ∗ bigSep Finset.univ fun σ : Strm => strmSt m c (cnt 460) σ)
      ⊢ bigSep Finset.univ fun σ : Strm => iprop(|={Set.univ}=> iprop((semVal (cell c (.crd σ)) 0 ∗ semVal (cell c (.snd σ 0)) 0 ∗ semVal (cell c (.snd σ 1)) 0
        ∗ semVal (cell c (.rcv σ 0)) 0 ∗ semVal (cell c (.rcv σ 1)) 0) ∗ strmOut c σ)) :=
    (sep_mono_left (BI.bigSep_of_persistent Finset.univ (Ctx m κ ιs))).trans
      (by rw [← bs_sep]; exact BI.bigSep_mono fun σ _ => strm_leave m κ ιs c σ)
  rw [← bs_sep]
  exact h1.trans (BI.bigSep_fupd Finset.univ _)

/-- Which of a device's steps makes the row block of an output element. -/
def kOf (c : Dev nD) (y : S1536x1536.Idx) : Fin 8 := Fin.ofNat 8 ((y 0).val / 192 + 8 - c.val)
/-- Which half of the columns the element lies in. -/
def hOf (y : S1536x1536.Idx) : Bool := decide (768 ≤ (y 1).val)
/-- Its place in its tile. -/
def inT (y : S1536x1536.Idx) : S192x768.Idx := fun a => match a with
  | ⟨0, _⟩ => ⟨(y 0).val % 192, Nat.mod_lt _ (by decide)⟩
  | ⟨1, _⟩ => ⟨(y 1).val % 768, Nat.mod_lt _ (by decide)⟩

/-- What a device's output buffer ends with. -/
def outAt (c : Dev nD) : Vec F S1536x1536 .f32 := fun y => tv2 m c (kOf c y) (hOf y) (inT y)

theorem tile_emb (c : Dev nD) (y : S1536x1536.Idx) : (tileR c (kOf c y) (hOf y)).emb (inT y) = y := by
  have hc := c.isLt
  have h0 : (y 0).val < 1536 := (y 0).isLt
  have h1 : (y 1).val < 1536 := (y 1).isLt
  funext a
  apply Fin.ext
  match a with
  | ⟨0, _⟩ =>
    show 192 * ((c.val + ((y 0).val / 192 + 8 - c.val) % 8) % 8) + 1 * ((y 0).val % 192) = (y 0).val
    have hc : c.val < 8 := hc
    omega
  | ⟨1, _⟩ =>
    show cond (decide (768 ≤ (y 1).val)) 768 0 + 1 * ((y 1).val % 768) = (y 1).val
    by_cases h : 768 ≤ (y 1).val
    · rw [decide_eq_true h]; show 768 + _ = _; omega
    · rw [decide_eq_false h]; show 0 + _ = _; omega

theorem out_eq (c : Dev nD) (f : Buf (Elt F) (oM.view.loc (c : Thread nD τ)))
    (h : ∀ k h, (oM.view.readAt (Elt F) (tileR c k h).toLoadRect f : Tile F) = tv2 m c k h) : f = outAt m c := by
  funext y
  have e := congrFun (h (kOf c y) (hOf y)) (inT y)
  have e2 : (oM.view.readAt (Elt F) (tileR c (kOf c y) (hOf y)).toLoadRect f : Tile F) (inT y) = f ((tileR c (kOf c y) (hOf y)).emb (inT y)) := rfl
  rw [tile_emb] at e2
  exact e2.symm.trans e

theorem tv_end (c : Dev nD) (k : Fin 8) (h : Bool) : 1 ≤ cnt 460 (.tl k h) ∧ tv m c k h (cnt 460 (.tl k h) - 1) = tv2 m c k h := by
  rcases end_tl k h with e | ⟨e, rfl | ⟨rfl, rfl⟩ | ⟨rfl, rfl⟩⟩
  · rw [e]; exact ⟨by decide, rfl⟩
  · rw [e]; refine ⟨by decide, ?_⟩; cases h <;> rfl
  · rw [e]; exact ⟨by decide, rfl⟩
  · rw [e]; exact ⟨by decide, rfl⟩

theorem out_out (c : Dev nD) : outC m c (fun k h => cnt 460 (.tl k h)) ⊢ iprop(∃ f, ⌜f = outAt m c⌝ ∗ (oM.view.loc (c : Thread nD τ) ↦{fullShare} f)) := by
  unfold outC good
  iintro ⟨%f, %hf, H⟩
  iexists f
  isplitr
  · ipureintro
    exact out_eq m c f fun k h => (hf k h (tv_end m c k h).1).trans (tv_end m c k h).2
  iexact H

theorem good_elim (c : Dev nD) {cs : CoreSpace} {s : Shape} {e : EltTy} (M : Memref sig .tc cs s e)
    (P : Buf (Elt F) (M.view.loc (c : Thread nD τ)) → Prop) :
    good c M P ⊢ (iprop(∃ f, M.view.loc (c : Thread nD τ) ↦{fullShare} f) : sProp 𝕄) := by
  unfold good
  iintro ⟨%f, -, H⟩
  iexists f; iexact H

theorem cA_out (c : Dev nD) (b : Fin 2) (n : ℕ) : cAC m c b n n ⊢
    (iprop(semVal ((c : Thread nD τ), .dma (cpySemA b)) 0
      ∗ (∃ f, (sAS b).view.loc (c : Thread nD τ) ↦[(sAS b).view.set]{fullShare} f) ∗ argPt m c a0M b ∗ argPt m c a1M b) : sProp 𝕄) := by
  unfold cAC cpA
  rw [if_pos rfl]
  iintro ⟨H, ⟨%f, -, Hf⟩, Ha, Hb⟩
  isplitl [H]; · iexact H
  isplitl [Hf]
  · iexists f; iexact Hf
  isplitl [Ha] <;> iassumption
theorem cB_out (c : Dev nD) (b : Fin 2) (n : ℕ) : cBC m c b n n ⊢
    (iprop(semVal ((c : Thread nD τ), .dma (cpySemB b)) 0
      ∗ (∃ f, (sBS b).view.loc (c : Thread nD τ) ↦[(sBS b).view.set]{fullShare} f) ∗ argPt m c a2M b) : sProp 𝕄) := by
  unfold cBC cpB
  rw [if_pos rfl]
  iintro ⟨H, ⟨%f, -, Hf⟩, Ha⟩
  isplitl [H]; · iexact H
  isplitl [Hf]
  · iexists f; iexact Hf
  iexact Ha

theorem bar_out (c : Dev nD) (n : ℕ) : (barC c n 1 : sProp 𝕄) ⊢ atPos ER (cell c .bar) 1 ∅ 0 := by
  unfold barC
  rw [if_neg (by decide)]
  iintro ⟨H, -⟩; iexact H

theorem owed_end (c : Dev nD) : owed c 49 = 0 := by unfold owed; rw [Finset.Ico_self, Finset.sum_empty]

theorem owe_out (c : Dev nD) : (oweC c 49 : sProp 𝕄) ⊢ iprop(∃ W, owes (c : Thread nD τ) 0 W) := by
  unfold oweC; rw [owed_end]

/-- What a device leaves its body with. -/
def devOut (c : Dev nD) : sProp 𝕄 :=
  iprop((∃ W, owes (c : Thread nD τ) 0 W) ∗ ((bigSep Finset.univ fun x : Cl => semVal (cell c x) 0) ∗ copySems c)
    ∗ (bigSep Finset.univ (strmOut c))
    ∗ (∃ f, sAM.view.loc (c : Thread nD τ) ↦{fullShare} f) ∗ (∃ f, sBM.view.loc (c : Thread nD τ) ↦{fullShare} f)
    ∗ (a0M.view.loc (c : Thread nD τ) ↦{fullShare} m (a0M.view.loc (c : Thread nD τ)))
    ∗ (a1M.view.loc (c : Thread nD τ) ↦{fullShare} m (a1M.view.loc (c : Thread nD τ)))
    ∗ (a2M.view.loc (c : Thread nD τ) ↦{fullShare} m (a2M.view.loc (c : Thread nD τ)))
    ∗ (∃ f, ⌜f = outAt m c⌝ ∗ (oM.view.loc (c : Thread nD τ) ↦{fullShare} f))
    ∗ (∃ f, xbM.view.loc (c : Thread nD τ) ↦{fullShare} f) ∗ (∃ f, w1M.view.loc (c : Thread nD τ) ↦{fullShare} f)
    ∗ (∃ f, w2M.view.loc (c : Thread nD τ) ↦{fullShare} f) ∗ (∃ f, hbM.view.loc (c : Thread nD τ) ↦{fullShare} f)
    ∗ (∃ f, hcM.view.loc (c : Thread nD τ) ↦{fullShare} f))

theorem St_end (c : Dev nD) : St m κ ιs c 460 ⊢ iprop(Ctx m κ ιs
    ∗ (oweC c 49 ∗ barC c (cnt 460 .bsig) 1 ∗ cAC m c 0 (cnt 460 (.cwA 0)) (cnt 460 (.cwA 0)) ∗ cAC m c 1 (cnt 460 (.cwA 1)) (cnt 460 (.cwA 1))
      ∗ cBC m c 0 (cnt 460 (.cwB 0)) (cnt 460 (.cwB 0)) ∗ cBC m c 1 (cnt 460 (.cwB 1)) (cnt 460 (.cwB 1))
      ∗ outC m c (fun k h => cnt 460 (.tl k h)) ∗ xbC m c (cnt 460 .stX)
      ∗ w1C m c (cnt 460 .stW1) ∗ w2C m c (cnt 460 .stW2) ∗ hbC m c (cnt 460 .hb) ∗ hcC m c (fun q => cnt 460 (.hc q)))
    ∗ bigSep Finset.univ fun σ : Strm => strmSt m c (cnt 460) σ) := by
  unfold St StC
  rw [cmp_split]
  unfold strmSt
  generalize (bigSep Finset.univ fun σ : Strm => iprop(comp m c (cnt 460) (.tx σ 0) ∗ comp m c (cnt 460) (.tx σ 1) ∗ comp m c (cnt 460) (.rx σ 0) ∗ comp m c (cnt 460) (.rx σ 1)
    ∗ comp m c (cnt 460) (.crd σ) ∗ comp m c (cnt 460) (.cpy σ) ∗ comp m c (cnt 460) (.knw σ))) = X
  show iprop(Ctx m κ ιs
    ∗ (oweC c (cnt 460 .pay) ∗ barC c (cnt 460 .bsig) (cnt 460 .bar) ∗ cAC m c 0 (cnt 460 (.csA 0)) (cnt 460 (.cwA 0)) ∗ cAC m c 1 (cnt 460 (.csA 1)) (cnt 460 (.cwA 1))
      ∗ cBC m c 0 (cnt 460 (.csB 0)) (cnt 460 (.cwB 0)) ∗ cBC m c 1 (cnt 460 (.csB 1)) (cnt 460 (.cwB 1))
      ∗ outC m c (fun k h => cnt 460 (.tl k h)) ∗ xbC m c (cnt 460 .stX)
      ∗ w1C m c (cnt 460 .stW1) ∗ w2C m c (cnt 460 .stW2) ∗ hbC m c (cnt 460 .hb) ∗ hcC m c (fun q => cnt 460 (.hc q))) ∗ X) ⊢ _
  rw [end_pay, end_bar, end_cA 0, end_cA 1, end_cB 0, end_cB 1]

theorem xb_out (c : Dev nD) (n : ℕ) : xbC m c n ⊢ (iprop(∃ f, xbM.view.loc (c : Thread nD τ) ↦{fullShare} f) : sProp 𝕄) := good_elim c xbM _
theorem w1_out (c : Dev nD) (n : ℕ) : w1C m c n ⊢ (iprop(∃ f, w1M.view.loc (c : Thread nD τ) ↦{fullShare} f) : sProp 𝕄) := good_elim c w1M _
theorem w2_out (c : Dev nD) (n : ℕ) : w2C m c n ⊢ (iprop(∃ f, w2M.view.loc (c : Thread nD τ) ↦{fullShare} f) : sProp 𝕄) := good_elim c w2M _
theorem hb_out (c : Dev nD) (n : ℕ) : hbC m c n ⊢ (iprop(∃ f, hbM.view.loc (c : Thread nD τ) ↦{fullShare} f) : sProp 𝕄) := good_elim c hbM _
theorem hc_out (c : Dev nD) (n : Fin 6 → ℕ) : hcC m c n ⊢ (iprop(∃ f, hcM.view.loc (c : Thread nD τ) ↦{fullShare} f) : sProp 𝕄) := good_elim c hcM _

/-- A device leaves its body from the last state. -/
theorem dev_leave (c : Dev nD) : St m κ ιs c 460 ⊢ |={Set.univ}=> devOut m c := by
  refine (St_end m κ ιs c).trans ?_
  show (_ : sProp 𝕄) ⊢ _
  unfold devOut copySems
  rw [arg_eq m c a0M, arg_eq m c a1M, arg_eq m c a2M, cl_split]
  iintro ⟨#HC, ⟨HO, Hb, HA0, HA1, HB0, HB1, Ho, H0, H1, H2, H3, H4⟩, Hs⟩
  imod (strms_leave m κ ιs c) $$ [HC Hs] with ⟨Hsem, Hs⟩
  · isplitr; · iexact HC
    iexact Hs
  ihave Hb := (bar_out c _) $$ Hb
  imod (cell_end m κ ιs c .bar) $$ [HC Hb] with Hb
  · isplitr; · iexact HC
    iexact Hb
  ihave HA0 := (cA_out m c 0 _) $$ HA0
  ihave HA1 := (cA_out m c 1 _) $$ HA1
  ihave HB0 := (cB_out m c 0 _) $$ HB0
  ihave HB1 := (cB_out m c 1 _) $$ HB1
  icases HA0 with ⟨Hs0, HA0, Ha0, Hb0⟩
  icases HA1 with ⟨Hs1, HA1, Ha1, Hb1⟩
  icases HB0 with ⟨Ht0, HB0, Hc0⟩
  icases HB1 with ⟨Ht1, HB1, Hc1⟩
  imodintro
  isplitl [HO]
  · iapply (owe_out c); iexact HO
  isplitl [Hsem Hb Hs0 Hs1 Ht0 Ht1]
  · isplitl [Hsem Hb]
    · isplitl [Hb] <;> iassumption
    isplitl [Hs0 Hs1]
    · isplitl [Hs0] <;> iassumption
    · isplitl [Ht0] <;> iassumption
  isplitl [Hs]; · iexact Hs
  isplitl [HA0 HA1]
  · iapply (sA_join c); isplitl [HA0] <;> iassumption
  isplitl [HB0 HB1]
  · iapply (sB_join c); isplitl [HB0] <;> iassumption
  isplitl [Ha0 Ha1]
  · isplitl [Ha0] <;> iassumption
  isplitl [Hb0 Hb1]
  · isplitl [Hb0] <;> iassumption
  isplitl [Hc0 Hc1]
  · isplitl [Hc0] <;> iassumption
  isplitl [Ho]
  · iapply (out_out m c); iexact Ho
  isplitl [H0]
  · iapply (xb_out m c _); iexact H0
  isplitl [H1]
  · iapply (w1_out m c _); iexact H1
  isplitl [H2]
  · iapply (w2_out m c _); iexact H2
  isplitl [H3]
  · iapply (hb_out m c _); iexact H3
  · iapply (hc_out m c _); iexact H4

end Cert.KernelIdeal.RingProof
-- ==== Proof.Ldst.lean ====
/-
  One lemma for each kind of load and store of the body.
-/
module

public import proofs.«01_k».proof.Proof.Loc

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × Cl → ℕ) (ιs : SK → ℕ)

/-! ## Reading the glued operands -/

theorem xb_read (c : Dev nD) {n : ℕ} (hn : n = 3) {f : Buf (Elt F) (xbM.view.loc (c : Thread nD τ))}
    (h : ∀ i : Fin 3, i.val < n → (xbM.view.readAt (Elt F) (xcolR i).toLoadRect f : Vec F S1536x512 .bf16) = xStrip m c i)
    (x : S1536x1536.Idx) : xbM.view.read (Elt F) f x = xbV m c x := by
  subst hn
  unfold xbV
  rw [← h _ (Fin.isLt _)]
  show _ = xbM.view.read (Elt F) f _
  congr 1
  funext a; apply Fin.ext
  match a with
  | ⟨0, _⟩ => show (x 0).val = 0 + 1 * (x 0).val; omega
  | ⟨1, _⟩ => show (x 1).val = 512 * ((x 1).val / 512) + 1 * ((x 1).val % 512); omega

theorem w1_read (c : Dev nD) {n : ℕ} (hn : n = 6) {f : Buf (Elt F) (w1M.view.loc (c : Thread nD τ))}
    (h : ∀ i : Fin 6, i.val < n → (w1M.view.readAt (Elt F) (colR i).toLoadRect f : Vec F S1536x512 .bf16) = w1Strip m c i)
    (x : S1536x3072.Idx) : w1M.view.read (Elt F) f x = w1V m c x := by
  subst hn
  unfold w1V
  rw [← h _ (Fin.isLt _)]
  show _ = w1M.view.read (Elt F) f _
  congr 1
  funext a; apply Fin.ext
  match a with
  | ⟨0, _⟩ => show (x 0).val = 0 + 1 * (x 0).val; omega
  | ⟨1, _⟩ => show (x 1).val = 512 * ((x 1).val / 512) + 1 * ((x 1).val % 512); omega

theorem w2_read (c : Dev nD) {n : ℕ} (hn : n = 6) {f : Buf (Elt F) (w2M.view.loc (c : Thread nD τ))}
    (h : ∀ i : Fin 6, i.val < n → (w2M.view.readAt (Elt F) (rowR i).toLoadRect f : Vec F S512x1536 .bf16) = w2Strip m c i)
    (x : S3072x1536.Idx) : w2M.view.read (Elt F) f x = w2V m c x := by
  subst hn
  unfold w2V
  rw [← h _ (Fin.isLt _)]
  show _ = w2M.view.read (Elt F) f _
  congr 1
  funext a; apply Fin.ext
  match a with
  | ⟨0, _⟩ => show (x 0).val = 512 * ((x 0).val / 512) + 1 * ((x 0).val % 512); omega
  | ⟨1, _⟩ => show (x 1).val = 0 + 1 * (x 1).val; omega

/-! ## Loads of operands -/

section Loads
variable {c : Dev nD} {n : ℕ} {α : Type}

theorem ldX {k : Fin 8} (ho : opAt n = .ldX k) {off : Fin 2 → ℕ} {inb} {hl}
    {kk : Vec F S192x1536 .bf16 → Prog (TpuEff nD τ sig (Elt F) Λ₀ .tc) α} {Q : α → sProp 𝕄}
    (hoff : off = rowOff c k) (hn : cnt n .stX = 3)
    (hk : St m κ ιs c (n + 1) ⊢ WP c (kk (xr m c k)) Q) :
    St m κ ιs c n ⊢ WP c (.op (.load xbM (Rect.unit (s := S1536x1536) off S192x1536.size inb).toLoadRect hl) kk) Q := by
  refine step_val m κ ιs ho rfl .xb rfl (xr m c k) (fun f hf => ?_) hk
  subst hoff
  funext x
  exact xb_read m c hn hf _

theorem ldW1 (ho : opAt n = .ldW1) {off : Fin 2 → ℕ} {inb} {hl}
    {kk : Vec F S1536x3072 .bf16 → Prog (TpuEff nD τ sig (Elt F) Λ₀ .tc) α} {Q : α → sProp 𝕄}
    (hoff : off = ![0, 0]) (hn : cnt n .stW1 = 6)
    (hk : St m κ ιs c (n + 1) ⊢ WP c (kk (w1V m c)) Q) :
    St m κ ιs c n ⊢ WP c (.op (.load w1M (Rect.unit (s := S1536x3072) off S1536x3072.size inb).toLoadRect hl) kk) Q := by
  subst hoff
  refine step_val m κ ιs ho rfl .w1 rfl (w1V m c) (fun f hf => ?_) hk
  funext x
  refine (w1_read m c hn hf _).trans (congrArg _ ?_)
  funext a; apply Fin.ext
  match a with
  | ⟨0, _⟩ => show 0 + 1 * (x 0).val = (x 0).val; omega
  | ⟨1, _⟩ => show 0 + 1 * (x 1).val = (x 1).val; omega

theorem ldW2 (ho : opAt n = .ldW2) {off : Fin 2 → ℕ} {inb} {hl}
    {kk : Vec F S3072x1536 .bf16 → Prog (TpuEff nD τ sig (Elt F) Λ₀ .tc) α} {Q : α → sProp 𝕄}
    (hoff : off = ![0, 0]) (hn : cnt n .stW2 = 6)
    (hk : St m κ ιs c (n + 1) ⊢ WP c (kk (w2V m c)) Q) :
    St m κ ιs c n ⊢ WP c (.op (.load w2M (Rect.unit (s := S3072x1536) off S3072x1536.size inb).toLoadRect hl) kk) Q := by
  subst hoff
  refine step_val m κ ιs ho rfl .w2 rfl (w2V m c) (fun f hf => ?_) hk
  funext x
  refine (w2_read m c hn hf _).trans (congrArg _ ?_)
  funext a; apply Fin.ext
  match a with
  | ⟨0, _⟩ => show 0 + 1 * (x 0).val = (x 0).val; omega
  | ⟨1, _⟩ => show 0 + 1 * (x 1).val = (x 1).val; omega

theorem ldW2h {h : Bool} (ho : opAt n = .ldW2h h) {off : Fin 2 → ℕ} {inb} {hl}
    {kk : Vec F S3072x768 .bf16 → Prog (TpuEff nD τ sig (Elt F) Λ₀ .tc) α} {Q : α → sProp 𝕄}
    (hoff : off = ![0, cond h 768 0]) (hn : cnt n .stW2 = 6)
    (hk : St m κ ιs c (n + 1) ⊢ WP c (kk (w2h m c h)) Q) :
    St m κ ιs c n ⊢ WP c (.op (.load w2M (Rect.unit (s := S3072x1536) off S3072x768.size inb).toLoadRect hl) kk) Q := by
  subst hoff
  refine step_val m κ ιs ho rfl .w2 rfl (w2h m c h) (fun f hf => ?_) hk
  funext x
  exact w2_read m c hn hf _

theorem ldHb (ho : opAt n = .ldHb) {off : Fin 2 → ℕ} {inb} {hl}
    {kk : Vec F S192x3072 .bf16 → Prog (TpuEff nD τ sig (Elt F) Λ₀ .tc) α} {Q : α → sProp 𝕄}
    (hoff : off = ![0, 0]) (hn : 1 ≤ cnt n .hb)
    (hk : St m κ ιs c (n + 1) ⊢ WP c (kk (k0_pay10 (xr m c 0) (w1V m c))) Q) :
    St m κ ιs c n ⊢ WP c (.op (.load hbM (Rect.unit (s := S192x3072) off S192x3072.size inb).toLoadRect hl) kk) Q := by
  subst hoff
  exact step_val m κ ιs ho rfl .hb rfl _ (fun f hf => hf hn) hk

theorem ldHc {q : Fin 6} (ho : opAt n = .ldHc q) {off : Fin 3 → ℕ} {inb} {hl}
    {kk : Vec F S1x192x3072 .bf16 → Prog (TpuEff nD τ sig (Elt F) Λ₀ .tc) α} {Q : α → sProp 𝕄}
    (hoff : off = ![q.val, 0, 0]) (hn : 1 ≤ cnt n (.hc q))
    (hk : St m κ ιs c (n + 1) ⊢ WP c (kk (hcV m c (qk q))) Q) :
    St m κ ιs c n ⊢ WP c (.op (.load hcM (Rect.unit (s := S6x192x3072) off S1x192x3072.size inb).toLoadRect hl) kk) Q := by
  subst hoff
  exact step_val m κ ιs ho rfl .hc rfl _ (fun f hf => hf q hn) hk

theorem ldT {k : Fin 8} {h : Bool} {st : ℕ} (ho : opAt n = .ldT k h st) {off : Fin 2 → ℕ} {inb} {hl}
    {kk : Tile F → Prog (TpuEff nD τ sig (Elt F) Λ₀ .tc) α} {Q : α → sProp 𝕄}
    (hoff : off = tileOff c k h) (hn : cnt n (.tl k h) = st + 1)
    (hk : St m κ ιs c (n + 1) ⊢ WP c (kk (tv m c k h st)) Q) :
    St m κ ιs c n ⊢ WP c (.op (.load oM (Rect.unit (s := S1536x1536) off S192x768.size inb).toLoadRect hl) kk) Q := by
  refine step_val m κ ιs ho rfl .out rfl (tv m c k h st) (fun f hf => ?_) hk
  subst hoff
  have hf := hf k h (by show 1 ≤ cnt n (.tl k h); omega)
  dsimp only at hf; rw [hn] at hf
  exact hf

/-! ## Stores -/

theorem stT {k : Fin 8} {h : Bool} {st : ℕ} (ho : opAt n = .stT k h st) {off : Fin 2 → ℕ} {inb} {w : Tile F} {hx} {hm}
    {kk : PUnit → Prog (TpuEff nD τ sig (Elt F) Λ₀ .tc) α} {Q : α → sProp 𝕄}
    (hoff : off = tileOff c k h) (hn : cnt n (.tl k h) = st) (hw : w = tv m c k h st)
    (hk : St m κ ιs c (n + 1) ⊢ WP c (kk ⟨⟩) Q) :
    St m κ ιs c n ⊢ WP c (.op (.store oM (Rect.unit (s := S1536x1536) off S192x768.size inb) w Finset.univ hx hm) kk) Q := by
  subst hoff hw
  refine step_store m κ ιs ho .out (by simp [Op.keys, Key.cmps]) rfl rfl
    (fun f hf k' h' hp => ?_) hk
  dsimp only at hp ⊢
  by_cases e : (k', h') = (k, h)
  · obtain ⟨rfl, rfl⟩ := Prod.mk.inj e
    have hb : bump (cnt n) (.stT k' h' st) (.tl k' h') = st + 1 := by simp [bump, Op.keys, hn]
    rw [hb]
    exact read_same oM (tileR c k' h') f _
  · have hb : bump (cnt n) (.stT k h st) (.tl k' h') = cnt n (.tl k' h') := by
      have : Key.tl k h ≠ Key.tl k' h' := fun e' => e (by injection e' with e1 e2; rw [e1, e2])
      simp [bump, Op.keys, List.count_singleton, this]
    rw [hb]; rw [hb] at hp
    rw [← hf k' h' hp]
    exact read_other oM (tileR c k' h') (tileR c k h) f _ (tile_disjoint e)

theorem row_disjoint {c : Dev nD} {k k' : Fin 8} {h : Bool} (hk : k' ≠ k) : Disjoint (tileR c k' h).set (rowBlk c k).set := by
  refine Rect.disjoint_of_separated _ _ 0 ?_
  have h1 : (c.val + k.val) % 8 ≠ (c.val + k'.val) % 8 := fun e => hk (Fin.ext (by have := k.isLt; have := k'.isLt; omega))
  show (192 = 0 ∨ 192 * ((c.val + k'.val) % 8) + 1 * (192 - 1) < 192 * ((c.val + k.val) % 8))
    ∨ (192 = 0 ∨ 192 * ((c.val + k.val) % 8) + 1 * (192 - 1) < 192 * ((c.val + k'.val) % 8))
  omega

theorem stOut {k : Fin 8} (ho : opAt n = .stOut k) {off : Fin 2 → ℕ} {inb} {w : Vec F S192x1536 .f32} {hx} {hm}
    {kk : PUnit → Prog (TpuEff nD τ sig (Elt F) Λ₀ .tc) α} {Q : α → sProp 𝕄}
    (hoff : off = rowOff c k) (hn : ∀ h, cnt n (.tl k h) = 0) (hp : ∀ h, part m c k h = rowHalf m c k h) (hw : w = rowV m c k)
    (hk : St m κ ιs c (n + 1) ⊢ WP c (kk ⟨⟩) Q) :
    St m κ ιs c n ⊢ WP c (.op (.store oM (Rect.unit (s := S1536x1536) off S192x1536.size inb) w Finset.univ hx hm) kk) Q := by
  subst hoff hw
  refine step_store m κ ιs ho .out (by simp [Op.keys, Key.cmps]) rfl rfl
    (fun f hf k' h' hp' => ?_) hk
  dsimp only at hp' ⊢
  by_cases e : k' = k
  · subst e
    have hb : bump (cnt n) (.stOut k') (.tl k' h') = 0 + 1 := by
      rw [← hn h']; unfold bump; congr 1; cases h' <;> simp [Op.keys]
    rw [hb]
    show _ = part m c k' h'
    rw [hp h']
    refine read_inside oM (tileR c k' h') (rowBlk c k') _ f (fun x => (halfR h').emb x) (fun x => ?_) (rowV m c k') (read_same oM (rowBlk c k') f _)
    funext a; apply Fin.ext
    match a with
    | ⟨0, _⟩ =>
      show 192 * ((c.val + k'.val) % 8) + 1 * (x 0).val = 192 * ((c.val + k'.val) % 8) + 1 * (0 + 1 * (x 0).val); omega
    | ⟨1, _⟩ => show cond h' 768 0 + 1 * (x 1).val = 0 + 1 * (cond h' 768 0 + 1 * (x 1).val); omega
  · have hb : bump (cnt n) (.stOut k) (.tl k' h') = cnt n (.tl k' h') := by
      have h1 : Key.tl k false ≠ Key.tl k' h' := fun e' => e (by injection e' with e1 e2; exact e1.symm)
      have h2 : Key.tl k true ≠ Key.tl k' h' := fun e' => e (by injection e' with e1 e2; exact e1.symm)
      simp [bump, Op.keys, List.count_cons, h1, h2]
    rw [hb]; rw [hb] at hp'
    rw [← hf k' h' hp']
    exact read_other oM (tileR c k' h') (rowBlk c k) f _ (row_disjoint e)

theorem stX {i : Fin 3} (ho : opAt n = .stX i) {off : Fin 2 → ℕ} {inb} {w : Vec F S1536x512 .bf16} {hx} {hm}
    {kk : PUnit → Prog (TpuEff nD τ sig (Elt F) Λ₀ .tc) α} {Q : α → sProp 𝕄}
    (hoff : off = ![0, 512 * i.val]) (hn : cnt n .stX = i.val) (hw : w = xStrip m c i)
    (hk : St m κ ιs c (n + 1) ⊢ WP c (kk ⟨⟩) Q) :
    St m κ ιs c n ⊢ WP c (.op (.store xbM (Rect.unit (s := S1536x1536) off S1536x512.size inb) w Finset.univ hx hm) kk) Q := by
  subst hoff hw
  refine step_store m κ ιs ho .xb (by simp [Op.keys, Key.cmps]) rfl rfl (fun f hf i' hi' => ?_) hk
  have hb : bump (cnt n) (.stX i) .stX = i.val + 1 := by simp [bump, Op.keys, hn]
  rw [hb] at hi'
  by_cases e : i' = i
  · subst e; exact read_same xbM (xcolR i') f _
  · have hlt : i'.val < i.val := by have := Fin.val_ne_of_ne e; omega
    rw [← hf i' (by rw [hn]; exact hlt)]
    refine read_other xbM (xcolR i') (xcolR i) f _ (Rect.disjoint_of_separated _ _ 1 (.inl (.inr ?_)))
    show 512 * i'.val + 1 * (512 - 1) < 512 * i.val; omega

theorem stW1 {i : Fin 6} (ho : opAt n = .stW1 i) {off : Fin 2 → ℕ} {inb} {w : Vec F S1536x512 .bf16} {hx} {hm}
    {kk : PUnit → Prog (TpuEff nD τ sig (Elt F) Λ₀ .tc) α} {Q : α → sProp 𝕄}
    (hoff : off = ![0, 512 * i.val]) (hn : cnt n .stW1 = i.val) (hw : w = w1Strip m c i)
    (hk : St m κ ιs c (n + 1) ⊢ WP c (kk ⟨⟩) Q) :
    St m κ ιs c n ⊢ WP c (.op (.store w1M (Rect.unit (s := S1536x3072) off S1536x512.size inb) w Finset.univ hx hm) kk) Q := by
  subst hoff hw
  refine step_store m κ ιs ho .w1 (by simp [Op.keys, Key.cmps]) rfl rfl (fun f hf i' hi' => ?_) hk
  have hb : bump (cnt n) (.stW1 i) .stW1 = i.val + 1 := by simp [bump, Op.keys, hn]
  rw [hb] at hi'
  by_cases e : i' = i
  · subst e; exact read_same w1M (colR i') f _
  · have hlt : i'.val < i.val := by have := Fin.val_ne_of_ne e; omega
    rw [← hf i' (by rw [hn]; exact hlt)]
    refine read_other w1M (colR i') (colR i) f _ (Rect.disjoint_of_separated _ _ 1 (.inl (.inr ?_)))
    show 512 * i'.val + 1 * (512 - 1) < 512 * i.val; omega

theorem stW2 {i : Fin 6} (ho : opAt n = .stW2 i) {off : Fin 2 → ℕ} {inb} {w : Vec F S512x1536 .bf16} {hx} {hm}
    {kk : PUnit → Prog (TpuEff nD τ sig (Elt F) Λ₀ .tc) α} {Q : α → sProp 𝕄}
    (hoff : off = ![512 * i.val, 0]) (hn : cnt n .stW2 = i.val) (hw : w = w2Strip m c i)
    (hk : St m κ ιs c (n + 1) ⊢ WP c (kk ⟨⟩) Q) :
    St m κ ιs c n ⊢ WP c (.op (.store w2M (Rect.unit (s := S3072x1536) off S512x1536.size inb) w Finset.univ hx hm) kk) Q := by
  subst hoff hw
  refine step_store m κ ιs ho .w2 (by simp [Op.keys, Key.cmps]) rfl rfl (fun f hf i' hi' => ?_) hk
  have hb : bump (cnt n) (.stW2 i) .stW2 = i.val + 1 := by simp [bump, Op.keys, hn]
  rw [hb] at hi'
  by_cases e : i' = i
  · subst e; exact read_same w2M (rowR i') f _
  · have hlt : i'.val < i.val := by have := Fin.val_ne_of_ne e; omega
    rw [← hf i' (by rw [hn]; exact hlt)]
    refine read_other w2M (rowR i') (rowR i) f _ (Rect.disjoint_of_separated _ _ 0 (.inl (.inr ?_)))
    show 512 * i'.val + 1 * (512 - 1) < 512 * i.val; omega

theorem stHb (ho : opAt n = .stHb) {off : Fin 2 → ℕ} {inb} {w : Vec F S192x3072 .bf16} {hx} {hm}
    {kk : PUnit → Prog (TpuEff nD τ sig (Elt F) Λ₀ .tc) α} {Q : α → sProp 𝕄}
    (hoff : off = ![0, 0]) (hw : w = k0_pay10 (xr m c 0) (w1V m c))
    (hk : St m κ ιs c (n + 1) ⊢ WP c (kk ⟨⟩) Q) :
    St m κ ιs c n ⊢ WP c (.op (.store hbM (Rect.unit (s := S192x3072) off S192x3072.size inb) w Finset.univ hx hm) kk) Q := by
  subst hoff hw
  exact step_store m κ ιs ho .hb (by simp [Op.keys, Key.cmps]) rfl rfl
    (fun f hf _ => read_same hbM hbR f _) hk

theorem stHc {q : Fin 6} (ho : opAt n = .stHc q) {off : Fin 3 → ℕ} {inb} {w : Vec F S1x192x3072 .bf16} {hx} {hm}
    {kk : PUnit → Prog (TpuEff nD τ sig (Elt F) Λ₀ .tc) α} {Q : α → sProp 𝕄}
    (hoff : off = ![q.val, 0, 0]) (hw : w = hcV m c (qk q))
    (hk : St m κ ιs c (n + 1) ⊢ WP c (kk ⟨⟩) Q) :
    St m κ ιs c n ⊢ WP c (.op (.store hcM (Rect.unit (s := S6x192x3072) off S1x192x3072.size inb) w Finset.univ hx hm) kk) Q := by
  subst hoff hw
  refine step_store m κ ιs ho .hc (by simp [Op.keys, Key.cmps]) rfl rfl (fun f hf q' hq' => ?_) hk
  by_cases e : q' = q
  · subst e; exact read_same hcM (hcR q') f _
  · have hb : bump (cnt n) (.stHc q) (.hc q') = cnt n (.hc q') := by
      have : Key.hc q ≠ Key.hc q' := fun e' => e (by injection e' with e1; exact e1.symm)
      simp [bump, Op.keys, List.count_singleton, this]
    dsimp only at hq'; rw [hb] at hq'
    rw [← hf q' hq']
    refine read_other hcM (hcR q') (hcR q) f _ (Rect.disjoint_of_separated _ _ 0 ?_)
    have := Fin.val_ne_of_ne e
    show (1 = 0 ∨ q'.val + 1 * (1 - 1) < q.val) ∨ (1 = 0 ∨ q.val + 1 * (1 - 1) < q'.val); omega

end Loads

end Cert.KernelIdeal.RingProof
-- ==== Proof.Body.lean ====
/-
  The kernel's body, one step at a time.
-/
module

public import proofs.«01_k».proof.Proof.Hand
public import proofs.«01_k».proof.Proof.Ldst

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × Cl → ℕ) (ιs : SK → ℕ)

set_option maxRecDepth 20000 in
set_option maxHeartbeats 20000000 in
/-- The body takes the state from the first operation to the last. -/
theorem body_steps (c : Dev nD) (Q : PUnit → sProp 𝕄) (hQ : St m κ ιs c 460 ⊢ WP c (.ret ⟨⟩) Q) :
    St m κ ιs c 0 ⊢ WP c (cc0_body (Memref.whole main_arg0) (Memref.isWhole_whole _) (Memref.whole main_arg1) (Memref.isWhole_whole _)
      (Memref.whole main_arg2) (Memref.isWhole_whole _) (Memref.whole cc0_stg0_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8
      (Memref.whole cc0_scratch9) (Memref.isWhole_whole _) (Memref.whole cc0_scratch10) (Memref.isWhole_whole _)
      (Memref.whole cc0_scratch11) (Memref.isWhole_whole _) (Memref.whole cc0_scratch12) (Memref.isWhole_whole _)
      (Memref.whole cc0_scratch13) (Memref.isWhole_whole _) (Memref.whole cc0_scratch14) (Memref.isWhole_whole _)
      (Memref.whole cc0_scratch15) (Memref.isWhole_whole _) (Memref.whole cc0_scratch16) (Memref.isWhole_whole _)
      (Memref.whole cc0_scratch17) (Memref.isWhole_whole _) (Memref.whole cc0_scratch18) (Memref.isWhole_whole _)
      cc0_scratch19 cc0_scratch20 cc0_scratch21 cc0_scratch22 cc0_scratch23 cc0_scratch24 cc0_scratch25 cc0_scratch26
      cc0_scratch27 cc0_scratch28 cc0_scratch29 cc0_scratch30 cc0_scratch31 cc0_scratch32 cc0_scratch33) Q := by
  simp only [cc0_body_eq_skeleton]
  unfold cc0_body_skel
  simp only [k0_part66_eq_skeleton]
  unfold k0_part66_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton,
    k0_part27_eq_skeleton, k0_part28_eq_skeleton, k0_part29_eq_skeleton, k0_part30_eq_skeleton, k0_part31_eq_skeleton,
    k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton,
    k0_part47_eq_skeleton, k0_part48_eq_skeleton, k0_part49_eq_skeleton, k0_part50_eq_skeleton, k0_part51_eq_skeleton,
    k0_part52_eq_skeleton, k0_part53_eq_skeleton, k0_part54_eq_skeleton, k0_part55_eq_skeleton, k0_part56_eq_skeleton,
    k0_part57_eq_skeleton, k0_part58_eq_skeleton, k0_part59_eq_skeleton, k0_part60_eq_skeleton, k0_part61_eq_skeleton,
    k0_part62_eq_skeleton, k0_part63_eq_skeleton, k0_part64_eq_skeleton, k0_part65_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
    k0_part19_skel k0_part20_skel k0_part21_skel k0_part22_skel k0_part23_skel k0_part24_skel k0_part25_skel k0_part26_skel k0_part27_skel
    k0_part28_skel k0_part29_skel k0_part30_skel k0_part31_skel k0_part32_skel k0_part33_skel k0_part34_skel k0_part35_skel k0_part36_skel
    k0_part37_skel k0_part38_skel k0_part39_skel k0_part40_skel k0_part41_skel k0_part42_skel k0_part43_skel k0_part44_skel k0_part45_skel
    k0_part46_skel k0_part47_skel k0_part48_skel k0_part49_skel k0_part50_skel k0_part51_skel k0_part52_skel k0_part53_skel k0_part54_skel
    k0_part55_skel k0_part56_skel k0_part57_skel k0_part58_skel k0_part59_skel k0_part60_skel k0_part61_skel k0_part62_skel k0_part63_skel
    k0_part64_skel k0_part65_skel
  simp only [semSignalWord, semWaitWord, Prog.lift, Prog.bind_op, Prog.bind_ret, Prog.pure_eq_ret, wp_deviceId]
  repeat (first
    | (refine at_op m κ ιs (.ldX _) rfl fun ho => ?_; (first | with_reducible refine ldX m κ ιs ho ?_ ?_ ?_ | refine ldX m κ ιs ho ?_ ?_ ?_); (clear * -; revert c; decide +kernel); decide +kernel; clear ho; refine St_norm m κ ιs (by simp only [Nat.reduceAdd]; rfl) ?_)
    | (refine at_op m κ ιs (.ldW1) rfl fun ho => ?_; (first | with_reducible refine ldW1 m κ ιs ho ?_ ?_ ?_ | refine ldW1 m κ ιs ho ?_ ?_ ?_); exact rfl; decide +kernel; clear ho; refine St_norm m κ ιs (by simp only [Nat.reduceAdd]; rfl) ?_)
    | (refine at_op m κ ιs (.ldW2) rfl fun ho => ?_; (first | with_reducible refine ldW2 m κ ιs ho ?_ ?_ ?_ | refine ldW2 m κ ιs ho ?_ ?_ ?_); exact rfl; decide +kernel; clear ho; refine St_norm m κ ιs (by simp only [Nat.reduceAdd]; rfl) ?_)
    | (refine at_op m κ ιs (.ldW2h _) rfl fun ho => ?_; (first | with_reducible refine ldW2h m κ ιs ho ?_ ?_ ?_ | refine ldW2h m κ ιs ho ?_ ?_ ?_); exact rfl; decide +kernel; clear ho; refine St_norm m κ ιs (by simp only [Nat.reduceAdd]; rfl) ?_)
    | (refine at_op m κ ιs (.ldHb) rfl fun ho => ?_; (first | with_reducible refine ldHb m κ ιs ho ?_ ?_ ?_ | refine ldHb m κ ιs ho ?_ ?_ ?_); exact rfl; decide +kernel; clear ho; refine St_norm m κ ιs (by simp only [Nat.reduceAdd]; rfl) ?_)
    | (refine at_op m κ ιs (.ldHc _) rfl fun ho => ?_; (first | with_reducible refine ldHc m κ ιs ho ?_ ?_ ?_ | refine ldHc m κ ιs ho ?_ ?_ ?_); exact rfl; decide +kernel; clear ho; refine St_norm m κ ιs (by simp only [Nat.reduceAdd]; rfl) ?_)
    | (refine at_op m κ ιs (.ldT _ _ _) rfl fun ho => ?_; (first | with_reducible refine ldT m κ ιs ho ?_ ?_ ?_ | refine ldT m κ ιs ho ?_ ?_ ?_); (clear * -; revert c; decide +kernel); decide +kernel; clear ho; refine St_norm m κ ιs (by simp only [Nat.reduceAdd]; rfl) ?_)
    | (refine at_op m κ ιs (.ldRx _ _ _) rfl fun ho => ?_; (first | with_reducible refine ldRx m κ ιs ho ?_ ?_ ?_ ?_ | refine ldRx m κ ιs ho ?_ ?_ ?_ ?_); exact rfl; exact rfl; decide +kernel; clear ho; refine St_norm m κ ιs (by simp only [Nat.reduceAdd]; rfl) ?_)
    | (refine at_op m κ ιs (.nopT _ _) rfl fun ho => ?_; (first | with_reducible refine nopT m κ ιs ho ?_ ?_ ?_ (fun f => ?_) | refine nopT m κ ιs ho ?_ ?_ ?_ (fun f => ?_)); exact rfl; exact rfl; decide +kernel; clear ho; clear f; refine St_norm m κ ιs (by simp only [Nat.reduceAdd]; rfl) ?_)
    | (refine at_op m κ ιs (.ldA _) rfl fun ho => ?_; (first | with_reducible refine ldA m κ ιs ho ?_ ?_ ?_ | refine ldA m κ ιs ho ?_ ?_ ?_); exact rfl; decide +kernel; clear ho; refine St_norm m κ ιs (by simp only [Nat.reduceAdd]; rfl) ?_)
    | (refine at_op m κ ιs (.ldB _) rfl fun ho => ?_; (first | with_reducible refine ldB m κ ιs ho ?_ ?_ ?_ | refine ldB m κ ιs ho ?_ ?_ ?_); exact rfl; decide +kernel; clear ho; refine St_norm m κ ιs (by simp only [Nat.reduceAdd]; rfl) ?_)
    | (refine at_op m κ ιs (.nop .out) rfl fun ho => ?_; (first | with_reducible refine step_load m κ ιs ho rfl .out rfl (fun f hf => ?_) | refine step_load m κ ιs ho rfl .out rfl (fun f hf => ?_)); clear ho; clear hf f; refine St_norm m κ ιs (by simp only [Nat.reduceAdd]; rfl) ?_)
    | (refine at_op m κ ιs (.nop .xb) rfl fun ho => ?_; (first | with_reducible refine step_load m κ ιs ho rfl .xb rfl (fun f hf => ?_) | refine step_load m κ ιs ho rfl .xb rfl (fun f hf => ?_)); clear ho; clear hf f; refine St_norm m κ ιs (by simp only [Nat.reduceAdd]; rfl) ?_)
    | (refine at_op m κ ιs (.nop .w1) rfl fun ho => ?_; (first | with_reducible refine step_load m κ ιs ho rfl .w1 rfl (fun f hf => ?_) | refine step_load m κ ιs ho rfl .w1 rfl (fun f hf => ?_)); clear ho; clear hf f; refine St_norm m κ ιs (by simp only [Nat.reduceAdd]; rfl) ?_)
    | (refine at_op m κ ιs (.nop .w2) rfl fun ho => ?_; (first | with_reducible refine step_load m κ ιs ho rfl .w2 rfl (fun f hf => ?_) | refine step_load m κ ιs ho rfl .w2 rfl (fun f hf => ?_)); clear ho; clear hf f; refine St_norm m κ ιs (by simp only [Nat.reduceAdd]; rfl) ?_)
    | (refine at_op m κ ιs (.nop .hb) rfl fun ho => ?_; (first | with_reducible refine step_load m κ ιs ho rfl .hb rfl (fun f hf => ?_) | refine step_load m κ ιs ho rfl .hb rfl (fun f hf => ?_)); clear ho; clear hf f; refine St_norm m κ ιs (by simp only [Nat.reduceAdd]; rfl) ?_)
    | (refine at_op m κ ιs (.nop .hc) rfl fun ho => ?_; (first | with_reducible refine step_load m κ ιs ho rfl .hc rfl (fun f hf => ?_) | refine step_load m κ ιs ho rfl .hc rfl (fun f hf => ?_)); clear ho; clear hf f; refine St_norm m κ ιs (by simp only [Nat.reduceAdd]; rfl) ?_)
    | (refine at_op m κ ιs (.stT _ _ _) rfl fun ho => ?_; (first | with_reducible refine stT m κ ιs ho ?_ ?_ ?_ ?_ | refine stT m κ ιs ho ?_ ?_ ?_ ?_); (clear * -; revert c; decide +kernel); decide +kernel; exact rfl; clear ho; refine St_norm m κ ιs (by simp only [Nat.reduceAdd]; rfl) ?_)
    | (refine at_op m κ ιs (.stOut _) rfl fun ho => ?_; (first | with_reducible refine stOut m κ ιs ho ?_ ?_ ?_ ?_ ?_ | refine stOut m κ ιs ho ?_ ?_ ?_ ?_ ?_); (clear * -; revert c; decide +kernel); decide +kernel; (intro h; cases h <;> rfl); exact rfl; clear ho; refine St_norm m κ ιs (by simp only [Nat.reduceAdd]; rfl) ?_)
    | (refine at_op m κ ιs (.stX _) rfl fun ho => ?_; (first | with_reducible refine stX m κ ιs ho ?_ ?_ ?_ ?_ | refine stX m κ ιs ho ?_ ?_ ?_ ?_); exact rfl; decide +kernel; exact rfl; clear ho; refine St_norm m κ ιs (by simp only [Nat.reduceAdd]; rfl) ?_)
    | (refine at_op m κ ιs (.stW1 _) rfl fun ho => ?_; (first | with_reducible refine stW1 m κ ιs ho ?_ ?_ ?_ ?_ | refine stW1 m κ ιs ho ?_ ?_ ?_ ?_); exact rfl; decide +kernel; exact rfl; clear ho; refine St_norm m κ ιs (by simp only [Nat.reduceAdd]; rfl) ?_)
    | (refine at_op m κ ιs (.stW2 _) rfl fun ho => ?_; (first | with_reducible refine stW2 m κ ιs ho ?_ ?_ ?_ ?_ | refine stW2 m κ ιs ho ?_ ?_ ?_ ?_); exact rfl; decide +kernel; exact rfl; clear ho; refine St_norm m κ ιs (by simp only [Nat.reduceAdd]; rfl) ?_)
    | (refine at_op m κ ιs (.stHb) rfl fun ho => ?_; (first | with_reducible refine stHb m κ ιs ho ?_ ?_ ?_ | refine stHb m κ ιs ho ?_ ?_ ?_); exact rfl; exact rfl; clear ho; refine St_norm m κ ιs (by simp only [Nat.reduceAdd]; rfl) ?_)
    | (refine at_op m κ ιs (.stHc _) rfl fun ho => ?_; (first | with_reducible refine stHc m κ ιs ho ?_ ?_ ?_ | refine stHc m κ ιs ho ?_ ?_ ?_); exact rfl; exact rfl; clear ho; refine St_norm m κ ιs (by simp only [Nat.reduceAdd]; rfl) ?_)
    | (refine at_op m κ ιs (.stTx _ _ _) rfl fun ho => ?_; (first | with_reducible refine stTx m κ ιs ho ?_ ?_ ?_ ?_ ?_ | refine stTx m κ ιs ho ?_ ?_ ?_ ?_ ?_); exact rfl; exact rfl; decide +kernel; exact rfl; clear ho; refine St_norm m κ ιs (by simp only [Nat.reduceAdd]; rfl) ?_)
    | (refine at_op m κ ιs (.wtx _ _ _) rfl fun ho => ?_; (first | with_reducible refine wtx m κ ιs ho ?_ ?_ ?_ ?_ ?_ | refine wtx m κ ιs ho ?_ ?_ ?_ ?_ ?_); exact rfl; exact rfl; decide +kernel; decide +kernel; clear ho; refine St_norm m κ ιs (by simp only [Nat.reduceAdd]; rfl) ?_)
    | (refine at_op m κ ιs (.wrx _ _ _) rfl fun ho => ?_; (first | with_reducible refine wrx m κ ιs ho ?_ ?_ ?_ ?_ ?_ ?_ | refine wrx m κ ιs ho ?_ ?_ ?_ ?_ ?_ ?_); exact rfl; exact rfl; decide +kernel; decide +kernel; decide +kernel; clear ho; refine St_norm m κ ιs (by simp only [Nat.reduceAdd]; rfl) ?_)
    | (refine at_op m κ ιs (.snd _ _ _) rfl fun ho => ?_; (first | with_reducible refine snd m κ ιs ho ?_ ?_ ?_ ?_ ?_ ?_ ?_ ?_ ?_ ?_ | refine snd m κ ιs ho ?_ ?_ ?_ ?_ ?_ ?_ ?_ ?_ ?_ ?_); exact rfl; exact rfl; exact rfl; exact rfl; (clear * -; revert c; decide +kernel); decide +kernel; decide +kernel; decide +kernel; decide +kernel; clear ho; refine St_norm m κ ιs (by simp only [Nat.reduceAdd]; rfl) ?_)
    | (refine at_op m κ ιs (.csA _) rfl fun ho => ?_; (first | with_reducible refine csA m κ ιs ho ?_ ?_ ?_ ?_ ?_ | refine csA m κ ιs ho ?_ ?_ ?_ ?_ ?_); exact rfl; exact rfl; exact rfl; decide +kernel; clear ho; refine St_norm m κ ιs (by simp only [Nat.reduceAdd]; rfl) ?_)
    | (refine at_op m κ ιs (.csB _) rfl fun ho => ?_; (first | with_reducible refine csB m κ ιs ho ?_ ?_ ?_ ?_ ?_ | refine csB m κ ιs ho ?_ ?_ ?_ ?_ ?_); exact rfl; exact rfl; exact rfl; decide +kernel; clear ho; refine St_norm m κ ιs (by simp only [Nat.reduceAdd]; rfl) ?_)
    | (refine at_op m κ ιs (.cwA _) rfl fun ho => ?_; (first | with_reducible refine cwA m κ ιs ho ?_ ?_ ?_ ?_ | refine cwA m κ ιs ho ?_ ?_ ?_ ?_); exact rfl; exact rfl; decide +kernel; clear ho; refine St_norm m κ ιs (by simp only [Nat.reduceAdd]; rfl) ?_)
    | (refine at_op m κ ιs (.cwB _) rfl fun ho => ?_; (first | with_reducible refine cwB m κ ιs ho ?_ ?_ ?_ ?_ | refine cwB m κ ιs ho ?_ ?_ ?_ ?_); exact rfl; exact rfl; decide +kernel; clear ho; refine St_norm m κ ιs (by simp only [Nat.reduceAdd]; rfl) ?_)
    | (refine at_op m κ ιs (.crd _ _) rfl fun ho => ?_; (first | with_reducible refine crd m κ ιs ho ?_ ?_ ?_ ?_ ?_ ?_ ?_ ?_ | refine crd m κ ιs ho ?_ ?_ ?_ ?_ ?_ ?_ ?_ ?_); exact rfl; exact rfl; (clear * -; revert c; decide +kernel); decide +kernel; decide +kernel; decide +kernel; decide +kernel; clear ho; refine St_norm m κ ιs (by simp only [Nat.reduceAdd]; rfl) ?_)
    | (refine at_op m κ ιs (.wcrd _ _) rfl fun ho => ?_; (first | with_reducible refine wcrd m κ ιs ho ?_ ?_ ?_ ?_ ?_ ?_ | refine wcrd m κ ιs ho ?_ ?_ ?_ ?_ ?_ ?_); exact rfl; exact rfl; decide +kernel; decide +kernel; decide +kernel; clear ho; refine St_norm m κ ιs (by simp only [Nat.reduceAdd]; rfl) ?_)
    | (refine at_op m κ ιs (.bsig _) rfl fun ho => ?_; (first | with_reducible refine bsig m κ ιs ho ?_ ?_ ?_ ?_ ?_ ?_ | refine bsig m κ ιs ho ?_ ?_ ?_ ?_ ?_ ?_); exact rfl; exact rfl; (clear * -; revert c; decide +kernel); decide +kernel; decide +kernel; clear ho; refine St_norm m κ ιs (by simp only [Nat.reduceAdd]; rfl) ?_)
    | (refine at_op m κ ιs (.bwait) rfl fun ho => ?_; (first | with_reducible refine bwait m κ ιs ho ?_ ?_ ?_ ?_ ?_ | refine bwait m κ ιs ho ?_ ?_ ?_ ?_ ?_); exact rfl; exact rfl; decide +kernel; decide +kernel; clear ho; refine St_norm m κ ιs (by simp only [Nat.reduceAdd]; rfl) ?_))
  exact hQ

end Cert.KernelIdeal.RingProof
-- ==== Proof.Launch.lean ====
/- The launch: what the devices start from, the body at its one point, and the run of the whole program. -/
module

public import proofs.«01_k».proof.Proof.Enter
public import proofs.«01_k».proof.Proof.Body
public import Idealize.ShloMosaic.Lib.Pipeline.FrameBody
public import Idealize.ShloMosaic.Lib.Pipeline.CollectiveSegs

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What a device holds before and after its body -/

/-- The arguments, whole, as they were at the launch. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

def start (c : Dev nD) : sProp 𝕄 :=
  iprop(args m c ∗ levAts Lx lv ∗ (bigSep Finset.univ fun x : Cl => clCreds c x) ∗ G' m c)

def Φ₀ (c : Dev nD) : sProp 𝕄 := iprop(start m c ∗ Pipeline.scopedRest cfg0.spec c)
def Φ₁ (c : Dev nD) : sProp 𝕄 :=
  iprop(args m c ∗ (Pipeline.ownSems0 (Ix := ℕ) (Name := ℕ) (U := UU) (Lvl := ℕ) (Val := Elt F) (τ := τ) osem c ∗ unscopedSems0 c)
    ∗ Pipeline.scopedRest cfg0.spec c)

def dats (_ : Fin 1) (c : Dev nD) : Dat τ (Elt F) ℕ ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What a device enters with of the streams, put together. -/
theorem strms_in (c : Dev nD) : (bigSep Finset.univ fun σ : Strm => strmIn (F := F) c σ)
    = iprop((bigSep Finset.univ fun σ : Strm => iprop(cellIn c (.crd σ) ∗ cellIn c (.snd σ 0) ∗ cellIn c (.snd σ 1) ∗ cellIn c (.rcv σ 0) ∗ cellIn c (.rcv σ 1)))
      ∗ (bigSep Finset.univ fun k : Strm × Fin 2 => Release.readerAt ES (c, k) 0)
      ∗ (bigSep Finset.univ fun k : Strm × Fin 2 => slotTok c k)
      ∗ (bigSep Finset.univ fun σ : Strm => iprop(∃ f, (txM σ).view.loc (c : Thread nD τ) ↦{fullShare} f))
      ∗ (bigSep Finset.univ fun σ : Strm => iprop(∃ f, (rxM σ).view.loc (c : Thread nD τ) ↦{fullShare} f))) := by
  rw [slot_split, slot_split, ← bs_sep, ← bs_sep, ← bs_sep, ← bs_sep]
  rfl

/-- The core's scratch, by what it is for. -/
def scr (c : Dev nD) : sProp 𝕄 :=
  iprop((bigSep Finset.univ fun σ : Strm => iprop(∃ f, (txM σ).view.loc (c : Thread nD τ) ↦{fullShare} f))
    ∗ (bigSep Finset.univ fun σ : Strm => iprop(∃ f, (rxM σ).view.loc (c : Thread nD τ) ↦{fullShare} f))
    ∗ (∃ f, sAM.view.loc (c : Thread nD τ) ↦{fullShare} f) ∗ (∃ f, sBM.view.loc (c : Thread nD τ) ↦{fullShare} f)
    ∗ (∃ f, xbM.view.loc (c : Thread nD τ) ↦{fullShare} f) ∗ (∃ f, w1M.view.loc (c : Thread nD τ) ↦{fullShare} f)
    ∗ (∃ f, w2M.view.loc (c : Thread nD τ) ↦{fullShare} f) ∗ (∃ f, hbM.view.loc (c : Thread nD τ) ↦{fullShare} f)
    ∗ (∃ f, hcM.view.loc (c : Thread nD τ) ↦{fullShare} f))

theorem scr_in (c : Dev nD) : (Pipeline.scopedRest cfg0.spec c : sProp 𝕄) ⊢ scr c := by
  rw [show (Pipeline.scopedRest cfg0.spec c : sProp 𝕄) = _ from scopedRest0_eq c]
  unfold scr
  rw [strm_split, strm_split]
  iintro ⟨H0, H1, H2, H3, H4, H5, H6, A1, A2, B1, B2, C1, C2, D1, D2, Z1, Z2⟩
  isplitl [A1 B1 C1 D1 Z1]
  · isplitl [A1]; · iexact A1
    isplitl [B1]; · iexact B1
    isplitl [C1]; · iexact C1
    isplitl [D1]; · iexact D1
    iexact Z1
  isplitl [A2 B2 C2 D2 Z2]
  · isplitl [A2]; · iexact A2
    isplitl [B2]; · iexact B2
    isplitl [C2]; · iexact C2
    isplitl [D2]; · iexact D2
    iexact Z2
  isplitl [H5]; · iexact H5
  isplitl [H6]; · iexact H6
  isplitl [H0]; · iexact H0
  isplitl [H1]; · iexact H1
  isplitl [H2]; · iexact H2
  isplitl [H3]; · iexact H3
  iexact H4

theorem scr_out (c : Dev nD) : scr c ⊢ (Pipeline.scopedRest cfg0.spec c : sProp 𝕄) := by
  rw [show (Pipeline.scopedRest cfg0.spec c : sProp 𝕄) = _ from scopedRest0_eq c]
  unfold scr
  rw [strm_split, strm_split]
  iintro ⟨⟨A1, B1, C1, D1, Z1⟩, ⟨A2, B2, C2, D2, Z2⟩, H5, H6, H0, H1, H2, H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [A1]; · iexact A1
  isplitl [A2]; · iexact A2
  isplitl [B1]; · iexact B1
  isplitl [B2]; · iexact B2
  isplitl [C1]; · iexact C1
  isplitl [C2]; · iexact C2
  isplitl [D1]; · iexact D1
  isplitl [D2]; · iexact D2
  isplitl [Z1]; · iexact Z1
  iexact Z2

/-! ## The body's obligation -/

/-- The result's staging buffer. -/
abbrev stg (c : Dev nD) (X : (cc0_stg0_0).ty.Contents (Elt F)) : sProp 𝕄 :=
  iprop(∃ f : Buf (Elt F) ((c : Thread nD τ).loc cc0_stg0_0), ⌜f = X⌝ ∗ (((c : Thread nD τ).loc cc0_stg0_0) ↦{fullShare} f))
abbrev t₀ : Fin cfg0.N := t0_0
def bodyPre' (c : Dev nD) : sProp 𝕄 :=
  iprop(Φ₀ m c ∗ (dats m 0 c).owesAt 0 t₀.castSucc ∗ (∃ d, stg c ((dats m 0 c).before (0 : Fin 1) t₀ d)))
def bodyPost (c : Dev nD) : sProp 𝕄 :=
  iprop(Φ₁ m c ∗ (dats m 0 c).owesAt 0 t₀.succ ∗ stg c (outAt m c))

theorem body_enter (c : Dev nD) : bodyPre' m c ⊢ |={Set.univ}=> (iprop(∃ κ ιs, St m κ ιs c 0) : sProp 𝕄) := by
  unfold bodyPre' Φ₀ start args G' Dat.owesAt Pipeline.owesWithin
  rw [show (dats m 0 c).owed t₀.castSucc = owed c 0 from rfl]
  iintro ⟨⟨⟨⟨Ha, Hb, Hc⟩, #HL, Hcr, ⟨%κ, %ιs, #Hf, Hlin⟩⟩, Hscr⟩, ⟨%W, -, HO⟩, ⟨%d, %f, -, Hstg⟩⟩
  ihave Hscr := (scr_in c) $$ Hscr
  ihave #HC := (show iprop(facts m κ ιs ∗ levAts Lx lv) ⊢ Ctx m κ ιs from by
    unfold facts Ctx
    iintro ⟨⟨#H1, #H2, #H3⟩, #H4⟩
    isplitr; · iexact H4
    isplitr; · iexact H1
    isplitr; · iexact H2
    iexact H3) $$ [Hf HL]
  · isplitr; · iexact Hf
    iexact HL
  ihave Hd := (show iprop(linear c ∗ (bigSep Finset.univ fun x : Cl => clCreds (F := F) c x) ∗ scr c)
      ⊢ iprop(cellIn c .bar ∗ (bigSep Finset.univ fun σ : Strm => strmIn c σ) ∗ copySems c
        ∗ (∃ f, sAM.view.loc (c : Thread nD τ) ↦{fullShare} f) ∗ (∃ f, sBM.view.loc (c : Thread nD τ) ↦{fullShare} f)
        ∗ (∃ f, xbM.view.loc (c : Thread nD τ) ↦{fullShare} f) ∗ (∃ f, w1M.view.loc (c : Thread nD τ) ↦{fullShare} f)
        ∗ (∃ f, w2M.view.loc (c : Thread nD τ) ↦{fullShare} f) ∗ (∃ f, hbM.view.loc (c : Thread nD τ) ↦{fullShare} f)
        ∗ (∃ f, hcM.view.loc (c : Thread nD τ) ↦{fullShare} f)) from by
    rw [strms_in]
    unfold linear scr
    rw [devToks_eq]
    iintro ⟨⟨H1, H2, H3, H4, H5⟩, Hc, ⟨Ht, Hr, Hs⟩⟩
    have e : (bigSep Finset.univ fun x : Cl => cellIn (F := F) c x) = iprop((bigSep Finset.univ fun x : Cl => atPos ER (cell c x) 0 ∅ 0)
        ∗ (bigSep Finset.univ fun x : Cl => clToks c x) ∗ (bigSep Finset.univ fun x : Cl => clCreds c x)) := by
      rw [← bs_sep, ← bs_sep]; rfl
    rw [cl_split (cellIn (F := F) c)] at e
    ihave H := (Entails.of_eq e.symm) $$ [H1 H2 Hc]
    · isplitl [H1]; · iexact H1
      isplitl [H2]; · iexact H2
      iexact Hc
    icases H with ⟨Hb, Hcl⟩
    isplitl [Hb]; · iexact Hb
    isplitl [Hcl H3 H4 Ht Hr]
    · isplitl [Hcl]; · iexact Hcl
      isplitl [H3]; · iexact H3
      isplitl [H4]; · iexact H4
      isplitl [Ht]; · iexact Ht
      iexact Hr
    isplitl [H5]; · iexact H5
    iexact Hs) $$ [Hlin Hcr Hscr]
  · isplitl [Hlin]; · iexact Hlin
    isplitl [Hcr]; · iexact Hcr
    iexact Hscr
  icases Hd with ⟨Hbar, Hs, Hcp, HA, HB, H0, H1, H2, H3, H4⟩
  imod (dev_enter m κ ιs c) $$ [HC HO Hbar Hs Hcp HA HB Ha Hb Hc Hstg H0 H1 H2 H3 H4] with HSt
  · isplitr; · iexact HC
    unfold devIn oweC
    isplitl [HO]; · iexists W; iexact HO
    isplitl [Hbar]; · iexact Hbar
    isplitl [Hs]; · iexact Hs
    isplitl [Hcp]; · iexact Hcp
    isplitl [HA]; · iexact HA
    isplitl [HB]; · iexact HB
    isplitl [Ha]; · iexact Ha
    isplitl [Hb]; · iexact Hb
    isplitl [Hc]; · iexact Hc
    isplitl [Hstg]; · iexists f; iexact Hstg
    isplitl [H0]; · iexact H0
    isplitl [H1]; · iexact H1
    isplitl [H2]; · iexact H2
    isplitl [H3]; · iexact H3
    iexact H4
  imodintro
  iexists κ, ιs
  iexact HSt

theorem body_leave (c : Dev nD) : devOut m c ⊢ bodyPost m c := by
  unfold devOut bodyPost Φ₁ args Dat.owesAt Pipeline.owesWithin
  rw [show (dats m 0 c).owed t₀.succ = 0 from rfl, sems_eq (F := F) c]
  iintro ⟨⟨%W, HO⟩, Hsem, Hs, HA, HB, Ha, Hb, Hc, Hstg, H0, H1, H2, H3, H4⟩
  isplitr [HO Hstg]
  · isplitl [Ha Hb Hc]
    · isplitl [Ha]; · iexact Ha
      isplitl [Hb]; · iexact Hb
      iexact Hc
    isplitl [Hsem]; · iexact Hsem
    iapply (scr_out c)
    unfold scr
    ihave Hs := (show (bigSep Finset.univ (strmOut (F := F) c)) ⊢ iprop((bigSep Finset.univ fun σ : Strm => iprop(∃ f, (txM σ).view.loc (c : Thread nD τ) ↦{fullShare} f))
      ∗ (bigSep Finset.univ fun σ : Strm => iprop(∃ f, (rxM σ).view.loc (c : Thread nD τ) ↦{fullShare} f))) from by
        rw [← bs_sep]; exact BI.Entails.refl _) $$ Hs
    icases Hs with ⟨Ht, Hr⟩
    isplitl [Ht]; · iexact Ht
    isplitl [Hr]; · iexact Hr
    isplitl [HA]; · iexact HA
    isplitl [HB]; · iexact HB
    isplitl [H0]; · iexact H0
    isplitl [H1]; · iexact H1
    isplitl [H2]; · iexact H2
    isplitl [H3]; · iexact H3
    iexact H4
  isplitl [HO]
  · iexists W
    isplitr; · ipureintro; exact fun _ _ => Or.inl trivial
    iexact HO
  · iexact Hstg

theorem body_last (κ : Dev nD × Cl → ℕ) (ιs : SK → ℕ) (c : Dev nD) : St m κ ιs c 460 ⊢ WP c (.ret PUnit.unit) (fun _ => bodyPost m c) := by
  show _ ⊢ wp frame (wpE (defs₀ (F := F)) 𝒱₀ c none) Set.univ (.ret PUnit.unit) (fun _ => bodyPost m c)
  rw [wp_ret]
  exact (dev_leave m κ ιs c).trans (BI.fupd_mono (body_leave m c))

set_option maxRecDepth 100000 in
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre' m c ⊢ WP c (cc0_body (Memref.whole main_arg0) (Memref.isWhole_whole _) (Memref.whole main_arg1) (Memref.isWhole_whole _)
      (Memref.whole main_arg2) (Memref.isWhole_whole _) (Memref.whole cc0_stg0_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8
      (Memref.whole cc0_scratch9) (Memref.isWhole_whole _) (Memref.whole cc0_scratch10) (Memref.isWhole_whole _)
      (Memref.whole cc0_scratch11) (Memref.isWhole_whole _) (Memref.whole cc0_scratch12) (Memref.isWhole_whole _)
      (Memref.whole cc0_scratch13) (Memref.isWhole_whole _) (Memref.whole cc0_scratch14) (Memref.isWhole_whole _)
      (Memref.whole cc0_scratch15) (Memref.isWhole_whole _) (Memref.whole cc0_scratch16) (Memref.isWhole_whole _)
      (Memref.whole cc0_scratch17) (Memref.isWhole_whole _) (Memref.whole cc0_scratch18) (Memref.isWhole_whole _)
      cc0_scratch19 cc0_scratch20 cc0_scratch21 cc0_scratch22 cc0_scratch23 cc0_scratch24 cc0_scratch25 cc0_scratch26
      cc0_scratch27 cc0_scratch28 cc0_scratch29 cc0_scratch30 cc0_scratch31 cc0_scratch32 cc0_scratch33) (fun _ => bodyPost m c)
  iintro H
  imod (body_enter m c) $$ H with ⟨%κ, %ιs, H⟩
  iapply (body_steps m κ ιs c (fun _ => bodyPost m c) (body_last m κ ιs c))
  iexact H

/-! ## The launch -/

theorem share_eq (c : Dev nD) (w : Fin cfg0.W) : (dats m 0 c).share w = fullShare := by unfold Dat.share; split <;> rfl

theorem Lx_of_ne (g : GSem nD τ sig) (h : g.1.2 ≠ .tc) : Lx g = ∅ := by unfold Lx; rw [if_neg h]

theorem start_intro (c : Dev nD) :
    iprop(Pipeline.unscopedRestP Pipeline.Prefetch.none cfg0.spec c (fun b => m ((c : Thread nD τ).loc b)) ∗ levAts Lx lv
        ∗ Pipeline.launchCred (fun d => owed d 0) c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  iintro ⟨Ha, Hlev, Hcr, -, HG⟩
  ihave Hc := (creds (F := F) c) $$ Hcr
  imodintro
  unfold start args
  isplitl
  · isplitl [Ha]; · iexact Ha
    isplitl [Hlev]; · iexact Hlev
    isplitl [Hc]; · iexact Hc
    iexact HG
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl]
  unfold Φ₁
  iintro ⟨Ha, ⟨Ho, Hu⟩, Hr⟩
  isplitl [Ha Hu]
  · isplitl [Hu]; · iexact Hu
    iexact Ha
  isplitl [Ho]; · iexact Ho
  iexact Hr

theorem waits (c : Dev nD) : (levAts Lx lv : sProp 𝕄) ⊢ Pipeline.cellsWaits cfgs (dats m) 0 0 c :=
  Pipeline.cellsWaits_intro cfgs (dats m) 0 0 c fun w s t => by
    rcases t with ⟨_ | _, ht⟩
    · exact mayWait c 0 _ 0 (le_refl _) (by decide)
    · show (levAts Lx lv : sProp 𝕄) ⊢ MayWait _ _ _ 0
      rw [MayWait_zero]; iintro -; iempintro

/-! ## The run -/

/-- What the arguments hold after the run. -/
def argsKept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem args_read (c : Dev nD) (s' : Phys nD τ sig (Elt F)) : iprop((unscopedSems0 c ∗ args m c) ∗ emp ∗ SI s')
    ⊢ |={Set.univ}=> (iprop(⌜(∀ sm : SemLoc sig, sm.isScoped .tc = false → s'.mem.sem ((c.tc : Thread nD τ), sm) = 0) ∧ argsKept m c s'.mem⌝ ∗ SI s') : sProp 𝕄) := by
  unfold args
  iintro ⟨⟨Hu, H0, H1, H2⟩, -, HSI⟩
  icombine HSI H0 gives %h0
  icombine HSI H1 gives %h1
  icombine HSI H2 gives %h2
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ h0, Buf.eq_of_forall_mem_univ h1, Buf.eq_of_forall_mem_univ h2⟩
  iexact HSI

/-- The result array after the run. -/
def finalA (c : Dev nD) (w : Fin cfg0.W) : Buf (Elt F) ((cfg0.win w).arr.view.loc (c : Thread nD τ)) := (dats m 0 c).arrAt w cfg0.N

set_option maxRecDepth 100000 in
/-- From any memory with zero counters, for any float values: every weakly fair execution of the program on the eight
    devices terminates, and every final state has each device's result as computed, the arguments unchanged and every semaphore's
    counter at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ argsKept m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := fun d => owed d 0) (howed₀ := fun _ => rfl) (howedN := fun _ => rfl)
    (L := Lx) (lv := lv) (hL := Lx_of_ne) (hwaits := waits m)
    (G := G) (G' := G' m) (u₀ := u₀)
    (hu₀ := by
      iintro Hu
      imod (fund (F := F)) $$ Hu with H
      imodintro
      iexact H)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ argsKept m c s)
    (hY := fun c s' => args_read m c s')
    (hQ := fun _ h hs => ⟨fun c => ⟨fun w => (h c).1 w, (h c).2.2.2⟩, sem_eq_zero hs fun c => (h c).2.2.1⟩)

end Cert.KernelIdeal.RingProof
-- ==== Proof.Eqn.lean ====
/-
  The result at the reals: a device's partial product of an element, every tile of the result as the sum of the eight
  devices' partial products, and that sum as the reference's two products.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout

@[expose] public section

set_option maxRecDepth 16384

noncomputable section

namespace Cert.KernelIdeal.RingProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-! ## Messages at the reals -/

/-- Matching to another shape and back changes nothing. -/
theorem cast_back {s t : Shape} (h : t.numel = s.numel) (h' : s.numel = t.numel) (x : t.Idx) :
    Shape.reshapeEquiv h' (Shape.reshapeEquiv h x) = x := (Shape.reshapeEquiv_reshapeEquiv h' h x).trans (Shape.reshapeEquiv_self _ x)

/-- A tile sent and read back is the tile. -/
theorem ofMsg_toMsg (t : Tile Ideal) : ofMsg (toMsg t) = t := by
  funext x
  show t (Shape.reshapeEquiv shapeCasts_S192x768_S192x768 (Shape.reshapeEquiv shapeCasts_S192x768_S1x192x768
    (Shape.reshapeEquiv shapeCasts_S1x192x768_S192x768 x))) = t x
  exact congrArg t ((Shape.reshapeEquiv_self _ _).trans (cast_back _ _ x))

/-- A tile sent and added to another is their sum. -/
theorem addMsg_toMsg (t u : Tile Ideal) (x : S192x768.Idx) : addMsg (toMsg t) u x = (u x + t x : EReal) := by
  show (u (Shape.reshapeEquiv shapeCasts_S192x768_S192x768 x)
    + t (Shape.reshapeEquiv shapeCasts_S192x768_S192x768 (Shape.reshapeEquiv shapeCasts_S192x768_S1x192x768
    (Shape.reshapeEquiv shapeCasts_S1x192x768_S192x768 x))) : EReal) = _
  exact congrArg₂ (fun a b : EReal => a + b) (congrArg u (Shape.reshapeEquiv_self _ x)) (congrArg t ((Shape.reshapeEquiv_self _ _).trans (cast_back _ _ x)))

/-! ## The operands at the reals -/

/-- The three argument arrays of a device. -/
def gx (c : Dev nD) : S1536x1536.Idx → EReal := m ((c : Thread nD τ).loc main_arg0)
def g1 (c : Dev nD) : S1536x3072.Idx → EReal := m ((c : Thread nD τ).loc main_arg1)
def g2 (c : Dev nD) : S3072x1536.Idx → EReal := m ((c : Thread nD τ).loc main_arg2)

theorem stripA_x (c : Dev nD) (i : Fin 3) : stripA m c ⟨6 + i.val, by omega⟩
    = fun x => gx m c ((xcolR i).emb ((Shape.reshapeEquiv squeezes_S1x1536x512_S1536x512.numel_eq).symm x)) := by
  fin_cases i <;> rfl
theorem stripA_w (c : Dev nD) (i : Fin 6) : stripA m c ⟨i.val, by omega⟩
    = fun x => g1 m c ((colR i).emb ((Shape.reshapeEquiv squeezes_S1x1536x512_S1536x512.numel_eq).symm x)) := by
  fin_cases i <;> rfl
theorem stripB_w (c : Dev nD) (i : Fin 6) : stripB m c i
    = fun x => g2 m c ((rowR i).emb ((Shape.reshapeEquiv squeezes_S1x512x1536_S512x1536.numel_eq).symm x)) := rfl

/-- A strip cast is the strip: the two casts of a shape undo each other. -/
theorem castA (f : S1536x512.Idx → EReal) (y : S1536x512.Idx) :
    (k0_pay1 (F := Ideal) fun x => f ((Shape.reshapeEquiv squeezes_S1x1536x512_S1536x512.numel_eq).symm x)) y = f y := by
  show f ((Shape.reshapeEquiv squeezes_S1x1536x512_S1536x512.numel_eq).symm (Shape.reshapeEquiv shapeCasts_S1x1536x512_S1536x512
    (Shape.reshapeEquiv shapeCasts_S1536x512_S1536x512 y))) = f y
  rw [Shape.reshapeEquiv_self, Shape.reshapeEquiv_symm, Shape.reshapeEquiv_reshapeEquiv, Shape.reshapeEquiv_self]
theorem castB (f : S512x1536.Idx → EReal) (y : S512x1536.Idx) :
    (k0_pay11 (F := Ideal) fun x => f ((Shape.reshapeEquiv squeezes_S1x512x1536_S512x1536.numel_eq).symm x)) y = f y := by
  show f ((Shape.reshapeEquiv squeezes_S1x512x1536_S512x1536.numel_eq).symm (Shape.reshapeEquiv shapeCasts_S1x512x1536_S512x1536
    (Shape.reshapeEquiv shapeCasts_S512x1536_S512x1536 y))) = f y
  rw [Shape.reshapeEquiv_self, Shape.reshapeEquiv_symm, Shape.reshapeEquiv_reshapeEquiv, Shape.reshapeEquiv_self]

/-- The cast operands are the arguments. -/
theorem xbV_eq (c : Dev nD) (x : S1536x1536.Idx) : xbV m c x = gx m c x := by
  unfold xbV xStrip
  rw [stripA_x, castA (fun y => gx m c ((xcolR _).emb y))]
  refine congrArg (gx m c) (funext fun a => Fin.ext ?_)
  match a with
  | ⟨0, _⟩ => show 0 + 1 * (x 0).val = (x 0).val; omega
  | ⟨1, _⟩ => show 512 * ((x 1).val / 512) + 1 * ((x 1).val % 512) = (x 1).val; omega
theorem w1V_eq (c : Dev nD) (x : S1536x3072.Idx) : w1V m c x = g1 m c x := by
  unfold w1V w1Strip
  rw [stripA_w, castA (fun y => g1 m c ((colR _).emb y))]
  refine congrArg (g1 m c) (funext fun a => Fin.ext ?_)
  match a with
  | ⟨0, _⟩ => show 0 + 1 * (x 0).val = (x 0).val; omega
  | ⟨1, _⟩ => show 512 * ((x 1).val / 512) + 1 * ((x 1).val % 512) = (x 1).val; omega
theorem w2V_eq (c : Dev nD) (x : S3072x1536.Idx) : w2V m c x = g2 m c x := by
  unfold w2V w2Strip
  rw [stripB_w, castB (fun y => g2 m c ((rowR _).emb y))]
  refine congrArg (g2 m c) (funext fun a => Fin.ext ?_)
  match a with
  | ⟨0, _⟩ => show 512 * ((x 0).val / 512) + 1 * ((x 0).val % 512) = (x 0).val; omega
  | ⟨1, _⟩ => show 0 + 1 * (x 1).val = (x 1).val; omega

/-! ## The products at the reals -/

theorem zero_const (s : Shape) (j : s.Idx) : (constant (F := Ideal) s .f32 0x00000000#32 j : EReal) = 0 := Ideal.ofBits_zero_f32

/-- The hidden block of a row block: the positive part of the product. -/
theorem hidden_apply (A : Vec Ideal S192x1536 .bf16) (B : Vec Ideal S1536x3072 .bf16) (r : Fin 192) (k : Fin 3072) :
    (k0_pay22 A B (ix2 r k) : EReal) = max (∑ l : Fin 1536, (A (ix2 r l) : EReal) * (B (ix2 l k) : EReal)) 0 := by
  have h := Ideal.matmul_plain_apply (M := 192) (K := 1536) (N := 3072) (φ₁ := .bf16) (φ₂ := .bf16) none A B
    (constant S192x3072 .f32 0x00000000#32) r k
  rw [zero_const, zero_add] at h
  exact congrArg₂ max h Ideal.ofBits_zero_f32

theorem hidden_same (A : Vec Ideal S192x1536 .bf16) (B : Vec Ideal S1536x3072 .bf16) : k0_pay10 A B = k0_pay22 A B :=
  funext fun x => congrArg (k0_pay22 A B) (Shape.reshapeEquiv_self _ x)

/-- The second product of a whole row block, and of half its columns. -/
theorem second_apply (A : Vec Ideal S192x3072 .bf16) (B : Vec Ideal S3072x1536 .bf16) (r : Fin 192) (n : Fin 1536) :
    (k0_pay19 A B (ix2 r n) : EReal) = ∑ k : Fin 3072, (A (ix2 r k) : EReal) * (B (ix2 k n) : EReal) := by
  have h := Ideal.matmul_plain_apply (M := 192) (K := 3072) (N := 1536) (φ₁ := .bf16) (φ₂ := .bf16) none A B
    (constant S192x1536 .f32 0x00000000#32) r n
  rw [zero_const, zero_add] at h
  exact h
theorem half_apply (A : Vec Ideal S192x3072 .bf16) (B : Vec Ideal S3072x768 .bf16) (r : Fin 192) (n : Fin 768) :
    ((matmul (φ₁ := .bf16) (φ₂ := .bf16) dot_S192x3072_S3072x768_S192x768_1_0_0_1_n_n none A B (constant S192x768 .f32 0x00000000#32) : FVec Ideal S192x768 .f32) (ix2 r n) : EReal)
      = ∑ k : Fin 3072, (A (ix2 r k) : EReal) * (B (ix2 k n) : EReal) := by
  have h := Ideal.matmul_plain_apply (M := 192) (K := 3072) (N := 768) (φ₁ := .bf16) (φ₂ := .bf16) none A B
    (constant S192x768 .f32 0x00000000#32) r n
  rw [zero_const, zero_add] at h
  exact h

/-- A device's partial product of an element of the result. -/
def pd (c : Dev nD) (y : S1536x1536.Idx) : EReal :=
  ∑ k : Fin 3072, max (∑ l : Fin 1536, gx m c (ix2 (y 0) l) * g1 m c (ix2 l k)) 0 * g2 m c (ix2 k (y 1))

/-- The hidden block in terms of the arguments: its row is a row of the result's tile. -/
theorem hid_eq (c : Dev nD) (k : Fin 8) (h : Bool) (r : Fin 192) (n : Fin 768) (j : Fin 3072) :
    (k0_pay22 (xr m c k) (w1V m c) (ix2 r j) : EReal)
      = max (∑ l : Fin 1536, gx m c (ix2 ((tileR c k h).emb (ix2 r n) 0) l) * g1 m c (ix2 l j)) 0 := by
  rw [hidden_apply]
  refine congrArg (fun z : EReal => max z 0) (Finset.sum_congr rfl fun l _ => ?_)
  refine congrArg₂ (fun a b : EReal => a * b) ?_ (w1V_eq m c _)
  unfold xr
  rw [xbV_eq]
  refine congrArg (gx m c) (funext fun a => Fin.ext ?_)
  match a with
  | ⟨0, _⟩ => rfl
  | ⟨1, _⟩ => show 0 + 1 * l.val = l.val; omega

/-- A column of half the second weight. -/
theorem w2h_eq (c : Dev nD) (k : Fin 8) (h : Bool) (r : Fin 192) (n : Fin 768) (j : Fin 3072) :
    (w2h m c h (ix2 j n) : EReal) = g2 m c (ix2 j ((tileR c k h).emb (ix2 r n) 1)) := by
  unfold w2h
  rw [w2V_eq]
  refine congrArg (g2 m c) (funext fun a => Fin.ext ?_)
  match a with
  | ⟨0, _⟩ => show 0 + 1 * j.val = j.val; omega
  | ⟨1, _⟩ => rfl

theorem dirV_eq (c : Dev nD) (k : Fin 8) (h : Bool) (x : S192x768.Idx) : dirV m c k h x = pd m c ((tileR c k h).emb x) := by
  obtain ⟨r, n, rfl⟩ : ∃ (r : Fin 192) (n : Fin 768), x = ix2 r n := ⟨x 0, x 1, eq_ix2 x⟩
  refine (half_apply _ _ _ _).trans (Finset.sum_congr rfl fun j _ => ?_)
  exact congrArg₂ (fun a b : EReal => a * b) (hid_eq m c k h r n j) (w2h_eq m c k h r n j)

theorem cacV_eq (c : Dev nD) (k : Fin 8) (h : Bool) (x : S192x768.Idx) : cacV m c k h x = pd m c ((tileR c k h).emb x) := by
  obtain ⟨r, n, rfl⟩ : ∃ (r : Fin 192) (n : Fin 768), x = ix2 r n := ⟨x 0, x 1, eq_ix2 x⟩
  refine (half_apply _ _ _ _).trans (Finset.sum_congr rfl fun j _ => ?_)
  refine congrArg₂ (fun a b : EReal => a * b) (Eq.trans ?_ (hid_eq m c k h r n j)) (w2h_eq m c k h r n j)
  exact congrArg (k0_pay22 (xr m c k) (w1V m c)) (cast_back shapeCasts_S1x192x3072_S192x3072 shapeCasts_S192x3072_S1x192x3072 (ix2 r j))

theorem rowV_eq (c : Dev nD) (k : Fin 8) : rowV m c k = k0_pay19 (k0_pay22 (xr m c k) (w1V m c)) (w2V m c) := by
  have h (j : Fin 8) : k0_pay19 (k0_pay10 (xr m c j) (w1V m c)) (w2V m c) = k0_pay19 (k0_pay22 (xr m c j) (w1V m c)) (w2V m c) := by
    rw [hidden_same]
  fin_cases k
  · exact h 0
  · exact h 1
  · exact h 2
  · exact h 3
  · rfl
  · exact h 5
  · exact h 6
  · exact h 7

theorem rowHalf_eq (c : Dev nD) (k : Fin 8) (h : Bool) (x : S192x768.Idx) : rowHalf m c k h x = pd m c ((tileR c k h).emb x) := by
  obtain ⟨r, n, rfl⟩ : ∃ (r : Fin 192) (n : Fin 768), x = ix2 r n := ⟨x 0, x 1, eq_ix2 x⟩
  unfold rowHalf
  rw [rowV_eq]
  have e : (halfR h).emb (ix2 r n) = ix2 (n0 := 192) (n1 := 1536) r ((halfR h).emb (ix2 r n) 1) := by
    funext a
    apply Fin.ext
    match a with
    | ⟨0, _⟩ => show 0 + 1 * r.val = r.val; omega
    | ⟨1, _⟩ => rfl
  refine (congrArg _ e).trans ((second_apply _ _ _ _).trans (Finset.sum_congr rfl fun j _ => ?_))
  exact congrArg₂ (fun a b : EReal => a * b) (hid_eq m c k h r n j) ((w2V_eq m c _).trans rfl)

/-- However a tile of the partial product is computed, it is the partial product. -/
theorem part_eq (c : Dev nD) (k : Fin 8) (h : Bool) (x : S192x768.Idx) : part m c k h x = pd m c ((tileR c k h).emb x) := by
  cases h
  · fin_cases k
    · exact rowHalf_eq m c 0 _ x
    · exact cacV_eq m c 1 _ x
    · exact cacV_eq m c 2 _ x
    · exact cacV_eq m c 3 _ x
    · exact rowHalf_eq m c 4 _ x
    · exact dirV_eq m c 5 _ x
    · exact dirV_eq m c 6 _ x
    · exact dirV_eq m c 7 _ x
  · fin_cases k
    · exact rowHalf_eq m c 0 _ x
    · exact dirV_eq m c 1 _ x
    · exact dirV_eq m c 2 _ x
    · exact dirV_eq m c 3 _ x
    · exact rowHalf_eq m c 4 _ x
    · exact cacV_eq m c 5 _ x
    · exact cacV_eq m c 6 _ x
    · exact cacV_eq m c 7 _ x

/-! ## The sums over the ring -/

/-- A tile's place depends only on the row block it is of. -/
theorem tile_congr {c c' : Dev nD} {k k' : Fin 8} (h : Bool) (e : (c.val + k.val) % 8 = (c'.val + k'.val) % 8) (x : S192x768.Idx) :
    (tileR c k h).emb x = (tileR c' k' h).emb x := by
  funext a
  apply Fin.ext
  match a with
  | ⟨0, _⟩ =>
    show 192 * ((c.val + k.val) % 8) + 1 * (x 0).val = 192 * ((c'.val + k'.val) % 8) + 1 * (x 0).val
    rw [e]
  | ⟨1, _⟩ => rfl

/-- The running sum after `j` steps adds up the partial products of the device and of the `j` before it. -/
theorem ca_eq (j : ℕ) : ∀ (_ : j ≤ 7) (c : Dev nD) (x : S192x768.Idx),
    ca m j c x = ∑ i ∈ Finset.range (j + 1), pd m (lft^[i] c) ((tileR c (Fin.ofNat 8 (8 - j)) false).emb x) := by
  induction j with
  | zero => intro _ c x; rw [Finset.sum_range_one]; exact part_eq m c 0 false x
  | succ j ih =>
    intro hj c x
    refine (addMsg_toMsg _ _ x).trans ?_
    rw [ih (by omega), part_eq, Finset.sum_range_succ' _ (j + 1), add_comm]
    have e : 8 - (j + 1) = 7 - j := by omega
    rw [e]
    refine congrArg₂ (fun a b : EReal => a + b) (Finset.sum_congr rfl fun i _ => ?_) rfl
    rw [Function.iterate_succ_apply]
    refine congrArg (pd m _) (tile_congr false ?_ x)
    show ((c.val + 7) % 8 + (8 - j) % 8) % 8 = (c.val + (7 - j) % 8) % 8
    omega
theorem cb_eq (j : ℕ) : ∀ (_ : j ≤ 7) (c : Dev nD) (x : S192x768.Idx),
    cb m j c x = ∑ i ∈ Finset.range (j + 1), pd m (rgt^[i] c) ((tileR c (Fin.ofNat 8 j) true).emb x) := by
  induction j with
  | zero => intro _ c x; rw [Finset.sum_range_one]; exact part_eq m c 0 true x
  | succ j ih =>
    intro hj c x
    refine (addMsg_toMsg _ _ x).trans ?_
    rw [ih (by omega), part_eq, Finset.sum_range_succ' _ (j + 1), add_comm]
    refine congrArg₂ (fun a b : EReal => a + b) (Finset.sum_congr rfl fun i _ => ?_) rfl
    rw [Function.iterate_succ_apply]
    refine congrArg (pd m _) (tile_congr true ?_ x)
    show ((c.val + 1) % 8 + j % 8) % 8 = (c.val + (j + 1) % 8) % 8
    omega

/-- An element of the result: the sum of the devices' partial products. -/
def tot (y : S1536x1536.Idx) : EReal := ∑ d : Dev nD, pd m d y

/-- Eight steps around the ring meet every device once. -/
theorem sum_round (f : Dev nD → EReal) (d : Dev nD → Dev nD) (c : Dev nD) (hb : Function.Bijective fun i : Fin 8 => d^[i.val] c) :
    ∑ i ∈ Finset.range 8, f (d^[i] c) = ∑ e : Dev nD, f e := by
  rw [Finset.sum_range]
  exact hb.sum_comp f
theorem lft_round (c : Dev nD) : Function.Bijective fun i : Fin 8 => lft^[i.val] c := by
  revert c; decide
theorem rgt_round (c : Dev nD) : Function.Bijective fun i : Fin 8 => rgt^[i.val] c := by
  revert c; decide

theorem ca_tot (c : Dev nD) (x : S192x768.Idx) : ca m 7 c x = tot m ((tileR c 1 false).emb x) :=
  (ca_eq m 7 le_rfl c x).trans (sum_round (fun d => pd m d _) lft c (lft_round c))
theorem cb_tot (c : Dev nD) (x : S192x768.Idx) : cb m 7 c x = tot m ((tileR c 7 true).emb x) :=
  (cb_eq m 7 le_rfl c x).trans (sum_round (fun d => pd m d _) rgt c (rgt_round c))

/-- A tile handed on is the tile. -/
theorem relay_eq (b : Dev nD → Tile Ideal) (d : Dev nD → Dev nD) (j : ℕ) : ∀ c : Dev nD, relay b d j c = b (d^[j] c) := by
  induction j with
  | zero => intro c; rfl
  | succ j ih => intro c; exact (ofMsg_toMsg _).trans (ih (d c))

theorem relay_ca (d : Dev nD → Dev nD) (j : ℕ) (c : Dev nD) (k : Fin 8) (x : S192x768.Idx)
    (e : ((d^[j] c).val + 1) % 8 = (c.val + k.val) % 8) : relay (ca m 7) d j c x = tot m ((tileR c k false).emb x) := by
  rw [relay_eq, ca_tot]
  exact congrArg (tot m) (tile_congr false e x)
theorem relay_cb (d : Dev nD → Dev nD) (j : ℕ) (c : Dev nD) (k : Fin 8) (x : S192x768.Idx)
    (e : ((d^[j] c).val + 7) % 8 = (c.val + k.val) % 8) : relay (cb m 7) d j c x = tot m ((tileR c k true).emb x) := by
  rw [relay_eq, cb_tot]
  exact congrArg (tot m) (tile_congr true e x)

/-- Every tile ends as the sum of the devices' partial products. -/
theorem tv2_eq (c : Dev nD) (k : Fin 8) (h : Bool) (x : S192x768.Idx) : tv2 m c k h x = tot m ((tileR c k h).emb x) := by
  cases h
  · fin_cases k
    · exact relay_ca m lft 1 c 0 x (by revert c; decide)
    · exact ca_tot m c x
    · exact relay_ca m rgt 1 c 2 x (by revert c; decide)
    · exact relay_ca m rgt 2 c 3 x (by revert c; decide)
    · exact relay_ca m rgt 3 c 4 x (by revert c; decide)
    · exact relay_ca m opp 1 c 5 x (by revert c; decide)
    · exact relay_ca m lft 3 c 6 x (by revert c; decide)
    · exact relay_ca m lft 2 c 7 x (by revert c; decide)
  · fin_cases k
    · exact relay_cb m rgt 1 c 0 x (by revert c; decide)
    · exact relay_cb m rgt 2 c 1 x (by revert c; decide)
    · exact relay_cb m rgt 3 c 2 x (by revert c; decide)
    · exact relay_cb m opp 1 c 3 x (by revert c; decide)
    · exact relay_cb m lft 3 c 4 x (by revert c; decide)
    · exact relay_cb m lft 2 c 5 x (by revert c; decide)
    · exact relay_cb m lft 1 c 6 x (by revert c; decide)
    · exact cb_tot m c x

/-- Every device's result is, element by element, the sum of the devices' partial products. -/
theorem outAt_eq (c : Dev nD) (y : S1536x1536.Idx) : outAt m c y = tot m y := by
  unfold outAt
  rw [tv2_eq, tile_emb]

/-! ## The result array -/

/-- The result array ends at what the body leaves in its window: the window's one block is the whole array. -/
theorem finalA_out (c : Dev nD) : finalA m c (0 : Fin 1) = outAt m c := by
  have ho : (win0_0.blk (0 : Fin 1)).view.read (Elt Ideal) (finalA m c (0 : Fin 1)) = outAt m c := by
    unfold finalA
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  have hr := fun f => Memref.read_access_unit_zero (Elt Ideal) main_v1 hz (fun a => by fin_cases a <;> decide) f
  rw [hr] at ho
  exact ho

/-! ## The reference -/

/-- The reference's result at an element: the two products with the positive part between them. -/
theorem ref_apply (X : FVec Ideal S1536x1536 .f32) (W : FVec Ideal ⟨2, ![1536, 24576]⟩ .f32) (V : FVec Ideal ⟨2, ![24576, 1536]⟩ .f32)
    (hb : (⟨0, ![]⟩ : Shape).BroadcastsInDim ⟨2, ![1536, 24576]⟩ (![] : Fin 0 → Fin 2)) (y : S1536x1536.Idx) :
    (Host.dotGeneral (DotDims.plain 1536 24576 1536) none (maximumf (Host.dotGeneral (DotDims.plain 1536 1536 24576) none X W)
        (broadcastInDim ⟨2, ![1536, 24576]⟩ ![] hb (constant ⟨0, ![]⟩ .f32 0x00000000#32))) V y : EReal)
      = ∑ k : Fin 24576, max (∑ l : Fin 1536, (X (ix2 (y 0) l) : EReal) * (W (ix2 l k) : EReal)) 0 * (V (ix2 k (y 1)) : EReal) := by
  rw [eq_ix2 y]
  refine (StackMember.dotGeneral_plain_apply none _ V (y 0) (y 1)).trans (Finset.sum_congr rfl fun k _ => ?_)
  refine congrArg (fun a : EReal => a * _) ?_
  exact congrArg₂ max (StackMember.dotGeneral_plain_apply none X W (y 0) k) Ideal.ofBits_zero_f32

/-- A sum over the hidden units is the sum over the devices of the sums over their blocks. -/
theorem sum_blocks (f : Fin 24576 → EReal) : ∑ k, f k = ∑ d : Fin 8, ∑ k : Fin 3072, f ⟨d.val * 3072 + k.val, by omega⟩ := by
  rw [← Fintype.sum_prod_type', ← Equiv.sum_comp (finProdFinEquiv (m := 8) (n := 3072)) f]
  refine Finset.sum_congr rfl fun p _ => congrArg f (Fin.ext ?_)
  show p.2.val + 3072 * p.1.val = p.1.val * 3072 + p.2.val
  omega

/-- Where every device holds `x` and its block of each weight, the sum of the partial products is the reference. -/
theorem tot_ref (X : S1536x1536.Idx → EReal) (W : (⟨2, ![1536, 24576]⟩ : Shape).Idx → EReal) (V : (⟨2, ![24576, 1536]⟩ : Shape).Idx → EReal)
    (h0 : ∀ c, gx m c = X) (h1 : ∀ c : Dev nD, g1 m c = Layout.block ⟨2, ![1536, 3072]⟩ ⟨2, ![1536, 24576]⟩ 1 8 c W)
    (h2 : ∀ c : Dev nD, g2 m c = Layout.block ⟨2, ![3072, 1536]⟩ ⟨2, ![24576, 1536]⟩ 0 8 c V) (y : S1536x1536.Idx) :
    tot m y = ∑ k : Fin 24576, max (∑ l : Fin 1536, X (ix2 (y 0) l) * W (ix2 l k)) 0 * V (ix2 k (y 1)) := by
  rw [sum_blocks]
  refine Finset.sum_congr rfl fun d _ => Finset.sum_congr rfl fun k _ => ?_
  rw [h0, h1, h2]
  refine congrArg₂ (fun a b : EReal => max a 0 * b) (Finset.sum_congr rfl fun l _ => ?_) ?_
  · refine congrArg (fun b : EReal => _ * b) (congrArg W (funext fun a => Fin.ext ?_))
    match a with
    | ⟨0, _⟩ => rfl
    | ⟨1, _⟩ => rfl
  · refine congrArg V (funext fun a => Fin.ext ?_)
    match a with
    | ⟨0, _⟩ => rfl
    | ⟨1, _⟩ => rfl

end Cert.KernelIdeal.RingProof
-- ==== Proof.lean ====
/- The certificate's claims, assembled: the runs of the two readings of the kernel and of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Eqn
public import Idealize.ShloMosaic.Adequacy
public import Idealize.ShloMosaic.Init

@[expose] public section

noncomputable section

namespace Cert.Proof

open Idealize.ShloMosaic Idealize.ShloMosaic.TcCoe Idealize.SL.Sem

/-- For any float values the kernel terminates, keeps its arguments, and leaves every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, Cert.KernelIdeal.RingProof.argsKept m c r.2) ∧ r.2.sem = fun _ => 0) :=
  (θ_run Cert.KernelIdeal.defs _ _).mono (fun _ h => ⟨fun c => (h.1 c).2, h.2⟩) (Cert.KernelIdeal.RingProof.run_main (F := F) m ρ)

/-- The kernel over the reals terminates, keeps its arguments, and leaves every counter at zero. -/
theorem frame_ideal : Cert.quiescent_KernelIdeal := fun m ρ _ => frame_any (F := Ideal) m ρ

/-- The two readings of the kernel have the same text: their tables of bodies are equal. -/
theorem defs₀_eq : (Cert.Kernel.defs₀ (F := Bits)) = (Cert.KernelIdeal.defs₀ (F := Bits)) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | ⟨0, _⟩, (t, s) => rfl
  | ⟨_ + 1, h⟩, _ => exact absurd h (Nat.not_lt.2 (Nat.le_add_left _ _))

/-- So are the tables with the call's region added. -/
theorem defs_eq : (Cert.Kernel.defs (F := Bits)) = (Cert.KernelIdeal.defs (F := Bits)) := by
  unfold Cert.Kernel.defs Cert.KernelIdeal.defs
  rw [defs₀_eq]
  rfl

/-- The kernel over bit patterns terminates, keeps its arguments, and leaves every counter at zero: its text is the same. -/
theorem frame_kernel : Cert.quiescent_Kernel := fun m ρ _ => by
  rw [defs_eq]
  exact frame_any (F := Bits) m ρ

/-- The reference terminates and keeps its arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the reals every device's result is the whole result of the reference: the kernel's result is the sum of the
    devices' partial products, and so is the reference's two products, block of hidden units by block. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨((h.1 c).1 (0 : Fin 1)).trans ?_, (h.1 c).2⟩)
    (Cert.KernelIdeal.RingProof.run_main (F := Ideal) m ρ)
  refine (Cert.KernelIdeal.RingProof.finalA_out m c).trans (funext fun y => ?_)
  rw [Cert.KernelIdeal.RingProof.outAt_eq, Cert.KernelIdeal.RingProof.tot_ref m _ _ _ (fun c => (hagree c).1) (fun c => (hagree c).2.1)
    (fun c => (hagree c).2.2) y]
  exact (Cert.KernelIdeal.RingProof.ref_apply _ _ _ _ y).symm

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
